-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bounded [hPre_bounded : Cert.Pre_bounded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bounded [hPre_bounded : Cert.Pre_bounded.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_bounded [hKernel5Ideal : Cert.Kernel5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bounded m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_bounded [hReference5Ideal : Cert.Reference5Ideal.Facts] [hPre_bounded : Cert.Pre_bounded.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bounded m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v34_2)) (v2 : (c : Dev Cert.KernelIdeal.nD) → Buf (Elt Ideal) ((c.tc : Thread Cert.KernelIdeal.nD Cert.KernelIdeal.τ).loc Cert.KernelIdeal.main_v34_3)) (v3 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v34_2) = v1 c
          ∧ r.2.mem ((c.tc : Thread Cert.KernelIdeal.nD Cert.KernelIdeal.τ).loc Cert.KernelIdeal.main_v34_3) = v2 c
          ∧ r.2.mem ((c.tc : Thread Cert.KernelIdeal.nD Cert.KernelIdeal.τ).loc Cert.KernelIdeal.main_v51) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_bounded [hKernel5Ideal : Cert.Kernel5Ideal.Facts] [hReference5Ideal : Cert.Reference5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bounded m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)) (v5 : (c : Dev Cert.Kernel5Ideal.nD) → Buf (Elt Ideal) ((c.tc : Thread Cert.Kernel5Ideal.nD Cert.Kernel5Ideal.τ).loc Cert.Kernel5Ideal.main_v19_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_v19_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_v63) = v2 c
          ∧ r.2.mem ((c.tc : Thread Cert.Reference5Ideal.nD Cert.Reference5Ideal.τ).loc Cert.Reference5Ideal.main_v64) = v3 c
          ∧ r.2.mem ((c.tc : Thread Cert.Reference5Ideal.nD Cert.Reference5Ideal.τ).loc Cert.Reference5Ideal.main_v67) = v4 c
          ∧ r.2.mem ((c.tc : Thread Cert.Reference5Ideal.nD Cert.Reference5Ideal.τ).loc Cert.Reference5Ideal.main_v68) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bounded (hKernel5Ideal := hKernel5Ideal) (hPre_bounded := hPre_bounded)
    ∧ quiescent_Reference5Ideal (hReference5Ideal := hReference5Ideal)
    ∧ quiescent_Reference5Ideal_pre_bounded (hReference5Ideal := hReference5Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bounded (hKernel5Ideal := hKernel5Ideal) (hReference5Ideal := hReference5Ideal) (hPre_bounded := hPre_bounded)
-- ==== Pre_bounded.lean ====
abbrev S8192x1024 : Shape := ⟨2, ![8192, 1024]⟩
abbrev S1024 : Shape := ⟨1, ![1024]⟩
abbrev S4x1024x1408 : Shape := ⟨3, ![4, 1024, 1408]⟩
abbrev S4x704x1024 : Shape := ⟨3, ![4, 704, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S4x1024x1408 : S_.BroadcastsInDim S4x1024x1408 (![] : Fin 0 → Fin S4x1024x1408.rank)
  bcast_S_S4x704x1024 : S_.BroadcastsInDim S4x704x1024 (![] : Fin 0 → Fin S4x704x1024.rank)

variable [Facts]

def fn {F : FTy → Type} [FloatOps F] (main_arg0 : FVec F S8192x1024 .f32) (main_arg1 : FVec F S8192x1024 .f32) (main_arg2 : FVec F S1024 .f32) (main_arg3 : FVec F S4x1024x1408 .bf16) (main_arg4 : FVec F S4x704x1024 .bf16) : IVec S8192x1024 1 × IVec S1024 1 × IVec S4x1024x1408 1 × IVec S4x704x1024 1 :=
  let main_v0 : FVec F S4x1024x1408 .f32 := (extf .f32 · bitsLt_bf16_f32) main_arg3
  let main_v1 : FVec F S4x704x1024 .f32 := (extf .f32 · bitsLt_bf16_f32) main_arg4
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S4x1024x1408 .f32 := Host.absf main_v0
  let main_cst_1 : FVec F S_ .f32 := constant S_ .f32 0x7F800000#32
  let main_v9 : FVec F S4x1024x1408 .f32 := broadcastInDim S4x1024x1408 ![] bcast_S_S4x1024x1408 main_cst_1
  let main_v10 : IVec S4x1024x1408 1 := cmpf .olt main_v8 main_v9
  let main_v11 : FVec F S4x704x1024 .f32 := Host.absf main_v1
  let main_cst_2 : FVec F S_ .f32 := constant S_ .f32 0x7F800000#32
  let main_v12 : FVec F S4x704x1024 .f32 := broadcastInDim S4x704x1024 ![] bcast_S_S4x704x1024 main_cst_2
  let main_v13 : IVec S4x704x1024 1 := cmpf .olt main_v11 main_v12
  (main_v4, main_v7, main_v10, main_v13)
-- ==== Pre_finite.lean ====
abbrev S8192x512 : Shape := ⟨2, ![8192, 512]⟩
abbrev S2x8x4096 : Shape := ⟨3, ![2, 8, 4096]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S2x8x4096 : S_.BroadcastsInDim S2x8x4096 (![] : Fin 0 → Fin S2x8x4096.rank)

variable [Facts]

def fn {F : FTy → Type} [FloatOps F] (main_arg0 : FVec F S8192x512 .bf16) (main_arg1 : FVec F S8192x512 .bf16) (main_arg2 : FVec F S8192x512 .bf16) (main_arg3 : FVec F S2x8x4096 .f32) (main_arg4 : FVec F S8192x512 .bf16) : IVec S8192x512 1 × IVec S8192x512 1 × IVec S8192x512 1 × IVec S2x8x4096 1 × IVec S8192x512 1 :=
  let main_v0 : FVec F S8192x512 .f32 := (extf .f32 · bitsLt_bf16_f32) main_arg0
  let main_v1 : FVec F S8192x512 .f32 := (extf .f32 · bitsLt_bf16_f32) main_arg1
  let main_v2 : FVec F S8192x512 .f32 := (extf .f32 · bitsLt_bf16_f32) main_arg2
  let main_v3 : FVec F S8192x512 .f32 := (extf .f32 · bitsLt_bf16_f32) main_arg4
  let main_v4 : FVec F S8192x512 .f32 := Host.absf main_v0
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_v7 : FVec F S8192x512 .f32 := Host.absf main_v1
  let main_cst_0 : FVec F S_ .f32 := constant S_ .f32 0x7F800000#32
  let main_v8 : FVec F S8192x512 .f32 := broadcastInDim S8192x512 ![] bcast_S_S8192x512 main_cst_0
  let main_v9 : IVec S8192x512 1 := cmpf .olt main_v7 main_v8
  let main_v10 : FVec F S8192x512 .f32 := Host.absf main_v2
  let main_cst_1 : FVec F S_ .f32 := constant S_ .f32 0x7F800000#32
  let main_v11 : FVec F S8192x512 .f32 := broadcastInDim S8192x512 ![] bcast_S_S8192x512 main_cst_1
  let main_v12 : IVec S8192x512 1 := cmpf .olt main_v10 main_v11
  let main_v13 : FVec F S2x8x4096 .f32 := Host.absf main_arg3
  let main_cst_2 : FVec F S_ .f32 := constant S_ .f32 0x7F800000#32
  let main_v14 : FVec F S2x8x4096 .f32 := broadcastInDim S2x8x4096 ![] bcast_S_S2x8x4096 main_cst_2
  let main_v15 : IVec S2x8x4096 1 := cmpf .olt main_v13 main_v14
  let main_v16 : FVec F S8192x512 .f32 := Host.absf main_v3
  let main_cst_3 : FVec F S_ .f32 := constant S_ .f32 0x7F800000#32
  let main_v17 : FVec F S8192x512 .f32 := broadcastInDim S8192x512 ![] bcast_S_S8192x512 main_cst_3
  let main_v18 : IVec S8192x512 1 := cmpf .olt main_v16 main_v17
  (main_v6, main_v9, main_v12, main_v15, main_v18)
-- ==== Kernel.lean ====
abbrev S8192x512 : Shape := ⟨2, ![8192, 512]⟩
abbrev S2x8x4096 : Shape := ⟨3, ![2, 8, 4096]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S2x8x1x4096 : Shape := ⟨4, ![2, 8, 1, 4096]⟩
abbrev S4096x4096 : Shape := ⟨2, ![4096, 4096]⟩
abbrev S_ : Shape := ⟨0, ![]⟩
abbrev S2x8x4096x1 : Shape := ⟨4, ![2, 8, 4096, 1]⟩
abbrev S8x2x4096x1 : Shape := ⟨4, ![8, 2, 4096, 1]⟩
abbrev S8x2x1x4096 : Shape := ⟨4, ![8, 2, 1, 4096]⟩
abbrev S4096x128 : Shape := ⟨2, ![4096, 128]⟩
abbrev S1024x128 : Shape := ⟨2, ![1024, 128]⟩
abbrev S1x2x4096x1 : Shape := ⟨4, ![1, 2, 4096, 1]⟩
abbrev S1x2x1x1024 : Shape := ⟨4, ![1, 2, 1, 1024]⟩
abbrev S2x1024x128 : Shape := ⟨3, ![2, 1024, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S1x1x512x1 : Shape := ⟨4, ![1, 1, 512, 1]⟩
abbrev S1x512x128 : Shape := ⟨3, ![1, 512, 128]⟩
abbrev S512x1024 : Shape := ⟨2, ![512, 1024]⟩
abbrev S1x1x1x1024 : Shape := ⟨4, ![1, 1, 1, 1024]⟩
abbrev S1x1024 : Shape := ⟨2, ![1, 1024]⟩
abbrev S1x1024x128 : Shape := ⟨3, ![1, 1024, 128]⟩
abbrev S1024 : Shape := ⟨1, ![1024]⟩
abbrev S1024x1 : Shape := ⟨2, ![1024, 1]⟩
abbrev S1024x1024 : Shape := ⟨2, ![1024, 1024]⟩
abbrev S1x1x1024x1 : Shape := ⟨4, ![1, 1, 1024, 1]⟩
abbrev S2x4096x4x2x64 : Shape := ⟨5, ![2, 4096, 4, 2, 64]⟩
abbrev S2x4096x4x1x1 : Shape := ⟨5, ![2, 4096, 4, 1, 1]⟩
abbrev S2x4096x4x1 : Shape := ⟨4, ![2, 4096, 4, 1]⟩
abbrev S2x4096x4x2 : Shape := ⟨4, ![2, 4096, 4, 2]⟩
abbrev S2x4096x8 : Shape := ⟨3, ![2, 4096, 8]⟩

abbrev nBuf : Space → Nat
  | .hbm => 68
  | .vmem => 26
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S2x8x4096, .f32⟩
  | .hbm, ⟨4, _⟩ => ⟨S8192x512, .bf16⟩
  | .hbm, ⟨5, _⟩ => ⟨S8192x512, .f32⟩
  | .hbm, ⟨6, _⟩ => ⟨S2x4096x8x64, .f32⟩
  | .hbm, ⟨7, _⟩ => ⟨S2x8x4096x64, .f32⟩
  | .hbm, ⟨8, _⟩ => ⟨S8192x512, .f32⟩
  | .hbm, ⟨9, _⟩ => ⟨S2x4096x8x64, .f32⟩
  | .hbm, ⟨10, _⟩ => ⟨S2x8x4096x64, .f32⟩
  | .hbm, ⟨11, _⟩ => ⟨S8192x512, .f32⟩
  | .hbm, ⟨12, _⟩ => ⟨S2x4096x8x64, .f32⟩
  | .hbm, ⟨13, _⟩ => ⟨S2x8x4096x64, .f32⟩
  | .hbm, ⟨14, _⟩ => ⟨S2x8x4096x4096, .f32⟩
  | .hbm, ⟨15, _⟩ => ⟨S2x8x1x4096, .f32⟩
  | .hbm, ⟨16, _⟩ => ⟨S2x8x4096x4096, .f32⟩
  | .hbm, ⟨17, _⟩ => ⟨S2x8x4096x4096, .f32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S2x8x4096x4096, .i1⟩
  | .hbm, ⟨24, _⟩ => ⟨S2x8x4096x4096, .f32⟩
  | .hbm, ⟨25, _⟩ => ⟨S2x8x4096x4096, .f32⟩
  | .hbm, ⟨26, _⟩ => ⟨S_, .f32⟩
  | .hbm, ⟨27, _⟩ => ⟨S2x8x4096, .f32⟩
  | .hbm, ⟨28, _⟩ => ⟨S2x8x4096x1, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S2x8x4096, .f32⟩
  | .hbm, ⟨34, _⟩ => ⟨S2x8x4096x1, .f32⟩
  | .hbm, ⟨35, _⟩ => ⟨S2x8x4096x4096, .f32⟩
  | .hbm, ⟨36, _⟩ => ⟨S2x8x4096x4096, .f32⟩
  | .hbm, ⟨37, _⟩ => ⟨S2x8x4096x64, .f32⟩
  | .hbm, ⟨38, _⟩ => ⟨S2x4096x8x64, .f32⟩
  | .hbm, ⟨39, _⟩ => ⟨S8192x512, .f32⟩
  | .hbm, ⟨40, _⟩ => ⟨S8192x512, .bf16⟩
  | .hbm, ⟨41, _⟩ => ⟨S2x8x4096x1, .f32⟩
  | .hbm, ⟨42, _⟩ => ⟨S2x8x4096x1, .f32⟩
  | .hbm, ⟨43, _⟩ => ⟨S8x2x4096x1, .f32⟩
  | .hbm, ⟨44, _⟩ => ⟨S8x2x1x4096, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S2x4096x4x2x64, .f32⟩
  | .hbm, ⟨51, _⟩ => ⟨S2x4096x4x2x64, .f32⟩
  | .hbm, ⟨52, _⟩ => ⟨S2x4096x4x2x64, .f32⟩
  | .hbm, ⟨53, _⟩ => ⟨S2x4096x4x2x64, .i32⟩
  | .hbm, ⟨54, _⟩ => ⟨S_, .i32⟩
  | .hbm, ⟨55, _⟩ => ⟨S2x4096x4x2x64, .i32⟩
  | .hbm, ⟨56, _⟩ => ⟨S2x4096x4x2x64, .i1⟩
  | .hbm, ⟨57, _⟩ => ⟨S2x4096x4x2x64, .f32⟩
  | .hbm, ⟨58, _⟩ => ⟨S8192x512, .f32⟩
  | .hbm, ⟨59, _⟩ => ⟨S2x4096x4x2x64, .f32⟩
  | .hbm, ⟨60, _⟩ => ⟨S2x4096x4x2x64, .f32⟩
  | .hbm, ⟨61, _⟩ => ⟨S2x4096x4x1x1, .f32⟩
  | .hbm, ⟨62, _⟩ => ⟨S2x4096x4x1, .f32⟩
  | .hbm, ⟨63, _⟩ => ⟨S2x4096x4x1x1, .f32⟩
  | .hbm, ⟨64, _⟩ => ⟨S2x4096x4x1, .f32⟩
  | .hbm, ⟨65, _⟩ => ⟨S2x4096x4x2, .f32⟩
  | .hbm, ⟨66, _⟩ => ⟨S2x4096x8, .f32⟩
  | .hbm, ⟨67, _⟩ => ⟨S2x8x4096, .f32⟩
  | .local _ .vmem, ⟨0, _⟩ => ⟨S4096x128, .bf16⟩
  | .local _ .vmem, ⟨1, _⟩ => ⟨S4096x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x2x4096x1, .f32⟩
  | .local _ .vmem, ⟨11, _⟩ => ⟨S1x2x4096x1, .f32⟩
  | .local _ .vmem, ⟨12, _⟩ => ⟨S1x2x1x1024, .f32⟩
  | .local _ .vmem, ⟨13, _⟩ => ⟨S1x2x1x1024, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S2x1024x128, .f32⟩
  | .local _ .vmem, ⟨25, _⟩ => ⟨S1024x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_v34_3 : Ref sig .tc := ⟨.hbm, 48, rfl⟩
abbrev main_v34_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c1024_i32 : BitVec 32 := 1024#32
  let v14 : BitVec 32 := Scalar.muli arg2 c1024_i32
  v14
def k0_off1 (i : grid0.Coords) (c0_i32_10 : BitVec 32) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v16 : BitVec 32 := Scalar.addi v15 c0_i32_10
  let v17 : Index := Scalar.indexCast v16
  let c0_11 : Index := 0#32
  ![v17.toNat, 0]
def k0_off2 (i : grid0.Coords) (c0_i32_10 : BitVec 32) : Fin 4 → Nat :=
  let c0_25 : Index := 0#32
  let c0_26 : Index := 0#32
  let arg2 : BitVec 32 := BitVec.ofNat 32 (i 2).val
  let c1024_i32 : BitVec 32 := 1024#32
  let v14 : BitVec 32 := Scalar.muli arg2 c1024_i32
  let v15 : BitVec 32 := v14
  let v16 : BitVec 32 := Scalar.addi v15 c0_i32_10
  let v54 : Index := Scalar.indexCast v16
  let c0_27 : Index := 0#32
  ![0, 0, v54.toNat, 0]
def k0_off3 (i : grid0.Coords) (c0_i32_10 : BitVec 32) : Fin 4 → Nat :=
  let c0_56 : Index := 0#32
  let c1_57 : Index := 1#32
  let arg2 : BitVec 32 := BitVec.ofNat 32 (i 2).val
  let c1024_i32 : BitVec 32 := 1024#32
  let v14 : BitVec 32 := Scalar.muli arg2 c1024_i32
  let v15 : BitVec 32 := v14
  let v16 : BitVec 32 := Scalar.addi v15 c0_i32_10
  let v108 : Index := Scalar.indexCast v16
  let c0_58 : Index := 0#32
  ![0, 1, v108.toNat, 0]
def k0_mult2 (i : grid0.Coords) : BitVec 32 :=
  let arg2 : BitVec 32 := BitVec.ofNat 32 (i 2).val
  let c1024_i32_77 : BitVec 32 := 1024#32
  let v144 : BitVec 32 := Scalar.muli arg2 c1024_i32_77
  v144
@[reducible] def k0_t1_loop (i : grid0.Coords) : Scf.Loop 32 :=
  let arg2 : BitVec 32 := BitVec.ofNat 32 (i 2).val
  let c1_i32 : BitVec 32 := 1#32
  let v271 : BitVec 32 := Scalar.addi arg2 c1_i32
  let c4_i32 : BitVec 32 := 4#32
  let v272 : BitVec 32 := Scalar.subi c4_i32 v271
  let c1_i32_147 : BitVec 32 := 1#32
  let v274 : BitVec 32 := Scalar.divsi v272 c1_i32_147
  let v275 : BitVec 32 := Scalar.muli v274 c1_i32_147
  let v276 : BitVec 32 := Scalar.addi v271 v275
  let c1_i32_148 : BitVec 32 := 1#32
  ⟨v271, v276, c1_i32_148⟩
def k0_mult3 (i : grid0.Coords) (k0_t1 : Fin (k0_t1_loop i).trips) : BitVec 32 :=
  let arg2 : BitVec 32 := BitVec.ofNat 32 (i 2).val
  let c1_i32 : BitVec 32 := 1#32
  let v271 : BitVec 32 := Scalar.addi arg2 c1_i32
  let c1_i32_148 : BitVec 32 := 1#32
  let arg17 : BitVec 32 := Scf.iv v271 c1_i32_148 k0_t1
  let c1024_i32_172 : BitVec 32 := 1024#32
  let v295 : BitVec 32 := Scalar.muli arg17 c1024_i32_172
  v295
def k0_off4 (i : grid0.Coords) (k0_t1 : Fin (k0_t1_loop i).trips) : Fin 2 → Nat :=
  let arg2 : BitVec 32 := BitVec.ofNat 32 (i 2).val
  let c1_i32 : BitVec 32 := 1#32
  let v271 : BitVec 32 := Scalar.addi arg2 c1_i32
  let c1_i32_148 : BitVec 32 := 1#32
  let arg17 : BitVec 32 := Scf.iv v271 c1_i32_148 k0_t1
  let c1024_i32_172 : BitVec 32 := 1024#32
  let v295 : BitVec 32 := Scalar.muli arg17 c1024_i32_172
  let v296 : BitVec 32 := v295
  let c0_i32_173 : BitVec 32 := 0#32
  let v297 : BitVec 32 := Scalar.addi v296 c0_i32_173
  let v298 : Index := Scalar.indexCast v297
  let c0_174 : Index := 0#32
  ![v298.toNat, 0]
def k0_off5 (i : grid0.Coords) (k0_t1 : Fin (k0_t1_loop i).trips) : Fin 4 → Nat :=
  let c0_187 : Index := 0#32
  let c0_188 : Index := 0#32
  let arg2 : BitVec 32 := BitVec.ofNat 32 (i 2).val
  let c1_i32 : BitVec 32 := 1#32
  let v271 : BitVec 32 := Scalar.addi arg2 c1_i32
  let c1_i32_148 : BitVec 32 := 1#32
  let arg17 : BitVec 32 := Scf.iv v271 c1_i32_148 k0_t1
  let c1024_i32_172 : BitVec 32 := 1024#32
  let v295 : BitVec 32 := Scalar.muli arg17 c1024_i32_172
  let v296 : BitVec 32 := v295
  let c0_i32_173 : BitVec 32 := 0#32
  let v297 : BitVec 32 := Scalar.addi v296 c0_i32_173
  let v324 : Index := Scalar.indexCast v297
  let c0_189 : Index := 0#32
  ![0, 0, v324.toNat, 0]
def k0_off6 (i : grid0.Coords) (k0_t1 : Fin (k0_t1_loop i).trips) : Fin 4 → Nat :=
  let c0_218 : Index := 0#32
  let c1_219 : Index := 1#32
  let arg2 : BitVec 32 := BitVec.ofNat 32 (i 2).val
  let c1_i32 : BitVec 32 := 1#32
  let v271 : BitVec 32 := Scalar.addi arg2 c1_i32
  let c1_i32_148 : BitVec 32 := 1#32
  let arg17 : BitVec 32 := Scf.iv v271 c1_i32_148 k0_t1
  let c1024_i32_172 : BitVec 32 := 1024#32
  let v295 : BitVec 32 := Scalar.muli arg17 c1024_i32_172
  let v296 : BitVec 32 := v295
  let c0_i32_173 : BitVec 32 := 0#32
  let v297 : BitVec 32 := Scalar.addi v296 c0_i32_173
  let v376 : Index := Scalar.indexCast v297
  let c0_220 : Index := 0#32
  ![0, 1, v376.toNat, 0]
@[reducible] def k0_t2_loop (i : grid0.Coords) : Scf.Loop 32 :=
  let arg2 : BitVec 32 := BitVec.ofNat 32 (i 2).val
  let c1_i32 : BitVec 32 := 1#32
  let v271 : BitVec 32 := Scalar.addi arg2 c1_i32
  let c4_i32 : BitVec 32 := 4#32
  let v272 : BitVec 32 := Scalar.subi c4_i32 v271
  let c1_i32_147 : BitVec 32 := 1#32
  let v274 : BitVec 32 := Scalar.divsi v272 c1_i32_147
  let v275 : BitVec 32 := Scalar.muli v274 c1_i32_147
  let v276 : BitVec 32 := Scalar.addi v271 v275
  let v273 : BitVec 32 := Scalar.addi v271 v272
  let c1_i32_149 : BitVec 32 := 1#32
  ⟨v276, v273, c1_i32_149⟩
def k0_mult4 (i : grid0.Coords) (k0_t2 : Fin (k0_t2_loop i).trips) : BitVec 32 :=
  let arg2 : BitVec 32 := BitVec.ofNat 32 (i 2).val
  let c1_i32 : BitVec 32 := 1#32
  let v271 : BitVec 32 := Scalar.addi arg2 c1_i32
  let c4_i32 : BitVec 32 := 4#32
  let v272 : BitVec 32 := Scalar.subi c4_i32 v271
  let c1_i32_147 : BitVec 32 := 1#32
  let v274 : BitVec 32 := Scalar.divsi v272 c1_i32_147
  let v275 : BitVec 32 := Scalar.muli v274 c1_i32_147
  let v276 : BitVec 32 := Scalar.addi v271 v275
  let c1_i32_149 : BitVec 32 := 1#32
  let arg17 : BitVec 32 := Scf.iv v276 c1_i32_149 k0_t2
  let c1024_i32_172 : BitVec 32 := 1024#32
  let v295 : BitVec 32 := Scalar.muli arg17 c1024_i32_172
  v295
def k0_off7 (i : grid0.Coords) (k0_t2 : Fin (k0_t2_loop i).trips) : Fin 2 → Nat :=
  let arg2 : BitVec 32 := BitVec.ofNat 32 (i 2).val
  let c1_i32 : BitVec 32 := 1#32
  let v271 : BitVec 32 := Scalar.addi arg2 c1_i32
  let c4_i32 : BitVec 32 := 4#32
  let v272 : BitVec 32 := Scalar.subi c4_i32 v271
  let c1_i32_147 : BitVec 32 := 1#32
  let v274 : BitVec 32 := Scalar.divsi v272 c1_i32_147
  let v275 : BitVec 32 := Scalar.muli v274 c1_i32_147
  let v276 : BitVec 32 := Scalar.addi v271 v275
  let c1_i32_149 : BitVec 32 := 1#32
  let arg17 : BitVec 32 := Scf.iv v276 c1_i32_149 k0_t2
  let c1024_i32_172 : BitVec 32 := 1024#32
  let v295 : BitVec 32 := Scalar.muli arg17 c1024_i32_172
  let v296 : BitVec 32 := v295
  let c0_i32_173 : BitVec 32 := 0#32
  let v297 : BitVec 32 := Scalar.addi v296 c0_i32_173
  let v298 : Index := Scalar.indexCast v297
  let c0_174 : Index := 0#32
  ![v298.toNat, 0]
def k0_off8 (i : grid0.Coords) (k0_t2 : Fin (k0_t2_loop i).trips) : Fin 4 → Nat :=
  let c0_187 : Index := 0#32
  let c0_188 : Index := 0#32
  let arg2 : BitVec 32 := BitVec.ofNat 32 (i 2).val
  let c1_i32 : BitVec 32 := 1#32
  let v271 : BitVec 32 := Scalar.addi arg2 c1_i32
  let c4_i32 : BitVec 32 := 4#32
  let v272 : BitVec 32 := Scalar.subi c4_i32 v271
  let c1_i32_147 : BitVec 32 := 1#32
  let v274 : BitVec 32 := Scalar.divsi v272 c1_i32_147
  let v275 : BitVec 32 := Scalar.muli v274 c1_i32_147
  let v276 : BitVec 32 := Scalar.addi v271 v275
  let c1_i32_149 : BitVec 32 := 1#32
  let arg17 : BitVec 32 := Scf.iv v276 c1_i32_149 k0_t2
  let c1024_i32_172 : BitVec 32 := 1024#32
  let v295 : BitVec 32 := Scalar.muli arg17 c1024_i32_172
  let v296 : BitVec 32 := v295
  let c0_i32_173 : BitVec 32 := 0#32
  let v297 : BitVec 32 := Scalar.addi v296 c0_i32_173
  let v324 : Index := Scalar.indexCast v297
  let c0_189 : Index := 0#32
  ![0, 0, v324.toNat, 0]
def k0_off9 (i : grid0.Coords) (k0_t2 : Fin (k0_t2_loop i).trips) : Fin 4 → Nat :=
  let c0_218 : Index := 0#32
  let c1_219 : Index := 1#32
  let arg2 : BitVec 32 := BitVec.ofNat 32 (i 2).val
  let c1_i32 : BitVec 32 := 1#32
  let v271 : BitVec 32 := Scalar.addi arg2 c1_i32
  let c4_i32 : BitVec 32 := 4#32
  let v272 : BitVec 32 := Scalar.subi c4_i32 v271
  let c1_i32_147 : BitVec 32 := 1#32
  let v274 : BitVec 32 := Scalar.divsi v272 c1_i32_147
  let v275 : BitVec 32 := Scalar.muli v274 c1_i32_147
  let v276 : BitVec 32 := Scalar.addi v271 v275
  let c1_i32_149 : BitVec 32 := 1#32
  let arg17 : BitVec 32 := Scf.iv v276 c1_i32_149 k0_t2
  let c1024_i32_172 : BitVec 32 := 1024#32
  let v295 : BitVec 32 := Scalar.muli arg17 c1024_i32_172
  let v296 : BitVec 32 := v295
  let c0_i32_173 : BitVec 32 := 0#32
  let v297 : BitVec 32 := Scalar.addi v296 c0_i32_173
  let v376 : Index := Scalar.indexCast v297
  let c0_220 : Index := 0#32
  ![0, 1, v376.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S2x8x4096 : Shape := ⟨3, ![2, 8, 4096]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S2x8x4096x1 : Shape := ⟨4, ![2, 8, 4096, 1]⟩
abbrev S2x8x1x4096 : Shape := ⟨4, ![2, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x8x64x4096 : Shape := ⟨4, ![2, 8, 64, 4096]⟩

abbrev nBuf : Space → Nat
  | .hbm => 119
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S2x8x4096, .f32⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S2x4096x8x64, .f32⟩
  | .hbm, ⟨10, _⟩ => ⟨S2x8x4096x64, .f32⟩
  | .hbm, ⟨11, _⟩ => ⟨S2x4096x8x64, .f32⟩
  | .hbm, ⟨12, _⟩ => ⟨S2x8x4096x64, .f32⟩
  | .hbm, ⟨13, _⟩ => ⟨S2x4096x8x64, .f32⟩
  | .hbm, ⟨14, _⟩ => ⟨S2x8x4096x64, .f32⟩
  | .hbm, ⟨15, _⟩ => ⟨S2x8x4096x4096, .f32⟩
  | .hbm, ⟨16, _⟩ => ⟨S2x8x4096x1, .f32⟩
  | .hbm, ⟨17, _⟩ => ⟨S2x8x4096x4096, .f32⟩
  | .hbm, ⟨18, _⟩ => ⟨S2x8x4096x4096, .f32⟩
  | .hbm, ⟨19, _⟩ => ⟨S2x8x1x4096, .f32⟩
  | .hbm, ⟨20, _⟩ => ⟨S2x8x4096x4096, .f32⟩
  | .hbm, ⟨21, _⟩ => ⟨S2x8x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S2x8x4096x4096, .i1⟩
  | .hbm, ⟨32, _⟩ => ⟨S2x8x4096x4096, .f32⟩
  | .hbm, ⟨33, _⟩ => ⟨S2x8x4096x4096, .f32⟩
  | .hbm, ⟨34, _⟩ => ⟨S_, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x4096, .f32⟩
  | .hbm, ⟨40, _⟩ => ⟨S2x8x4096x4096, .i1⟩
  | .hbm, ⟨41, _⟩ => ⟨S2x8x4096x4096, .f32⟩
  | .hbm, ⟨42, _⟩ => ⟨S_, .f32⟩
  | .hbm, ⟨43, _⟩ => ⟨S2x8x4096, .f32⟩
  | .hbm, ⟨44, _⟩ => ⟨S_, .f32⟩
  | .hbm, ⟨45, _⟩ => ⟨S2x8x4096, .f32⟩
  | .hbm, ⟨46, _⟩ => ⟨S2x8x4096, .f32⟩
  | .hbm, ⟨47, _⟩ => ⟨S_, .f32⟩
  | .hbm, ⟨48, _⟩ => ⟨S2x8x4096, .f32⟩
  | .hbm, ⟨49, _⟩ => ⟨S2x8x4096, .i1⟩
  | .hbm, ⟨50, _⟩ => ⟨S_, .f32⟩
  | .hbm, ⟨51, _⟩ => ⟨S2x8x4096, .f32⟩
  | .hbm, ⟨52, _⟩ => ⟨S2x8x4096, .i1⟩
  | .hbm, ⟨53, _⟩ => ⟨S_, .f32⟩
  | .hbm, ⟨54, _⟩ => ⟨S2x8x4096, .f32⟩
  | .hbm, ⟨55, _⟩ => ⟨S_, .f32⟩
  | .hbm, ⟨56, _⟩ => ⟨S2x8x4096, .f32⟩
  | .hbm, ⟨57, _⟩ => ⟨S_, .f32⟩
  | .hbm, ⟨58, _⟩ => ⟨S2x8x4096, .f32⟩
  | .hbm, ⟨59, _⟩ => ⟨S2x8x4096, .f32⟩
  | .hbm, ⟨60, _⟩ => ⟨S2x8x4096, .f32⟩
  | .hbm, ⟨61, _⟩ => ⟨S2x8x4096x1, .f32⟩
  | .hbm, ⟨62, _⟩ => ⟨S2x8x4096x4096, .f32⟩
  | .hbm, ⟨63, _⟩ => ⟨S2x8x4096x4096, .f32⟩
  | .hbm, ⟨64, _⟩ => ⟨S2x8x4096x4096, .f32⟩
  | .hbm, ⟨65, _⟩ => ⟨S_, .f32⟩
  | .hbm, ⟨66, _⟩ => ⟨S2x8x4096, .f32⟩
  | .hbm, ⟨67, _⟩ => ⟨S2x8x4096x1, .f32⟩
  | .hbm, ⟨68, _⟩ => ⟨S2x8x4096x4096, .f32⟩
  | .hbm, ⟨69, _⟩ => ⟨S2x8x4096x4096, .f32⟩
  | .hbm, ⟨70, _⟩ => ⟨S2x8x4096x1, .f32⟩
  | .hbm, ⟨71, _⟩ => ⟨S_, .f32⟩
  | .hbm, ⟨72, _⟩ => ⟨S2x8x4096x1, .f32⟩
  | .hbm, ⟨73, _⟩ => ⟨S2x8x4096x1, .f32⟩
  | .hbm, ⟨74, _⟩ => ⟨S2x8x4096x64, .f32⟩
  | .hbm, ⟨75, _⟩ => ⟨S2x4096x8x64, .f32⟩
  | .hbm, ⟨76, _⟩ => ⟨S8192x512, .f32⟩
  | .hbm, ⟨77, _⟩ => ⟨S2x4096x8x64, .f32⟩
  | .hbm, ⟨78, _⟩ => ⟨S2x8x4096x64, .f32⟩
  | .hbm, ⟨79, _⟩ => ⟨S2x8x64x4096, .f32⟩
  | .hbm, ⟨80, _⟩ => ⟨S2x8x4096x64, .f32⟩
  | .hbm, ⟨81, _⟩ => ⟨S2x8x4096x4096, .f32⟩
  | .hbm, ⟨82, _⟩ => ⟨S2x8x4096x4096, .f32⟩
  | .hbm, ⟨83, _⟩ => ⟨S2x8x4096x4096, .f32⟩
  | .hbm, ⟨84, _⟩ => ⟨S2x8x4096x4096, .f32⟩
  | .hbm, ⟨85, _⟩ => ⟨S_, .f32⟩
  | .hbm, ⟨86, _⟩ => ⟨S2x8x4096, .f32⟩
  | .hbm, ⟨87, _⟩ => ⟨S2x8x4096x1, .f32⟩
  | .hbm, ⟨88, _⟩ => ⟨S2x8x4096x1, .f32⟩
  | .hbm, ⟨89, _⟩ => ⟨S2x8x4096x4096, .f32⟩
  | .hbm, ⟨90, _⟩ => ⟨S2x8x4096x4096, .f32⟩
  | .hbm, ⟨91, _⟩ => ⟨S_, .f32⟩
  | .hbm, ⟨92, _⟩ => ⟨S2x8x4096, .f32⟩
  | .hbm, ⟨93, _⟩ => ⟨S2x8x4096x4096, .f32⟩
  | .hbm, ⟨94, _⟩ => ⟨S2x8x4096x4096, .f32⟩
  | .hbm, ⟨95, _⟩ => ⟨S2x8x4096x4096, .f32⟩
  | .hbm, ⟨96, _⟩ => ⟨S_, .f32⟩
  | .hbm, ⟨97, _⟩ => ⟨S2x8x4096x4096, .f32⟩
  | .hbm, ⟨98, _⟩ => ⟨S2x8x4096x4096, .f32⟩
  | .hbm, ⟨99, _⟩ => ⟨S2x8x4096x4096, .f32⟩
  | .hbm, ⟨100, _⟩ => ⟨S_, .f32⟩
  | .hbm, ⟨101, _⟩ => ⟨S2x8x4096, .f32⟩
  | .hbm, ⟨102, _⟩ => ⟨S2x8x1x4096, .f32⟩
  | .hbm, ⟨103, _⟩ => ⟨S_, .f32⟩
  | .hbm, ⟨104, _⟩ => ⟨S2x8x4096, .f32⟩
  | .hbm, ⟨105, _⟩ => ⟨S_, .f32⟩
  | .hbm, ⟨106, _⟩ => ⟨S2x8x4096, .f32⟩
  | .hbm, ⟨107, _⟩ => ⟨S2x8x4096x1, .f32⟩
  | .hbm, ⟨108, _⟩ => ⟨S_, .f32⟩
  | .hbm, ⟨109, _⟩ => ⟨S2x8x4096, .f32⟩
  | .hbm, ⟨110, _⟩ => ⟨S2x8x4096, .f32⟩
  | .hbm, ⟨111, _⟩ => ⟨S2x8x4096x64, .f32⟩
  | .hbm, ⟨112, _⟩ => ⟨S2x8x4096x64, .f32⟩
  | .hbm, ⟨113, _⟩ => ⟨S2x4096x8x64, .f32⟩
  | .hbm, ⟨114, _⟩ => ⟨S8192x512, .f32⟩
  | .hbm, ⟨115, _⟩ => ⟨S2x4096x8x64, .f32⟩
  | .hbm, ⟨116, _⟩ => ⟨S8192x512, .f32⟩
  | .hbm, ⟨117, _⟩ => ⟨S2x4096x8x64, .f32⟩
  | .hbm, ⟨118, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_call0_v0 : Ref sig .tc := ⟨.hbm, 30, rfl⟩
abbrev main_v24_1 : Ref sig .tc := ⟨.hbm, 31, rfl⟩
abbrev main_call0_v2 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S4x1024x1408 : Shape := ⟨3, ![4, 1024, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S4x1024x1408, .f32⟩
  | .hbm, ⟨4, _⟩ => ⟨S8192x1024, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S4x1024x1408 : Shape := ⟨3, ![4, 1024, 1408]⟩
abbrev S4x704x1024 : Shape := ⟨3, ![4, 704, 1024]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S2816x1024 : Shape := ⟨2, ![2816, 1024]⟩
abbrev S8 : Shape := ⟨1, ![8]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S704x1024 : Shape := ⟨2, ![704, 1024]⟩
abbrev S1x704x1024 : Shape := ⟨3, ![1, 704, 1024]⟩
abbrev S512 : Shape := ⟨1, ![512]⟩
abbrev S512x1 : Shape := ⟨2, ![512, 1]⟩
abbrev S512x1408 : Shape := ⟨2, ![512, 1408]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S4x704x1024, .bf16⟩
  | .hbm, ⟨4, _⟩ => ⟨S1x1024, .f32⟩
  | .hbm, ⟨5, _⟩ => ⟨S8192x1024, .f32⟩
  | .hbm, ⟨6, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x5632, .bf16⟩
  | .local _ .vmem, ⟨6, _⟩ => ⟨S512x5632, .bf16⟩
  | .local _ .vmem, ⟨7, _⟩ => ⟨S4x1024x1408, .bf16⟩
  | .local _ .vmem, ⟨8, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8192x1024 : Shape := ⟨2, ![8192, 1024]⟩
abbrev S1024 : Shape := ⟨1, ![1024]⟩
abbrev S4x1024x1408 : Shape := ⟨3, ![4, 1024, 1408]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S4x704x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S4x1024x1408, .f32⟩
  | .hbm, ⟨21, _⟩ => ⟨S1024x4x1408, .f32⟩
  | .hbm, ⟨22, _⟩ => ⟨S1024x5632, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S4x704x1024, .f32⟩
  | .hbm, ⟨37, _⟩ => ⟨S2816x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S4x1024x1408 : Shape := ⟨3, ![4, 1024, 1408]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S2816x1024 : Shape := ⟨2, ![2816, 1024]⟩
abbrev S8 : Shape := ⟨1, ![8]⟩
abbrev S1 : Shape := ⟨1, ![1]⟩
abbrev S1x1024x1408 : Shape := ⟨3, ![1, 1024, 1408]⟩
abbrev S1024x1408 : Shape := ⟨2, ![1024, 1408]⟩
abbrev S704x1024 : Shape := ⟨2, ![704, 1024]⟩
abbrev S1x704x1024 : Shape := ⟨3, ![1, 704, 1024]⟩
abbrev S1408x1024 : Shape := ⟨2, ![1408, 1024]⟩
abbrev S256x1408 : Shape := ⟨2, ![256, 1408]⟩
abbrev S256 : Shape := ⟨1, ![256]⟩
abbrev S256x1 : Shape := ⟨2, ![256, 1]⟩

abbrev nBuf : Space → Nat
  | .hbm => 33
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S4x1024x1408, .bf16⟩
  | .hbm, ⟨4, _⟩ => ⟨S4x704x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S4x1024x1408, .f32⟩
  | .hbm, ⟨22, _⟩ => ⟨S1024x4x1408, .f32⟩
  | .hbm, ⟨23, _⟩ => ⟨S1024x5632, .f32⟩
  | .hbm, ⟨24, _⟩ => ⟨S8192x5632, .f32⟩
  | .hbm, ⟨25, _⟩ => ⟨S8192x5632, .bf16⟩
  | .hbm, ⟨26, _⟩ => ⟨S1x1024, .f32⟩
  | .hbm, ⟨27, _⟩ => ⟨S8192x1024, .f32⟩
  | .hbm, ⟨28, _⟩ => ⟨S8192x5632, .bf16⟩
  | .hbm, ⟨29, _⟩ => ⟨S8192x2816, .bf16⟩
  | .hbm, ⟨30, _⟩ => ⟨S8192x1024, .bf16⟩
  | .hbm, ⟨31, _⟩ => ⟨S8192x1024, .bf16⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S4x1024x1408, .bf16⟩
  | .local _ .vmem, ⟨19, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev main_v19_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8192x1024 : Shape := ⟨2, ![8192, 1024]⟩
abbrev S1024 : Shape := ⟨1, ![1024]⟩
abbrev S4x1024x1408 : Shape := ⟨3, ![4, 1024, 1408]⟩
abbrev S4x704x1024 : Shape := ⟨3, ![4, 704, 1024]⟩
abbrev S1024x4x1408 : Shape := ⟨3, ![1024, 4, 1408]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S4x1024x1408, .bf16⟩
  | .hbm, ⟨4, _⟩ => ⟨S4x704x1024, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4x704x1024, .f32⟩
  | .hbm, ⟨9, _⟩ => ⟨S2816x1024, .f32⟩
  | .hbm, ⟨10, _⟩ => ⟨S_, .f32⟩
  | .hbm, ⟨11, _⟩ => ⟨S8192x5632, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x5632, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x5632, .bf16⟩
  | .hbm, ⟨95, _⟩ => ⟨S8192x2816, .bf16⟩
  | .hbm, ⟨96, _⟩ => ⟨S8192x1024, .bf16⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v26_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v26_1 : Ref sig .tc := ⟨.hbm, 47, rfl⟩
abbrev main_v26_0 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== Proof.PrintedBody.lean ====
module

public import proofs.«01_k».proof.Proof.Gen.Kernel.Frame
public import proofs.«01_k».proof.Proof.Gen.Kernel.Skeleton
public import proofs.«01_k».proof.Proof.Gen.Kernel.Loops
public import Idealize.ShloMosaic.Lib.VecWindow
public import Idealize.ShloMosaic.Lib.WordCmp

@[expose] public section

set_option maxRecDepth 16384

noncomputable section

/-!
# The printed kernel at a grid point

The same run as in the idealized program's modules, in the program as printed and with nothing said of what the
outputs hold: the body takes its inputs, outputs and scratch buffers and gives them back, the inputs as they were.
-/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x4096x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x1024x128 .f32 := Memref.whole cc0_scratch0
abbrev scM0_1 : Memref sig .tc .vmem S1024x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

section Run

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec F S4096x128 .bf16) (x1 : Vec F S1024x128 .bf16) (x2 : Vec F S1024x128 .bf16) (x3 : Vec F S4096x128 .bf16) (x4 : Vec F S4096x128 .bf16)
  (x5 : Vec F S1x2x4096x1 .f32) (x6 : Vec F S1x2x1x1024 .f32)

/-- The body's buffers: the inputs at given contents, the others at some. -/
abbrev held : sProp 𝕄 := iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

set_option maxHeartbeats 2000000 in
/-- The body runs on them and gives them back, whether or not the point clears the queries' gradients. -/
theorem body_run (E : Set ℕ) (K : PUnit → sProp 𝕄) :
    iprop(held c arg3 arg4 arg5 arg6 arg7 arg8 arg9 arg10 arg11 arg12 arg13 arg14 arg15 arg16 x0 x1 x2 x3 x4 x5 x6
        ∗ (held c arg3 arg4 arg5 arg6 arg7 arg8 arg9 arg10 arg11 arg12 arg13 arg14 arg15 arg16 x0 x1 x2 x3 x4 x5 x6 -∗ K ⟨⟩))
      ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  simp only [k0_part7_eq_skeleton, k0_part8_eq_skeleton, k0_part9_eq_skeleton, k0_part10_eq_skeleton, k0_part11_eq_skeleton, k0_part12_eq_skeleton, k0_part13_eq_skeleton, k0_part14_eq_skeleton]
  unfold held owns
  by_cases hc : cond0_0 i
  all_goals
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
    obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Run

end Cert.Kernel.Gen

end
-- ==== Proof.PrintedFrame.lean ====
module

public import proofs.«01_k».proof.Proof.PrintedBody
public import Idealize.ShloMosaic.Lib.Claim

@[expose] public section

set_option maxRecDepth 16384

noncomputable section

/-!
# The printed kernel's run

The program as printed, on bits or any other scalars, ends with its arguments as they were. Nothing is said of the
five arrays the kernel writes, nor of what the host computes from them.
-/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows the kernel writes. -/
def written : Fin 12 → Bool := fun w => decide (7 ≤ w.val)

/-- At every point the inputs' buffers hold their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply (body_run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0 H1 H2 H3 H4 H5 H6 H7 H8 H9 H10 H11 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iexact HS1
  · unfold held
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ written := fun t => by
  rw [bigSep_W0, bigSep_W0, defs₀_row]
  exact triple_restated (sound_body m c t) rfl .rfl fun _ => .rfl

/-- The buffers the host writes after the kernel. -/
def later : Finset (Ref sig .tc) :=
  {main_c, main_v35, main_v36, main_v37, main_v38, main_v39, main_v40, main_v41, main_v42, main_v43, main_v44, main_v45, main_v46,
    main_v47, main_v48, main_v49, main_v50, main_v51}

theorem later_writes : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ later := by
  simp only [hostOps1, hostOps1_1, hostOps1_2, hostOps1_3, hostOps1_4, List.forall_mem_cons, List.forall_mem_nil]
  repeat' apply And.intro
  all_goals first
    | trivial
    | exact fun _ h => absurd h List.not_mem_nil
    | (intro b hb
       simp only [StableHlo.nullary_writes, StableHlo.unary_writes, StableHlo.binary_writes, StableHlo.ternary_writes,
         StableHlo.quaternary_writes, StableHlo.reshape_writes, StableHlo.binaryIndexed_writes, Finset.mem_singleton] at hb
       cases Proc.devRef_injective _ hb
       decide)

set_option backward.isDefEq.respectTransparency.types false in
set_option maxHeartbeats 800000 in
/-- The run, with the semaphores' counters at the end. -/
theorem run_main_quiescent : θ_run defs (onTc (τ := τ) (main (F := F))) (s₀ m ρ)
    (fun r => (Pipeline.RDat.FramePostR (cfgs 0) (fun c => (dats m 0 c).toRForget written) later (V m)) r ∧ r.2.sem = fun _ => 0) :=
  Pipeline.θ_run_frame_around_T_forget (Q' := _) cfgs (dats m) (0 : Fin 1) launch0 defs₀ Variants.none written later m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub)
    (hfresh := sfx_fresh) (hkeep := sfx_keeps) (hT := later_writes)
    (hmain := hmain m Variants.none) (hA := A_eq m) (hΦ := fun _ _ => rfl)

/-- The arguments, where the run ends. -/
theorem unchanged (rdat : (c : Dev nD) → Pipeline.RDat τ (Elt F) Unit ℕ (UR sig nD τ) ℕ (cfgs 0) c)
    (hA : ∀ c w, (rdat c).A w = V m c (Pipeline.arrRef spec0 w)) {r : _}
    (h : Pipeline.RDat.FramePostR (cfgs 0) rdat later (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePostR.arr_in h c 0 rfl).trans ((hA c 0).trans (V_main_arg0 m c)),
    (Pipeline.RDat.FramePostR.arr_in h c 1 rfl).trans ((hA c 1).trans (V_main_arg1 m c)),
    (Pipeline.RDat.FramePostR.arr_in h c 2 rfl).trans ((hA c 2).trans (V_main_arg2 m c)),
    ((h c).2 main_arg3 (Finset.mem_sdiff.mpr ⟨Pipeline.mem_restRefs_of main_arg3 (by decide) (by decide), by decide⟩)).trans (V_main_arg3 m c),
    (Pipeline.RDat.FramePostR.arr_in h c 4 rfl).trans ((hA c 4).trans (V_main_arg4 m c))⟩

/-- The program ends, with its arguments unchanged and every counter at zero. -/
theorem frame_printed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged m (fun c => (dats m 0 c).toRForget written) (A_eq m) h.1, h.2⟩) (run_main_quiescent m ρ)

end Cert.Kernel.Gen

end
-- ==== Proof.Setup.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.WordCmp

@[expose] public section

set_option maxRecDepth 16384

noncomputable section

/-!
# The buffers a grid point works on

The staging buffers of each window at a grid point, the two scratch buffers, and the test by which a point decides
whether to clear the gradients of the queries.
-/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x4096x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x1024x128 .f32 := Memref.whole cc0_scratch0
abbrev scM0_1 : Memref sig .tc .vmem S1024x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunAdd.lean ====
module

public import proofs.«01_k».proof.Proof.Setup

@[expose] public section

set_option maxRecDepth 16384

noncomputable section

/-!
# The body, run where it adds to the gradients of the queries

The run finds what each buffer holds at the end, as the list of the body's stores.
-/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec F S4096x128 .bf16) (x1 : Vec F S1024x128 .bf16) (x2 : Vec F S1024x128 .bf16) (x3 : Vec F S4096x128 .bf16) (x4 : Vec F S4096x128 .bf16)
  (x5 : Vec F S1x2x4096x1 .f32) (x6 : Vec F S1x2x1x1024 .f32)
variable (f10 : arg10.view.ty.Contents (Elt F))
variable (f11 : arg11.view.ty.Contents (Elt F))
variable (f12 : arg12.view.ty.Contents (Elt F))
variable (f13 : arg13.view.ty.Contents (Elt F))
variable (f14 : arg14.view.ty.Contents (Elt F))
variable (f15 : arg15.view.ty.Contents (Elt F))
variable (f16 : arg16.view.ty.Contents (Elt F))

set_option maxHeartbeats 1000000 in
/-- What the seven buffers the body stores to hold when it has run. -/
def runAdd (hc0 : ¬ cond0_0 i) :
    Σ' (C10 : arg10.view.ty.Contents (Elt F)) (C11 : arg11.view.ty.Contents (Elt F)) (C12 : arg12.view.ty.Contents (Elt F)) (C13 : arg13.view.ty.Contents (Elt F)) (C14 : arg14.view.ty.Contents (Elt F)) (C15 : arg15.view.ty.Contents (Elt F)),
      { C16 : arg16.view.ty.Contents (Elt F) // ∀ (E : Set ℕ) (K : PUnit → sProp 𝕄),
        iprop((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg8.view.loc (c : Thread nD τ) ↦[arg8.view.set]{fullShare} (harg8.unread x5)) ∗ (arg9.view.loc (c : Thread nD τ) ↦[arg9.view.set]{fullShare} (harg9.unread x6)) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
            ∗ (iprop((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg8.view.loc (c : Thread nD τ) ↦[arg8.view.set]{fullShare} (harg8.unread x5)) ∗ (arg9.view.loc (c : Thread nD τ) ↦[arg9.view.set]{fullShare} (harg9.unread x6)) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16)) -∗ K ⟨⟩))
          ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_fox_attn_bwd_eq_skeleton]; unfold cc0_fox_attn_bwd_skel
    simp only [k0_part7_eq_skeleton, k0_part8_eq_skeleton, k0_part9_eq_skeleton, k0_part10_eq_skeleton, k0_part11_eq_skeleton, k0_part12_eq_skeleton, k0_part13_eq_skeleton, k0_part14_eq_skeleton]
    iintro ⟨H3, H4, H5, H6, H7, H8, H9, H10, H11, H12, H13, H14, H15, H16, Hk⟩
    sl_exec (disch := first | sl_exact hc0)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Gen

end
-- ==== Proof.Model.lean ====
module

public import Idealize.ShloMosaic.Lib.Pointwise

@[expose] public section

noncomputable section

/-!
# What one grid point of the gradient kernel computes

A grid point takes one example, one pair of heads and one tile of 1024 keys. The two heads share the 128 lanes of
every row: lane `l` belongs to head `l / 64`. The point walks the query rows from its own tile on, in blocks, and adds
each block's part to four arrays. This module names the quantities (`Point.P`, `Point.S`) at one query row and one key
and the state of the four arrays once the rows below a bound have been met (`Inv`), and shows that one block carries
the state from its first row to its last (`Inv.step`).
-/

namespace Cert.Fox

open Idealize.ShloMosaic

/-- Lane `l` belongs to head `h` of the pair. -/
abbrev own (h : Fin 2) (l : Fin 128) : Prop := l.val / 64 = h.val

/-- The inner product over the lanes of head `h`. -/
def hdot (h : Fin 2) (a b : Fin 128 → EReal) : EReal := ∑ x, if own h x then a x * b x else 0

/-- A row with the other head's lanes set to zero. -/
def only (h : Fin 2) (a : Fin 128 → EReal) (l : Fin 128) : EReal := if own h l then a l else 0

/-- A row with the other head's lanes set to one. -/
def orOne (h : Fin 2) (a : Fin 128 → EReal) (l : Fin 128) : EReal := if own h l then a l else 1

/-- The weight of a key in a query's softmax, `ok` saying that the key is not in the query's future. -/
def prob (h : Fin 2) (ok : Prop) [Decidable ok] (q k : Fin 128 → EReal) (ck lse : EReal) : EReal :=
  Ideal.exp ((if ok then hdot h q k - ck else ⊥) - lse)

/-- The gradient of the score of a key for a query. -/
def dscore (h : Fin 2) (ok : Prop) [Decidable ok] (q k v o d : Fin 128 → EReal) (ck lse : EReal) : EReal :=
  prob h ok q k ck lse * (hdot h d v - hdot h d o)

theorem bot_sub (x : EReal) : (⊥ : EReal) - x = ⊥ := by rw [sub_eq_add_neg, EReal.bot_add]

theorem prob_of_not (h : Fin 2) {ok : Prop} [Decidable ok] (hn : ¬ ok) (q k : Fin 128 → EReal) (ck lse : EReal) : prob h ok q k ck lse = 0 := by
  rw [prob, if_neg hn, bot_sub, Ideal.exp_bot]

/-- What a grid point reads: the number of its tile, the rows of queries, outputs and cotangents of its example, the keys and
    values of its tile, and per head the row log-sums and the keys' cumulative gates. -/
structure Point where
  j : ℕ
  q : ℕ → Fin 128 → EReal
  k : ℕ → Fin 128 → EReal
  v : ℕ → Fin 128 → EReal
  o : ℕ → Fin 128 → EReal
  d : ℕ → Fin 128 → EReal
  lse : Fin 2 → ℕ → EReal
  ck : Fin 2 → ℕ → EReal

namespace Point

variable (p : Point)

/-- The softmax weight of key `s` of the tile for query row `R`. -/
def P (h : Fin 2) (R s : ℕ) : EReal := prob h (s + 1024 * p.j ≤ R) (p.q R) (p.k s) (p.ck h s) (p.lse h R)

/-- The gradient of the score of key `s` of the tile for query row `R`. -/
def S (h : Fin 2) (R s : ℕ) : EReal := dscore h (s + 1024 * p.j ≤ R) (p.q R) (p.k s) (p.v s) (p.o R) (p.d R) (p.ck h s) (p.lse h R)

theorem P_of_lt {h : Fin 2} {R s : ℕ} (hl : R < s + 1024 * p.j) : p.P h R s = 0 := prob_of_not h (Nat.not_le.mpr hl) _ _ _ _

theorem S_of_lt {h : Fin 2} {R s : ℕ} (hl : R < s + 1024 * p.j) : p.S h R s = 0 := by
  rw [S, dscore, prob_of_not h (Nat.not_le.mpr hl), zero_mul]

/-- Row `R`'s part of the gradient of the values. -/
def tv (s : ℕ) (l : Fin 128) (R : ℕ) : EReal := p.P 0 R s * only 0 (p.d R) l + p.P 1 R s * only 1 (p.d R) l

/-- Row `R`'s part of the gradient of the keys of head `h` and, on the other head's lanes, of their gates. -/
def tk (h : Fin 2) (s : ℕ) (l : Fin 128) (R : ℕ) : EReal := p.S h R s * orOne h (p.q R) l

/-- The tile's part of the gradient of the queries of head `h` and, on the other head's lanes, of their gates. -/
def tq (h : Fin 2) (R : ℕ) (l : Fin 128) : EReal := ∑ s ∈ Finset.range 1024, p.S h R s * orOne h (p.k s) l

theorem tv_of_lt {s : ℕ} {l : Fin 128} {R : ℕ} (hl : R < s + 1024 * p.j) : p.tv s l R = 0 := by
  simp only [tv, p.P_of_lt hl, zero_mul, add_zero]

theorem tk_of_lt {h : Fin 2} {s : ℕ} {l : Fin 128} {R : ℕ} (hl : R < s + 1024 * p.j) : p.tk h s l R = 0 := by
  simp only [tk, p.S_of_lt hl, zero_mul]

theorem tq_of_lt {h : Fin 2} {R : ℕ} {l : Fin 128} (hl : R < 1024 * p.j) : p.tq h R l = 0 :=
  Finset.sum_eq_zero fun s _ => by rw [p.S_of_lt (by omega), zero_mul]

end Point

/-- The four arrays once the rows below `B` have been met: the gradient of the values and of the keys summed over these rows,
    the gradients of the queries added to what was there on exactly these rows. -/
structure Inv (p : Point) (G0 G1 : ℕ → Fin 128 → EReal) (B : ℕ) (c10 c11 : (⟨2, ![4096, 128]⟩ : Shape).Idx → EReal)
    (c15 : (⟨3, ![2, 1024, 128]⟩ : Shape).Idx → EReal) (c16 : (⟨2, ![1024, 128]⟩ : Shape).Idx → EReal) : Prop where
  h16 : ∀ (s : Fin 1024) (l : Fin 128), c16 (ix2 s l) = ∑ R ∈ Finset.range B, p.tv s l R
  h15 : ∀ (h : Fin 2) (s : Fin 1024) (l : Fin 128), c15 (ix3 h s l) = ∑ R ∈ Finset.range B, p.tk h s l R
  h10 : ∀ (R : Fin 4096) (l : Fin 128), c10 (ix2 R l) = G0 R l + if R.val < B then p.tq 0 R l else 0
  h11 : ∀ (R : Fin 4096) (l : Fin 128), c11 (ix2 R l) = G1 R l + if R.val < B then p.tq 1 R l else 0

/-- Before the first block: zeros in the two sums, and nothing added to the queries' gradients. -/
theorem Inv.start (p : Point) (c10 c11 : (⟨2, ![4096, 128]⟩ : Shape).Idx → EReal) (G0 G1 : ℕ → Fin 128 → EReal)
    (c15 : (⟨3, ![2, 1024, 128]⟩ : Shape).Idx → EReal) (c16 : (⟨2, ![1024, 128]⟩ : Shape).Idx → EReal)
    (h0 : ∀ (R : Fin 4096) (l : Fin 128), c10 (ix2 R l) = G0 R l) (h1 : ∀ (R : Fin 4096) (l : Fin 128), c11 (ix2 R l) = G1 R l)
    (h15 : ∀ i, c15 i = 0) (h16 : ∀ i, c16 i = 0) : Inv p G0 G1 (1024 * p.j) c10 c11 c15 c16 where
  h16 s l := by
    rw [h16, Finset.sum_eq_zero fun R hR => p.tv_of_lt (by have := Finset.mem_range.mp hR; omega)]
  h15 h s l := by
    rw [h15, Finset.sum_eq_zero fun R hR => p.tk_of_lt (by have := Finset.mem_range.mp hR; omega)]
  h10 R l := by
    rw [h0]; split
    · rw [p.tq_of_lt ‹_›, add_zero]
    · rw [add_zero]
  h11 R l := by
    rw [h1]; split
    · rw [p.tq_of_lt ‹_›, add_zero]
    · rw [add_zero]

/-- A block's sum over its own `m` keys is the sum over the tile where the others lie in the future. -/
theorem sum_keys {m : ℕ} (hm : m ≤ 1024) (f : ℕ → EReal) (hz : ∀ s, m ≤ s → s < 1024 → f s = 0) : ∑ s : Fin m, f s = ∑ s ∈ Finset.range 1024, f s := by
  rw [← Finset.sum_range (f := f)]
  exact Finset.sum_subset (Finset.range_mono hm) fun s hs' hs => hz s (by simpa using hs) (Finset.mem_range.mp hs')

/-- One block: the rows from `B` on, `n` of them, against the first `m` keys of the tile, the keys after these being in
    the future of every row of the block. -/
theorem Inv.step {p : Point} {G0 G1 : ℕ → Fin 128 → EReal} {B : ℕ} {c10 c11 c10' c11' : (⟨2, ![4096, 128]⟩ : Shape).Idx → EReal}
    {c15 c15' : (⟨3, ![2, 1024, 128]⟩ : Shape).Idx → EReal} {c16 c16' : (⟨2, ![1024, 128]⟩ : Shape).Idx → EReal}
    (hI : Inv p G0 G1 B c10 c11 c15 c16) (n m : ℕ) (hm : m ≤ 1024) (hz : ∀ r s, r < n → m ≤ s → s < 1024 → B + r < s + 1024 * p.j)
    (e16 : ∀ (s : Fin 1024) (l : Fin 128), c16' (ix2 s l) = if s.val < m then
      c16 (ix2 s l) + (∑ r : Fin n, p.P 0 (B + r) s * only 0 (p.d (B + r)) l) + ∑ r : Fin n, p.P 1 (B + r) s * only 1 (p.d (B + r)) l else c16 (ix2 s l))
    (e15 : ∀ (h : Fin 2) (s : Fin 1024) (l : Fin 128), c15' (ix3 h s l) = if s.val < m then
      c15 (ix3 h s l) + ∑ r : Fin n, p.S h (B + r) s * orOne h (p.q (B + r)) l else c15 (ix3 h s l))
    (e10 : ∀ (R : Fin 4096) (l : Fin 128), c10' (ix2 R l) = if B ≤ R.val ∧ R.val < B + n then
      c10 (ix2 R l) + ∑ s : Fin m, p.S 0 R s * orOne 0 (p.k s) l else c10 (ix2 R l))
    (e11 : ∀ (R : Fin 4096) (l : Fin 128), c11' (ix2 R l) = if B ≤ R.val ∧ R.val < B + n then
      c11 (ix2 R l) + ∑ s : Fin m, p.S 1 R s * orOne 1 (p.k s) l else c11 (ix2 R l)) :
    Inv p G0 G1 (B + n) c10' c11' c15' c16' where
  h16 s l := by
    rw [e16, hI.h16, Finset.sum_range_add, ← Finset.sum_range (n := n) (fun r => p.P 0 (B + r) s * only 0 (p.d (B + r)) l),
      ← Finset.sum_range (n := n) (fun r => p.P 1 (B + r) s * only 1 (p.d (B + r)) l), add_assoc, ← Finset.sum_add_distrib]
    split
    · rfl
    · rw [Finset.sum_eq_zero (s := Finset.range n) (f := fun r => p.tv s l (B + r)) fun r hr => p.tv_of_lt (hz r s (Finset.mem_range.mp hr) (by omega) s.isLt), add_zero]
  h15 h s l := by
    rw [e15, hI.h15, Finset.sum_range_add, ← Finset.sum_range (n := n) (fun r => p.S h (B + r) s * orOne h (p.q (B + r)) l)]
    split
    · rfl
    · rw [Finset.sum_eq_zero (s := Finset.range n) (f := fun r => p.tk h s l (B + r)) fun r hr => p.tk_of_lt (hz r s (Finset.mem_range.mp hr) (by omega) s.isLt), add_zero]
  h10 R l := by
    rw [e10, hI.h10]
    by_cases hB : R.val < B
    · rw [if_neg (by omega), if_pos hB, if_pos (by omega)]
    · by_cases hn : R.val < B + n
      · rw [if_pos ⟨by omega, hn⟩, if_neg hB, if_pos hn, add_zero, sum_keys hm (fun s => p.S 0 R s * orOne 0 (p.k s) l) fun s hs hs' => by
          rw [p.S_of_lt (by have := hz (R.val - B) s (by omega) hs hs'; omega), zero_mul]]
        rfl
      · rw [if_neg (by omega), if_neg hB, if_neg hn]
  h11 R l := by
    rw [e11, hI.h11]
    by_cases hB : R.val < B
    · rw [if_neg (by omega), if_pos hB, if_pos (by omega)]
    · by_cases hn : R.val < B + n
      · rw [if_pos ⟨by omega, hn⟩, if_neg hB, if_pos hn, add_zero, sum_keys hm (fun s => p.S 1 R s * orOne 1 (p.k s) l) fun s hs hs' => by
          rw [p.S_of_lt (by have := hz (R.val - B) s (by omega) hs hs'; omega), zero_mul]]
        rfl
      · rw [if_neg (by omega), if_neg hB, if_neg hn]

end Cert.Fox

end
-- ==== Proof.Payload.lean ====
module

public import proofs.«01_k».proof.Proof.Gen.KernelIdeal.Skeleton
public import proofs.«01_k».proof.Proof.Model
public import Idealize.ShloMosaic.Lib.WordCmp

@[expose] public section

set_option maxRecDepth 16384

noncomputable section

/-!
# The kernel's block operations, read entry by entry

The body computes a block in three sizes: the upper half of the diagonal tile (512 rows, 512 keys), its lower half
(512 rows, 1024 keys) and a tile below the diagonal (1024 rows, 1024 keys). For each size and each head this module
reads the printed operations at an entry: the softmax weights are `Point.P`, the score gradients are `Point.S`, and each
of the four accumulations adds the sum that `Inv.step` asks for.
-/

namespace Cert.KernelIdeal.Gen

open Idealize.ShloMosaic Idealize.ShloMosaic.Tactic Cert.Fox

/-- The lane test of head 0. -/
theorem select_lane0 {α : Type} (x : Fin 128) (a b : α) :
    Scalar.select (IntOp.cmpi .slt (BitVec.ofNat 32 x.val) 64#32) a b = if own 0 x then a else b := by
  have hx := x.isLt
  by_cases h : x.val < 64
  · have e : IntOp.cmpi .slt (BitVec.ofNat 32 x.val) 64#32 = 1#1 := by word_cmp
    rw [e, if_pos (c := own 0 x) (show x.val / 64 = 0 by omega)]; rfl
  · have e : IntOp.cmpi .slt (BitVec.ofNat 32 x.val) 64#32 = 0#1 := by word_cmp
    rw [e, if_neg (c := own 0 x) (show ¬ x.val / 64 = 0 by omega)]; rfl

/-- The lane test of head 1. -/
theorem select_lane1 {α : Type} (x : Fin 128) (a b : α) :
    Scalar.select (IntOp.cmpi .sge (BitVec.ofNat 32 x.val) 64#32) a b = if own 1 x then a else b := by
  have hx := x.isLt
  by_cases h : x.val < 64
  · have e : IntOp.cmpi .sge (BitVec.ofNat 32 x.val) 64#32 = 0#1 := by word_cmp
    rw [e, if_neg (c := own 1 x) (show ¬ x.val / 64 = 1 by omega)]; rfl
  · have e : IntOp.cmpi .sge (BitVec.ofNat 32 x.val) 64#32 = 1#1 := by word_cmp
    rw [e, if_pos (c := own 1 x) (show x.val / 64 = 1 by omega)]; rfl

/-- The causal test of a strip of the diagonal tile that starts at row `o` of the tile. -/
theorem select_causal {α : Type} (o r s : ℕ) (ho : o ≤ 512) (hr : r < 512) (hs : s < 1024) (a b : α) :
    Scalar.select (IntOp.cmpi .sge (IntOp.addi (BitVec.ofNat 32 o) (BitVec.ofNat 32 r)) (BitVec.ofNat 32 s)) a b = if s ≤ o + r then a else b := by
  rw [show IntOp.addi (BitVec.ofNat 32 o) (BitVec.ofNat 32 r) = BitVec.ofNat 32 (o + r) from (BitVec.ofNat_add o r).symm]
  by_cases h : s ≤ o + r
  · have e : IntOp.cmpi .sge (BitVec.ofNat 32 (o + r)) (BitVec.ofNat 32 s) = 1#1 := by word_cmp
    rw [e, if_pos h]; rfl
  · have e : IntOp.cmpi .sge (BitVec.ofNat 32 (o + r)) (BitVec.ofNat 32 s) = 0#1 := by word_cmp
    rw [e, if_neg h]; rfl

/-- The same, over the rows of a block that starts at row `B` of the example, in the tile's own number. -/
theorem select_past {α : Type} {m j B o : ℕ} (hm : m ≤ 1024) (ho : o ≤ 512) (hB : B = 1024 * j + o) (r : Fin 512) (s : Fin m) (a b : α) :
    Scalar.select (IntOp.cmpi .sge (IntOp.addi (BitVec.ofNat 32 o) (BitVec.ofNat 32 r.val)) (BitVec.ofNat 32 s.val)) a b
      = if s.val + 1024 * j ≤ B + r.val then a else b := by
  have := s.isLt
  rw [select_causal o r s ho r.isLt (by omega)]
  by_cases h : s.val ≤ o + r.val
  · rw [if_pos h, if_pos (by omega)]
  · rw [if_neg h, if_neg (by omega)]

theorem mask_eq_bot : (Named.named κ "mask" 0xF149F2CA#32 : Ideal .f32) = (⊥ : EReal) := by
  rfl

/-- The rows and keys of one block, loaded from what the point reads: `n` rows from row `B` on and the first `m` keys. -/
structure Loads (p : Point) (B n m : ℕ) (q o d : (⟨2, ![n, 128]⟩ : Shape).Idx → EReal) (k v : (⟨2, ![m, 128]⟩ : Shape).Idx → EReal)
    (l0 l1 : (⟨4, ![1, 1, n, 1]⟩ : Shape).Idx → EReal) (g0 g1 : (⟨4, ![1, 1, 1, m]⟩ : Shape).Idx → EReal) : Prop where
  q : ∀ (r : Fin n) (l : Fin 128), q (ix2 r l) = p.q (B + r) l
  o : ∀ (r : Fin n) (l : Fin 128), o (ix2 r l) = p.o (B + r) l
  d : ∀ (r : Fin n) (l : Fin 128), d (ix2 r l) = p.d (B + r) l
  k : ∀ (s : Fin m) (l : Fin 128), k (ix2 s l) = p.k s l
  v : ∀ (s : Fin m) (l : Fin 128), v (ix2 s l) = p.v s l
  l0 : ∀ r : Fin n, l0 (ix4 0 0 r 0) = p.lse 0 (B + r)
  l1 : ∀ r : Fin n, l1 (ix4 0 0 r 0) = p.lse 1 (B + r)
  g0 : ∀ s : Fin m, g0 (ix4 0 0 0 s) = p.ck 0 s
  g1 : ∀ s : Fin m, g1 (ix4 0 0 0 s) = p.ck 1 s

/-- The lane numbers, as the body makes them. -/
abbrev lanes : IVec S1024x128 32 := iota .tc S1024x128 32 [1] iota_S1024x128_d1_w32

section Full

/-! ## A tile below the diagonal -/

variable {p : Point} {B : ℕ} {q o d k v : Vec Ideal S1024x128 .bf16} {l0 l1 : Vec Ideal S1x1x1024x1 .f32} {g0 g1 : Vec Ideal S1x1x1x1024 .f32}

theorem full_P0 (L : Loads p B 1024 1024 q o d k v l0 l1 g0 g1) (hB : 1024 * (p.j + 1) ≤ B) (r s : Fin 1024) :
    k0_pay7 (F := Ideal) lanes k q g0 l0 (ix2 r s) = p.P 0 (B + r) s := by
  pointwise [k0_pay7, k0_pay3, k0_pay5]
  simp only [select_lane0, L.q, L.k, L.l0, L.g0]
  rw [Point.P, prob, if_pos (by omega), hdot]

theorem full_S0 (L : Loads p B 1024 1024 q o d k v l0 l1 g0 g1) (hB : 1024 * (p.j + 1) ≤ B) (r s : Fin 1024) :
    k0_pay8 (F := Ideal) lanes k v q d o g0 l0 (ix2 r s) = p.S 0 (B + r) s := by
  pointwise [k0_pay8, k0_pay6, k0_pay3, k0_pay5, k0_pay2]
  simp only [full_P0 L hB, select_lane0, L.o, L.d, L.v]
  rfl

theorem full_P1 (L : Loads p B 1024 1024 q o d k v l0 l1 g0 g1) (hB : 1024 * (p.j + 1) ≤ B) (r s : Fin 1024) :
    k0_pay17 (F := Ideal) k q (k0_pay12 lanes) k0_pay14 g1 l1 (ix2 r s) = p.P 1 (B + r) s := by
  pointwise [k0_pay17, k0_pay12, k0_pay14]
  simp only [select_lane1, L.q, L.k, L.l1, L.g1]
  rw [Point.P, prob, if_pos (by omega), hdot]

theorem full_S1 (L : Loads p B 1024 1024 q o d k v l0 l1 g0 g1) (hB : 1024 * (p.j + 1) ≤ B) (r s : Fin 1024) :
    k0_pay18 (F := Ideal) k v q (k0_pay12 lanes) k0_pay14 (k0_pay15 lanes d) (k0_pay16 lanes (k0_pay2 d o)) g1 l1 (ix2 r s) = p.S 1 (B + r) s := by
  pointwise [k0_pay18, k0_pay17, k0_pay15, k0_pay16, k0_pay12, k0_pay14, k0_pay2]
  simp only [select_lane1, L.q, L.k, L.l1, L.g1, L.o, L.d, L.v]
  rw [Point.S, dscore, prob, if_pos (by omega)]; rfl

theorem full_v0 (L : Loads p B 1024 1024 q o d k v l0 l1 g0 g1) (hB : 1024 * (p.j + 1) ≤ B) (a : Vec Ideal S1024x128 .f32) (s : Fin 1024) (l : Fin 128) :
    k0_pay9 (F := Ideal) (k0_pay6 lanes d) (k0_pay7 lanes k q g0 l0) a (ix2 s l)
      = a (ix2 s l) + ∑ r : Fin 1024, p.P 0 (B + r) s * only 0 (p.d (B + r)) l := by
  pointwise [k0_pay9, k0_pay6, k0_pay3, k0_pay5]
  simp only [full_P0 L hB, select_lane0, L.d, only, mul_ite, mul_zero]

theorem full_v1 (L : Loads p B 1024 1024 q o d k v l0 l1 g0 g1) (hB : 1024 * (p.j + 1) ≤ B) (a : Vec Ideal S1024x128 .f32) (s : Fin 1024) (l : Fin 128) :
    k0_pay19 (F := Ideal) k q (k0_pay12 lanes) k0_pay14 (k0_pay15 lanes d) g1 l1 a (ix2 s l)
      = a (ix2 s l) + ∑ r : Fin 1024, p.P 1 (B + r) s * only 1 (p.d (B + r)) l := by
  pointwise [k0_pay19]
  simp only [full_P1 L hB]
  pointwise [k0_pay15, k0_pay12, k0_pay14]
  simp only [select_lane1, L.d, only, mul_ite, mul_zero]

theorem full_k0 (L : Loads p B 1024 1024 q o d k v l0 l1 g0 g1) (hB : 1024 * (p.j + 1) ≤ B) (a : Vec Ideal S1x1024x128 .f32) (s : Fin 1024) (l : Fin 128) :
    k0_pay10 (F := Ideal) q (k0_pay3 lanes) (k0_pay8 lanes k v q d o g0 l0) a (ix3 0 s l)
      = a (ix3 0 s l) + ∑ r : Fin 1024, p.S 0 (B + r) s * orOne 0 (p.q (B + r)) l := by
  pointwise [k0_pay10, k0_pay3]
  simp only [full_S0 L hB, select_lane0, L.q]
  rfl

theorem full_q0 (L : Loads p B 1024 1024 q o d k v l0 l1 g0 g1) (hB : 1024 * (p.j + 1) ≤ B) (a : Vec Ideal S1024x128 .f32) (r : Fin 1024) (l : Fin 128) :
    k0_pay11 (F := Ideal) k (k0_pay4 lanes) (k0_pay8 lanes k v q d o g0 l0) a (ix2 r l)
      = a (ix2 r l) + ∑ s : Fin 1024, p.S 0 (B + r) s * orOne 0 (p.k s) l := by
  pointwise [k0_pay11, k0_pay4]
  simp only [full_S0 L hB, select_lane0, L.k]
  rfl

theorem full_k1 (L : Loads p B 1024 1024 q o d k v l0 l1 g0 g1) (hB : 1024 * (p.j + 1) ≤ B) (a : Vec Ideal S1x1024x128 .f32) (s : Fin 1024) (l : Fin 128) :
    k0_pay20 (F := Ideal) k v q (k0_pay12 lanes) k0_pay14 (k0_pay15 lanes d) (k0_pay16 lanes (k0_pay2 d o)) g1 l1 a (ix3 0 s l)
      = a (ix3 0 s l) + ∑ r : Fin 1024, p.S 1 (B + r) s * orOne 1 (p.q (B + r)) l := by
  pointwise [k0_pay20]
  simp only [full_S1 L hB]
  pointwise [k0_pay12]
  simp only [select_lane1, L.q]
  rfl

theorem full_q1 (L : Loads p B 1024 1024 q o d k v l0 l1 g0 g1) (hB : 1024 * (p.j + 1) ≤ B) (a : Vec Ideal S1024x128 .f32) (r : Fin 1024) (l : Fin 128) :
    k0_pay97 (F := Ideal) k (k0_pay13 lanes) (k0_pay18 k v q (k0_pay12 lanes) k0_pay14 (k0_pay15 lanes d) (k0_pay16 lanes (k0_pay2 d o)) g1 l1) a (ix2 r l)
      = a (ix2 r l) + ∑ s : Fin 1024, p.S 1 (B + r) s * orOne 1 (p.k s) l := by
  pointwise [k0_pay97]
  simp only [full_S1 L hB]
  pointwise [k0_pay13]
  simp only [select_lane1, L.k]
  rfl

end Full

section Upper

/-! ## The upper half of the diagonal tile -/

variable {p : Point} {B : ℕ} {q o d k v : Vec Ideal S512x128 .bf16} {l0 l1 : Vec Ideal S1x1x512x1 .f32} {g0 g1 : Vec Ideal S1x1x1x512 .f32}

/-- The column numbers of the strip, as the body makes them. -/
abbrev cols : IVec S512x512 32 := iota .tc S512x512 32 [1] iota_S512x512_d1_w32

theorem upper_P0 (L : Loads p B 512 512 q o d k v l0 l1 g0 g1) (hB : B = 1024 * p.j + 0) (r s : Fin 512) :
    k0_pay55 (F := Ideal) q k k0_pay47 k0_pay49 cols g0 l0 (ix2 r s) = p.P 0 (B + r) s := by
  pointwise [k0_pay55, k0_pay53, k0_pay51, k0_pay50, k0_pay47, k0_pay49]
  simp only [select_lane0, select_past (m := 512) (by omega) (by omega) hB, mask_eq_bot, L.q, L.k, L.l0, L.g0]
  rfl

theorem upper_S0 (L : Loads p B 512 512 q o d k v l0 l1 g0 g1) (hB : B = 1024 * p.j + 0) (r s : Fin 512) :
    k0_pay56 (F := Ideal) q d k v (k0_pay46 d o) k0_pay47 k0_pay49 cols g0 l0 (ix2 r s) = p.S 0 (B + r) s := by
  pointwise [k0_pay56]
  simp only [upper_P0 L hB]
  pointwise [k0_pay54, k0_pay53, k0_pay51, k0_pay47, k0_pay46]
  simp only [select_lane0, L.o, L.d, L.v]
  rfl

theorem upper_v0 (L : Loads p B 512 512 q o d k v l0 l1 g0 g1) (hB : B = 1024 * p.j + 0) (a : Vec Ideal S512x128 .f32) (s : Fin 512) (l : Fin 128) :
    k0_pay57 (F := Ideal) q d k k0_pay47 k0_pay49 cols g0 l0 a (ix2 s l)
      = a (ix2 s l) + ∑ r : Fin 512, p.P 0 (B + r) s * only 0 (p.d (B + r)) l := by
  pointwise [k0_pay57]
  simp only [upper_P0 L hB]
  pointwise [k0_pay54, k0_pay53, k0_pay51, k0_pay47]
  simp only [select_lane0, L.d, only, mul_ite, mul_zero]

theorem upper_k0 (L : Loads p B 512 512 q o d k v l0 l1 g0 g1) (hB : B = 1024 * p.j + 0) (a : Vec Ideal S1x512x128 .f32) (s : Fin 512) (l : Fin 128) :
    k0_pay58 (F := Ideal) q (k0_pay51 k0_pay47) (k0_pay56 q d k v (k0_pay46 d o) k0_pay47 k0_pay49 cols g0 l0) a (ix3 0 s l)
      = a (ix3 0 s l) + ∑ r : Fin 512, p.S 0 (B + r) s * orOne 0 (p.q (B + r)) l := by
  pointwise [k0_pay58]
  simp only [upper_S0 L hB]
  pointwise [k0_pay51, k0_pay47]
  simp only [select_lane0, L.q]
  rfl

theorem upper_q0 (L : Loads p B 512 512 q o d k v l0 l1 g0 g1) (hB : B = 1024 * p.j + 0) (a : Vec Ideal S512x128 .f32) (r : Fin 512) (l : Fin 128) :
    k0_pay59 (F := Ideal) k (k0_pay52 k0_pay48) (k0_pay56 q d k v (k0_pay46 d o) k0_pay47 k0_pay49 cols g0 l0) a (ix2 r l)
      = a (ix2 r l) + ∑ s : Fin 512, p.S 0 (B + r) s * orOne 0 (p.k s) l := by
  pointwise [k0_pay59]
  simp only [upper_S0 L hB]
  pointwise [k0_pay52, k0_pay48]
  simp only [select_lane0, L.k]
  rfl

theorem upper_P1 (L : Loads p B 512 512 q o d k v l0 l1 g0 g1) (hB : B = 1024 * p.j + 0) (r s : Fin 512) :
    k0_pay66 (F := Ideal) (k0_pay65 q k k0_pay47 (k0_pay50 k0_pay49 cols) g1) l1 (ix2 r s) = p.P 1 (B + r) s := by
  pointwise [k0_pay66, k0_pay65, k0_pay62, k0_pay60, k0_pay50, k0_pay47, k0_pay49]
  simp only [select_lane1, select_past (m := 512) (by omega) (by omega) hB, mask_eq_bot, L.q, L.k, L.l1, L.g1]
  rfl

theorem upper_S1 (L : Loads p B 512 512 q o d k v l0 l1 g0 g1) (hB : B = 1024 * p.j + 0) (r s : Fin 512) :
    k0_pay67 (F := Ideal) v (k0_pay63 d k0_pay47) (k0_pay64 (k0_pay46 d o) k0_pay47) (k0_pay65 q k k0_pay47 (k0_pay50 k0_pay49 cols) g1) l1 (ix2 r s)
      = p.S 1 (B + r) s := by
  pointwise [k0_pay67]
  simp only [upper_P1 L hB]
  pointwise [k0_pay63, k0_pay64, k0_pay62, k0_pay60, k0_pay47, k0_pay46]
  simp only [select_lane1, L.o, L.d, L.v]
  rfl

theorem upper_v1 (L : Loads p B 512 512 q o d k v l0 l1 g0 g1) (hB : B = 1024 * p.j + 0) (a : Vec Ideal S512x128 .f32) (s : Fin 512) (l : Fin 128) :
    k0_pay68 (F := Ideal) (k0_pay63 d k0_pay47) (k0_pay65 q k k0_pay47 (k0_pay50 k0_pay49 cols) g1) l1 a (ix2 s l)
      = a (ix2 s l) + ∑ r : Fin 512, p.P 1 (B + r) s * only 1 (p.d (B + r)) l := by
  pointwise [k0_pay68]
  simp only [upper_P1 L hB]
  pointwise [k0_pay63, k0_pay62, k0_pay60, k0_pay47]
  simp only [select_lane1, L.d, only, mul_ite, mul_zero]

theorem upper_k1 (L : Loads p B 512 512 q o d k v l0 l1 g0 g1) (hB : B = 1024 * p.j + 0) (a : Vec Ideal S1x512x128 .f32) (s : Fin 512) (l : Fin 128) :
    k0_pay69 (F := Ideal) q v (k0_pay60 k0_pay47) (k0_pay63 d k0_pay47) (k0_pay64 (k0_pay46 d o) k0_pay47)
        (k0_pay65 q k k0_pay47 (k0_pay50 k0_pay49 cols) g1) l1 a (ix3 0 s l)
      = a (ix3 0 s l) + ∑ r : Fin 512, p.S 1 (B + r) s * orOne 1 (p.q (B + r)) l := by
  pointwise [k0_pay69]
  simp only [upper_S1 L hB]
  pointwise [k0_pay60, k0_pay47]
  simp only [select_lane1, L.q]
  rfl

theorem upper_q1 (L : Loads p B 512 512 q o d k v l0 l1 g0 g1) (hB : B = 1024 * p.j + 0) (a : Vec Ideal S512x128 .f32) (r : Fin 512) (l : Fin 128) :
    k0_pay70 (F := Ideal) k v (k0_pay61 k0_pay48) (k0_pay63 d k0_pay47) (k0_pay64 (k0_pay46 d o) k0_pay47)
        (k0_pay65 q k k0_pay47 (k0_pay50 k0_pay49 cols) g1) l1 a (ix2 r l)
      = a (ix2 r l) + ∑ s : Fin 512, p.S 1 (B + r) s * orOne 1 (p.k s) l := by
  pointwise [k0_pay70]
  simp only [upper_S1 L hB]
  pointwise [k0_pay61, k0_pay48]
  simp only [select_lane1, L.k]
  rfl

end Upper

section Lower

/-! ## The lower half of the diagonal tile -/

variable {p : Point} {B : ℕ} {q o d : Vec Ideal S512x128 .bf16} {k v : Vec Ideal S1024x128 .bf16} {l0 l1 : Vec Ideal S1x1x512x1 .f32} {g0 g1 : Vec Ideal S1x1x1x1024 .f32}

/-- The zero the body selects outside head 1. -/
abbrev zeroBf : Ideal .bf16 := Scalar.ofBits .bf16 0x0000#16

theorem lower_P0 (L : Loads p B 512 1024 q o d k v l0 l1 g0 g1) (hB : B = 1024 * p.j + 512) (r : Fin 512) (s : Fin 1024) :
    k0_pay81 (F := Ideal) (k0_pay79 lanes k q g0) (k0_pay80 l0) (ix2 r s) = p.P 0 (B + r) s := by
  pointwise [k0_pay81, k0_pay79, k0_pay80, k0_pay76, k0_pay74, k0_pay73, k0_pay72]
  simp only [select_lane0, select_past (m := 1024) (by omega) (by omega) hB, mask_eq_bot, L.q, L.k, L.l0, L.g0]
  rfl

theorem lower_S0 (L : Loads p B 512 1024 q o d k v l0 l1 g0 g1) (hB : B = 1024 * p.j + 512) (r : Fin 512) (s : Fin 1024) :
    k0_pay82 (F := Ideal) v (k0_pay77 lanes d) (k0_pay78 lanes d o) (k0_pay79 lanes k q g0) (k0_pay80 l0) (ix2 r s) = p.S 0 (B + r) s := by
  pointwise [k0_pay82]
  simp only [lower_P0 L hB]
  pointwise [k0_pay77, k0_pay78, k0_pay76, k0_pay74, k0_pay72, k0_pay71]
  simp only [select_lane0, L.o, L.d, L.v]
  rfl

theorem lower_v0 (L : Loads p B 512 1024 q o d k v l0 l1 g0 g1) (hB : B = 1024 * p.j + 512) (a : Vec Ideal S1024x128 .f32) (s : Fin 1024) (l : Fin 128) :
    k0_pay83 (F := Ideal) (k0_pay77 lanes d) (k0_pay79 lanes k q g0) (k0_pay80 l0) a (ix2 s l)
      = a (ix2 s l) + ∑ r : Fin 512, p.P 0 (B + r) s * only 0 (p.d (B + r)) l := by
  pointwise [k0_pay83]
  simp only [lower_P0 L hB]
  pointwise [k0_pay77, k0_pay76, k0_pay74, k0_pay72]
  simp only [select_lane0, L.d, only, mul_ite, mul_zero]

theorem lower_k0 (L : Loads p B 512 1024 q o d k v l0 l1 g0 g1) (hB : B = 1024 * p.j + 512) (a : Vec Ideal S1x1024x128 .f32) (s : Fin 1024) (l : Fin 128) :
    k0_pay84 (F := Ideal) v q (k0_pay74 lanes) (k0_pay77 lanes d) (k0_pay78 lanes d o) (k0_pay79 lanes k q g0) (k0_pay80 l0) a (ix3 0 s l)
      = a (ix3 0 s l) + ∑ r : Fin 512, p.S 0 (B + r) s * orOne 0 (p.q (B + r)) l := by
  pointwise [k0_pay84]
  simp only [lower_S0 L hB]
  pointwise [k0_pay74, k0_pay72]
  simp only [select_lane0, L.q]
  rfl

theorem lower_q0 (L : Loads p B 512 1024 q o d k v l0 l1 g0 g1) (hB : B = 1024 * p.j + 512) (a : Vec Ideal S512x128 .f32) (r : Fin 512) (l : Fin 128) :
    k0_pay85 (F := Ideal) k v (k0_pay75 lanes) (k0_pay77 lanes d) (k0_pay78 lanes d o) (k0_pay79 lanes k q g0) (k0_pay80 l0) a (ix2 r l)
      = a (ix2 r l) + ∑ s : Fin 1024, p.S 0 (B + r) s * orOne 0 (p.k s) l := by
  pointwise [k0_pay85]
  simp only [lower_S0 L hB]
  pointwise [k0_pay75]
  simp only [select_lane0, L.k]
  rfl

theorem lower_P1 (L : Loads p B 512 1024 q o d k v l0 l1 g0 g1) (hB : B = 1024 * p.j + 512) (r : Fin 512) (s : Fin 1024) :
    k0_pay90 (F := Ideal) k q k0_pay73 (k0_pay86 (k0_pay72 lanes)) zeroBf g1 l1 (ix2 r s) = p.P 1 (B + r) s := by
  pointwise [k0_pay90, k0_pay88, k0_pay86, k0_pay73, k0_pay72]
  simp only [select_lane1, select_past (m := 1024) (by omega) (by omega) hB, mask_eq_bot, L.q, L.k, L.l1, L.g1]
  rfl

theorem lower_S1 (L : Loads p B 512 1024 q o d k v l0 l1 g0 g1) (hB : B = 1024 * p.j + 512) (r : Fin 512) (s : Fin 1024) :
    k0_pay91 (F := Ideal) k v q d (k0_pay71 d o) k0_pay73 (k0_pay86 (k0_pay72 lanes)) zeroBf g1 l1 (ix2 r s) = p.S 1 (B + r) s := by
  pointwise [k0_pay91, k0_pay90, k0_pay89, k0_pay88, k0_pay86, k0_pay73, k0_pay72, k0_pay71]
  simp only [select_lane1, select_past (m := 1024) (by omega) (by omega) hB, mask_eq_bot, L.q, L.k, L.l1, L.g1, L.o, L.d, L.v]
  rfl

theorem lower_v1 (L : Loads p B 512 1024 q o d k v l0 l1 g0 g1) (hB : B = 1024 * p.j + 512) (a : Vec Ideal S1024x128 .f32) (s : Fin 1024) (l : Fin 128) :
    k0_pay92 (F := Ideal) k q d k0_pay73 (k0_pay86 (k0_pay72 lanes)) zeroBf g1 l1 a (ix2 s l)
      = a (ix2 s l) + ∑ r : Fin 512, p.P 1 (B + r) s * only 1 (p.d (B + r)) l := by
  have e : ∀ (r : Fin 512) (s : Fin 1024), _ = _ := fun r s => lower_P1 L hB r s
  unfold k0_pay92
  generalize k0_pay90 (F := Ideal) k q k0_pay73 (k0_pay86 (k0_pay72 lanes)) zeroBf g1 l1 = P at e ⊢
  pointwise [k0_pay89, k0_pay88, k0_pay86, k0_pay72]
  simp only [e, select_lane1, L.d, only, mul_ite, mul_zero]

theorem lower_k1 (L : Loads p B 512 1024 q o d k v l0 l1 g0 g1) (hB : B = 1024 * p.j + 512) (a : Vec Ideal S1x1024x128 .f32) (s : Fin 1024) (l : Fin 128) :
    k0_pay95 (F := Ideal) (k0_pay93 a) (k0_pay94 k v q d (k0_pay71 d o) k0_pay73 (k0_pay86 (k0_pay72 lanes)) zeroBf g1 l1) (ix3 0 s l)
      = a (ix3 0 s l) + ∑ r : Fin 512, p.S 1 (B + r) s * orOne 1 (p.q (B + r)) l := by
  have e : ∀ (r : Fin 512) (s : Fin 1024), _ = _ := fun r s => lower_S1 L hB r s
  unfold k0_pay94
  generalize k0_pay91 (F := Ideal) k v q d (k0_pay71 d o) k0_pay73 (k0_pay86 (k0_pay72 lanes)) zeroBf g1 l1 = S at e ⊢
  pointwise [k0_pay95, k0_pay93, k0_pay86, k0_pay72]
  simp only [e, select_lane1, L.q]
  rfl

theorem lower_q1 (L : Loads p B 512 1024 q o d k v l0 l1 g0 g1) (hB : B = 1024 * p.j + 512) (a : Vec Ideal S512x128 .f32) (r : Fin 512) (l : Fin 128) :
    k0_pay96 (F := Ideal) k (k0_pay87 lanes) (k0_pay91 k v q d (k0_pay71 d o) k0_pay73 (k0_pay86 (k0_pay72 lanes)) zeroBf g1 l1) a (ix2 r l)
      = a (ix2 r l) + ∑ s : Fin 1024, p.S 1 (B + r) s * orOne 1 (p.k s) l := by
  have e : ∀ (r : Fin 512) (s : Fin 1024), _ = _ := fun r s => lower_S1 L hB r s
  generalize k0_pay91 (F := Ideal) k v q d (k0_pay71 d o) k0_pay73 (k0_pay86 (k0_pay72 lanes)) zeroBf g1 l1 = S at e ⊢
  pointwise [k0_pay96, k0_pay87]
  simp only [e, select_lane1, L.k]
  rfl

end Lower

end Cert.KernelIdeal.Gen

end
-- ==== Proof.Blocks.lean ====
module

public import proofs.«01_k».proof.Proof.Payload
public import Idealize.ShloMosaic.Lib.VecWindow

@[expose] public section

set_option maxRecDepth 16384

noncomputable section

/-!
# One block's stores, as a step of the state

A block stores to four buffers. `Inv.block` reads those stores entry by entry, whatever the payloads, and gives the
state after the block from the state before it, when each stored entry is the entry held before plus the block's sum.
`Inv.upper`, `Inv.lower` and `Inv.full` are its three uses, with the printed payloads.
-/

namespace Cert.KernelIdeal.Gen

open Idealize.ShloMosaic Idealize.ShloMosaic.Tactic Cert.Fox

section Access

variable {κ : Kind} {sp : Space} {e : EltTy} {Val : EltTy → Type}

/-- A load of `n` whole rows from row `B` on, at an entry. -/
theorem read_rows {N M n B : ℕ} (v : View sig κ sp ⟨2, ![N, M]⟩ e) (f : v.ty.Contents Val) {off : Fin 2 → ℕ} (h : off = ![B, 0])
    (inb : ∀ a, off a + (![n, M] : Fin 2 → ℕ) a ≤ (⟨2, ![N, M]⟩ : Shape).size a) (r : Fin n) (l : Fin M) (hr : B + r.val < N) :
    v.readAt Val (Rect.unit (s := ⟨2, ![N, M]⟩) off ![n, M] inb).toLoadRect f (ix2 r l) = v.read Val f (ix2 ⟨B + r.val, hr⟩ l) := by
  subst h
  exact congrArg (v.read Val f) (funext fun a => Fin.ext (by
    match a with
    | ⟨0, _⟩ => show B + 1 * r.val = B + r.val; omega
    | ⟨1, _⟩ => show 0 + 1 * l.val = l.val; omega))

/-- A load of the first `n` rows of one plane, at an entry. -/
theorem read_plane {b' N M n : ℕ} (v : View sig κ sp ⟨3, ![b', N, M]⟩ e) (f : v.ty.Contents Val) (b : Fin b')
    (inb : ∀ a, (![b.val, 0, 0] : Fin 3 → ℕ) a + (![1, n, M] : Fin 3 → ℕ) a ≤ (⟨3, ![b', N, M]⟩ : Shape).size a) (s : Fin n) (l : Fin M) (hs : s.val < N) :
    v.readAt Val (Rect.unit (s := ⟨3, ![b', N, M]⟩) ![b.val, 0, 0] ![1, n, M] inb).toLoadRect f (ix3 0 s l) = v.read Val f (ix3 b ⟨s.val, hs⟩ l) :=
  congrArg (v.read Val f) (funext fun a => Fin.ext (by
    match a with
    | ⟨0, _⟩ => show b.val + 1 * 0 = b.val; omega
    | ⟨1, _⟩ => show 0 + 1 * s.val = s.val; omega
    | ⟨2, _⟩ => show 0 + 1 * l.val = l.val; omega))

/-- A store of `n` whole rows from row `B` on, at an entry. -/
theorem read_put_rows {N M n B : ℕ} (v : View sig κ sp ⟨2, ![N, M]⟩ e) (f : v.ty.Contents Val) {off : Fin 2 → ℕ} (h : off = ![B, 0])
    (inb : ∀ a, off a + (![n, M] : Fin 2 → ℕ) a ≤ (⟨2, ![N, M]⟩ : Shape).size a) (w : (⟨2, ![n, M]⟩ : Shape).Idx → Val e)
    (L : List (View.Piece Val ⟨2, ![N, M]⟩ e)) (R : Fin N) (l : Fin M) :
    v.read Val (v.writes Val f (⟨Rect.unit (s := ⟨2, ![N, M]⟩) off ![n, M] inb, w⟩ :: L)) (ix2 R l)
      = if h : B ≤ R.val ∧ R.val < B + n then w (ix2 ⟨R.val - B, by omega⟩ l) else v.read Val (v.writes Val f L) (ix2 R l) := by
  refine (congrFun (View.read_writes_cons_put v f inb w L h) (ix2 R l)).trans ?_
  unfold VecWindow.put
  by_cases hR : B ≤ R.val ∧ R.val < B + n
  · have hall : ∀ a : Fin 2, (![B, 0] : Fin 2 → ℕ) a ≤ ((ix2 R l : (⟨2, ![N, M]⟩ : Shape).Idx) a).val ∧ ((ix2 R l : (⟨2, ![N, M]⟩ : Shape).Idx) a).val < (![B, 0] : Fin 2 → ℕ) a + (![n, M] : Fin 2 → ℕ) a := by
      intro a
      match a with
      | ⟨0, _⟩ => exact hR
      | ⟨1, _⟩ => exact ⟨Nat.zero_le _, by have := l.isLt; show l.val < 0 + M; omega⟩
    rw [dif_pos hR]
    refine (dif_pos hall).trans (congrArg w (funext fun a => Fin.ext ?_))
    match a with
    | ⟨0, _⟩ => rfl
    | ⟨1, _⟩ => rfl
  · rw [dif_neg hR]
    exact dif_neg fun hall => hR (hall 0)

/-- A store of the first `n` rows of one plane, at an entry. -/
theorem read_put_plane {b' N M n : ℕ} (v : View sig κ sp ⟨3, ![b', N, M]⟩ e) (f : v.ty.Contents Val) (b : Fin b')
    (inb : ∀ a, (![b.val, 0, 0] : Fin 3 → ℕ) a + (![1, n, M] : Fin 3 → ℕ) a ≤ (⟨3, ![b', N, M]⟩ : Shape).size a) (w : (⟨3, ![1, n, M]⟩ : Shape).Idx → Val e)
    (L : List (View.Piece Val ⟨3, ![b', N, M]⟩ e)) (h : Fin b') (s : Fin N) (l : Fin M) :
    v.read Val (v.writes Val f (⟨Rect.unit (s := ⟨3, ![b', N, M]⟩) ![b.val, 0, 0] ![1, n, M] inb, w⟩ :: L)) (ix3 h s l)
      = if hc : h = b ∧ s.val < n then w (ix3 0 ⟨s.val, hc.2⟩ l) else v.read Val (v.writes Val f L) (ix3 h s l) := by
  refine (congrFun (View.read_writes_cons_put v f inb w L rfl) (ix3 h s l)).trans ?_
  unfold VecWindow.put
  by_cases hc : h = b ∧ s.val < n
  · have hall : ∀ a : Fin 3, (![b.val, 0, 0] : Fin 3 → ℕ) a ≤ ((ix3 h s l : (⟨3, ![b', N, M]⟩ : Shape).Idx) a).val
        ∧ ((ix3 h s l : (⟨3, ![b', N, M]⟩ : Shape).Idx) a).val < (![b.val, 0, 0] : Fin 3 → ℕ) a + (![1, n, M] : Fin 3 → ℕ) a := by
      intro a
      match a with
      | ⟨0, _⟩ => rw [hc.1]; exact ⟨Nat.le_refl _, Nat.lt_succ_self _⟩
      | ⟨1, _⟩ => exact ⟨Nat.zero_le _, by have := hc.2; show s.val < 0 + n; omega⟩
      | ⟨2, _⟩ => exact ⟨Nat.zero_le _, by have := l.isLt; show l.val < 0 + M; omega⟩
    rw [dif_pos hc]
    refine (dif_pos hall).trans (congrArg w (funext fun a => Fin.ext ?_))
    match a with
    | ⟨0, _⟩ => show h.val - b.val = 0; rw [hc.1]; omega
    | ⟨1, _⟩ => rfl
    | ⟨2, _⟩ => rfl
  · rw [dif_neg hc]
    refine dif_neg fun hall => hc ⟨Fin.ext ?_, ?_⟩
    · have : b.val ≤ h.val ∧ h.val < b.val + 1 := hall 0
      omega
    · have : 0 ≤ s.val ∧ s.val < 0 + n := hall 1
      omega

end Access

section Block

variable {κ : Kind} {sp : Space}
variable {v10 v11 : View sig κ sp S4096x128 .f32} {v15 : View sig κ sp S2x1024x128 .f32} {v16 : View sig κ sp S1024x128 .f32}
variable {f10 : v10.ty.Contents (Elt Ideal)} {f11 : v11.ty.Contents (Elt Ideal)} {f15 : v15.ty.Contents (Elt Ideal)} {f16 : v16.ty.Contents (Elt Ideal)}
variable {p : Point} {G0 G1 : ℕ → Fin 128 → EReal}

/-- The state read off the four buffers. -/
abbrev St (p : Point) (G0 G1 : ℕ → Fin 128 → EReal) (B : ℕ) (v10 v11 : View sig κ sp S4096x128 .f32) (v15 : View sig κ sp S2x1024x128 .f32) (v16 : View sig κ sp S1024x128 .f32)
    (f10 : v10.ty.Contents (Elt Ideal)) (f11 : v11.ty.Contents (Elt Ideal)) (f15 : v15.ty.Contents (Elt Ideal)) (f16 : v16.ty.Contents (Elt Ideal)) : Prop :=
  Inv p G0 G1 B (v10.read (Elt Ideal) f10) (v11.read (Elt Ideal) f11) (v15.read (Elt Ideal) f15) (v16.read (Elt Ideal) f16)

theorem St.at_rows {B B' : ℕ} (h : B = B') (hI : St p G0 G1 B v10 v11 v15 v16 f10 f11 f15 f16) : St p G0 G1 B' v10 v11 v15 v16 f10 f11 f15 f16 := h ▸ hI

/-- A block's stores carry the state over the block's rows. -/
theorem St.block {B n m : ℕ} (hI : St p G0 G1 B v10 v11 v15 v16 f10 f11 f15 f16) (hm : m ≤ 1024) (hn : B + n ≤ 4096)
    (hz : ∀ r s, r < n → m ≤ s → s < 1024 → B + r < s + 1024 * p.j)
    {off : Fin 2 → ℕ} (hoff : off = ![B, 0]) (inb : ∀ a, off a + (![n, 128] : Fin 2 → ℕ) a ≤ S4096x128.size a)
    (inb0 : ∀ a, (![0, 0, 0] : Fin 3 → ℕ) a + (![1, m, 128] : Fin 3 → ℕ) a ≤ S2x1024x128.size a)
    (inb1 : ∀ a, (![1, 0, 0] : Fin 3 → ℕ) a + (![1, m, 128] : Fin 3 → ℕ) a ≤ S2x1024x128.size a)
    (inbv : ∀ a, (![0, 0] : Fin 2 → ℕ) a + (![m, 128] : Fin 2 → ℕ) a ≤ S1024x128.size a)
    {w10 w11 : (⟨2, ![n, 128]⟩ : Shape).Idx → EReal} {w150 w151 : (⟨3, ![1, m, 128]⟩ : Shape).Idx → EReal} {w160 w161 : (⟨2, ![m, 128]⟩ : Shape).Idx → EReal}
    (h10 : ∀ (r : Fin n) (l : Fin 128), w10 (ix2 r l) = v10.read (Elt Ideal) f10 (ix2 ⟨B + r.val, by omega⟩ l) + ∑ s : Fin m, p.S 0 (B + r) s * orOne 0 (p.k s) l)
    (h11 : ∀ (r : Fin n) (l : Fin 128), w11 (ix2 r l) = v11.read (Elt Ideal) f11 (ix2 ⟨B + r.val, by omega⟩ l) + ∑ s : Fin m, p.S 1 (B + r) s * orOne 1 (p.k s) l)
    (h150 : ∀ (s : Fin m) (l : Fin 128), w150 (ix3 0 s l) = v15.read (Elt Ideal) f15 (ix3 0 ⟨s.val, by omega⟩ l) + ∑ r : Fin n, p.S 0 (B + r) s * orOne 0 (p.q (B + r)) l)
    (h151 : ∀ (s : Fin m) (l : Fin 128), w151 (ix3 0 s l) = v15.read (Elt Ideal) f15 (ix3 1 ⟨s.val, by omega⟩ l) + ∑ r : Fin n, p.S 1 (B + r) s * orOne 1 (p.q (B + r)) l)
    (h160 : ∀ (s : Fin m) (l : Fin 128), w160 (ix2 s l) = v16.read (Elt Ideal) f16 (ix2 ⟨s.val, by omega⟩ l) + ∑ r : Fin n, p.P 0 (B + r) s * only 0 (p.d (B + r)) l)
    (h161 : ∀ (s : Fin m) (l : Fin 128), w161 (ix2 s l) = w160 (ix2 s l) + ∑ r : Fin n, p.P 1 (B + r) s * only 1 (p.d (B + r)) l) :
    St p G0 G1 (B + n) v10 v11 v15 v16
      (v10.writes (Elt Ideal) f10 [⟨Rect.unit (s := S4096x128) off ![n, 128] inb, w10⟩])
      (v11.writes (Elt Ideal) f11 [⟨Rect.unit (s := S4096x128) off ![n, 128] inb, w11⟩])
      (v15.writes (Elt Ideal) f15 [⟨Rect.unit (s := S2x1024x128) ![1, 0, 0] ![1, m, 128] inb1, w151⟩, ⟨Rect.unit (s := S2x1024x128) ![0, 0, 0] ![1, m, 128] inb0, w150⟩])
      (v16.writes (Elt Ideal) f16 [⟨Rect.unit (s := S1024x128) ![0, 0] ![m, 128] inbv, w161⟩, ⟨Rect.unit (s := S1024x128) ![0, 0] ![m, 128] inbv, w160⟩]) := by
  refine Inv.step hI n m hm hz (fun s l => ?_) (fun h s l => ?_) (fun R l => ?_) (fun R l => ?_)
  · refine (read_put_rows v16 f16 rfl inbv w161 _ s l).trans ?_
    by_cases hs : s.val < m
    · rw [dif_pos ⟨Nat.zero_le _, by omega⟩, if_pos hs, h161, h160]; rfl
    · rw [dif_neg (by omega), if_neg hs]
      exact (read_put_rows v16 f16 rfl inbv w160 _ s l).trans (dif_neg (by omega))
  · refine (read_put_plane v15 f15 1 inb1 w151 _ h s l).trans ?_
    by_cases hs : s.val < m
    · rw [if_pos hs]
      match h with
      | ⟨0, _⟩ =>
        rw [dif_neg (by rintro ⟨h, -⟩; exact absurd (congrArg Fin.val h) (by show ¬ (0 : ℕ) = 1; omega))]
        refine (read_put_plane v15 f15 0 inb0 w150 _ 0 s l).trans ?_
        rw [dif_pos ⟨rfl, hs⟩, h150]; rfl
      | ⟨1, _⟩ =>
        rw [dif_pos ⟨rfl, hs⟩, h151]; rfl
    · rw [dif_neg (fun hc => hs hc.2), if_neg hs]
      exact (read_put_plane v15 f15 0 inb0 w150 _ h s l).trans (dif_neg fun hc => hs hc.2)
  · refine (read_put_rows v10 f10 hoff inb w10 _ R l).trans ?_
    by_cases hR : B ≤ R.val ∧ R.val < B + n
    · have e : B + (R.val - B) = R.val := by omega
      rw [dif_pos hR, if_pos hR, h10]
      simp only [e]
    · rw [dif_neg hR, if_neg hR]; rfl
  · refine (read_put_rows v11 f11 hoff inb w11 _ R l).trans ?_
    by_cases hR : B ≤ R.val ∧ R.val < B + n
    · have e : B + (R.val - B) = R.val := by omega
      rw [dif_pos hR, if_pos hR, h11]
      simp only [e]
    · rw [dif_neg hR, if_neg hR]; rfl

end Block

/-- What a grid point reads, from the blocks of the seven inputs it is given. -/
def pointOf (j : ℕ) (x0 : Vec Ideal S4096x128 .bf16) (x1 x2 : Vec Ideal S1024x128 .bf16) (x3 x4 : Vec Ideal S4096x128 .bf16)
    (x5 : Vec Ideal S1x2x4096x1 .f32) (x6 : Vec Ideal S1x2x1x1024 .f32) : Point where
  j := j
  q R l := if h : R < 4096 then x0 (ix2 ⟨R, h⟩ l) else 0
  k s l := if h : s < 1024 then x1 (ix2 ⟨s, h⟩ l) else 0
  v s l := if h : s < 1024 then x2 (ix2 ⟨s, h⟩ l) else 0
  o R l := if h : R < 4096 then x3 (ix2 ⟨R, h⟩ l) else 0
  d R l := if h : R < 4096 then x4 (ix2 ⟨R, h⟩ l) else 0
  lse t R := if h : R < 4096 then x5 (ix4 0 t ⟨R, h⟩ 0) else 0
  ck t s := if h : s < 1024 then x6 (ix4 0 t 0 ⟨s, h⟩) else 0

section Loaded

variable {arg3 : Memref sig .tc .vmem S4096x128 .bf16} {harg3 : arg3.IsWhole} {arg6 : Memref sig .tc .vmem S4096x128 .bf16} {harg6 : arg6.IsWhole}
variable {arg7 : Memref sig .tc .vmem S4096x128 .bf16} {harg7 : arg7.IsWhole} {arg8 : Memref sig .tc .vmem S1x2x4096x1 .f32} {harg8 : arg8.IsWhole}
variable {arg9 : Memref sig .tc .vmem S1x2x1x1024 .f32} {harg9 : arg9.IsWhole}
variable {x0 : Vec Ideal S4096x128 .bf16} {x1 x2 : Vec Ideal S1024x128 .bf16} {x3 x4 : Vec Ideal S4096x128 .bf16}
variable {x5 : Vec Ideal S1x2x4096x1 .f32} {x6 : Vec Ideal S1x2x1x1024 .f32}

/-- A load of rows of one head's column, at an entry. -/
theorem read_col {κ : Kind} {sp : Space} {e : EltTy} {Val : EltTy → Type} {n B : ℕ} (t : Fin 2) (v : View sig κ sp S1x2x4096x1 e) (f : v.ty.Contents Val)
    {off : Fin 4 → ℕ} (h : off = ![0, t.val, B, 0]) (inb : ∀ a, off a + (![1, 1, n, 1] : Fin 4 → ℕ) a ≤ S1x2x4096x1.size a) (r : Fin n) (hr : B + r.val < 4096) :
    v.readAt Val (Rect.unit (s := S1x2x4096x1) off ![1, 1, n, 1] inb).toLoadRect f (ix4 0 0 r 0) = v.read Val f (ix4 0 t ⟨B + r.val, hr⟩ 0) := by
  subst h
  exact congrArg (v.read Val f) (funext fun a => Fin.ext (by
    match a with
    | ⟨0, _⟩ => rfl
    | ⟨1, _⟩ => show t.val + 1 * 0 = t.val; omega
    | ⟨2, _⟩ => show B + 1 * r.val = B + r.val; omega
    | ⟨3, _⟩ => rfl))

/-- A load of the first entries of one head's row, at an entry. -/
theorem read_gate {κ : Kind} {sp : Space} {e : EltTy} {Val : EltTy → Type} {m : ℕ} (t : Fin 2) (v : View sig κ sp S1x2x1x1024 e) (f : v.ty.Contents Val)
    (inb : ∀ a, (![0, t.val, 0, 0] : Fin 4 → ℕ) a + (![1, 1, 1, m] : Fin 4 → ℕ) a ≤ S1x2x1x1024.size a) (s : Fin m) (hs : s.val < 1024) :
    v.readAt Val (Rect.unit (s := S1x2x1x1024) ![0, t.val, 0, 0] ![1, 1, 1, m] inb).toLoadRect f (ix4 0 0 0 s) = v.read Val f (ix4 0 t 0 ⟨s.val, hs⟩) :=
  congrArg (v.read Val f) (funext fun a => Fin.ext (by
    match a with
    | ⟨0, _⟩ => rfl
    | ⟨1, _⟩ => show t.val + 1 * 0 = t.val; omega
    | ⟨2, _⟩ => rfl
    | ⟨3, _⟩ => show 0 + 1 * s.val = s.val; omega))

/-- The loads of one block are the point's rows and keys. -/
theorem loads_of (j : ℕ) {B n m : ℕ} (hn : B + n ≤ 4096) (hm : m ≤ 1024) {off : Fin 2 → ℕ} {off0 off1 : Fin 4 → ℕ} (hoff : off = ![B, 0])
    (h0 : off0 = ![0, 0, B, 0]) (h1 : off1 = ![0, 1, B, 0])
    (inb : ∀ a, off a + (![n, 128] : Fin 2 → ℕ) a ≤ S4096x128.size a)
    (inb0 : ∀ a, off0 a + (![1, 1, n, 1] : Fin 4 → ℕ) a ≤ S1x2x4096x1.size a) (inb1 : ∀ a, off1 a + (![1, 1, n, 1] : Fin 4 → ℕ) a ≤ S1x2x4096x1.size a)
    (ing0 : ∀ a, (![0, 0, 0, 0] : Fin 4 → ℕ) a + (![1, 1, 1, m] : Fin 4 → ℕ) a ≤ S1x2x1x1024.size a)
    (ing1 : ∀ a, (![0, 1, 0, 0] : Fin 4 → ℕ) a + (![1, 1, 1, m] : Fin 4 → ℕ) a ≤ S1x2x1x1024.size a)
    {k v : (⟨2, ![m, 128]⟩ : Shape).Idx → EReal}
    (hk : ∀ (s : Fin m) (l : Fin 128), k (ix2 s l) = x1 (ix2 ⟨s.val, by omega⟩ l)) (hv : ∀ (s : Fin m) (l : Fin 128), v (ix2 s l) = x2 (ix2 ⟨s.val, by omega⟩ l)) :
    Loads (pointOf j x0 x1 x2 x3 x4 x5 x6) B n m
      (arg3.view.readAt (Elt Ideal) (Rect.unit (s := S4096x128) off ![n, 128] inb).toLoadRect (harg3.unread x0))
      (arg6.view.readAt (Elt Ideal) (Rect.unit (s := S4096x128) off ![n, 128] inb).toLoadRect (harg6.unread x3))
      (arg7.view.readAt (Elt Ideal) (Rect.unit (s := S4096x128) off ![n, 128] inb).toLoadRect (harg7.unread x4)) k v
      (arg8.view.readAt (Elt Ideal) (Rect.unit (s := S1x2x4096x1) off0 ![1, 1, n, 1] inb0).toLoadRect (harg8.unread x5))
      (arg8.view.readAt (Elt Ideal) (Rect.unit (s := S1x2x4096x1) off1 ![1, 1, n, 1] inb1).toLoadRect (harg8.unread x5))
      (arg9.view.readAt (Elt Ideal) (Rect.unit (s := S1x2x1x1024) ![0, 0, 0, 0] ![1, 1, 1, m] ing0).toLoadRect (harg9.unread x6))
      (arg9.view.readAt (Elt Ideal) (Rect.unit (s := S1x2x1x1024) ![0, 1, 0, 0] ![1, 1, 1, m] ing1).toLoadRect (harg9.unread x6)) where
  q r l := ((read_rows arg3.view _ hoff inb r l (by omega)).trans (congrFun (harg3.read_unread x0) _)).trans (by
    have hr : B + r.val < 4096 := by omega
    simp only [pointOf, dif_pos hr])
  o r l := ((read_rows arg6.view _ hoff inb r l (by omega)).trans (congrFun (harg6.read_unread x3) _)).trans (by
    have hr : B + r.val < 4096 := by omega
    simp only [pointOf, dif_pos hr])
  d r l := ((read_rows arg7.view _ hoff inb r l (by omega)).trans (congrFun (harg7.read_unread x4) _)).trans (by
    have hr : B + r.val < 4096 := by omega
    simp only [pointOf, dif_pos hr])
  k s l := (hk s l).trans (by
    have hs : s.val < 1024 := by omega
    simp only [pointOf, dif_pos hs])
  v s l := (hv s l).trans (by
    have hs : s.val < 1024 := by omega
    simp only [pointOf, dif_pos hs])
  l0 r := ((read_col 0 arg8.view _ h0 inb0 r (by omega)).trans (congrFun (harg8.read_unread x5) _)).trans (by
    have hr : B + r.val < 4096 := by omega
    simp only [pointOf, dif_pos hr])
  l1 r := ((read_col 1 arg8.view _ h1 inb1 r (by omega)).trans (congrFun (harg8.read_unread x5) _)).trans (by
    have hr : B + r.val < 4096 := by omega
    simp only [pointOf, dif_pos hr])
  g0 s := ((read_gate 0 arg9.view _ ing0 s (by omega)).trans (congrFun (harg9.read_unread x6) _)).trans (by
    have hs : s.val < 1024 := by omega
    simp only [pointOf, dif_pos hs])
  g1 s := ((read_gate 1 arg9.view _ ing1 s (by omega)).trans (congrFun (harg9.read_unread x6) _)).trans (by
    have hs : s.val < 1024 := by omega
    simp only [pointOf, dif_pos hs])

end Loaded

section Offsets

variable (i : grid0.Coords)

/-- The tile a point works on, one of four. -/
theorem tile_lt : (i 2).val < 4 := (i 2).isLt

theorem off1_eq (r : Fin 2) : k0_off1 i (BitVec.ofNat 32 (512 * r.val)) = ![1024 * (i 2).val + 512 * r.val, 0] := by
  have := tile_lt i
  unfold k0_off1
  generalize (i 2).val = j at *
  revert r
  interval_cases j <;> decide

theorem off2_eq (r : Fin 2) : k0_off2 i (BitVec.ofNat 32 (512 * r.val)) = ![0, 0, 1024 * (i 2).val + 512 * r.val, 0] := by
  have := tile_lt i
  unfold k0_off2
  generalize (i 2).val = j at *
  revert r
  interval_cases j <;> decide

theorem off3_eq (r : Fin 2) : k0_off3 i (BitVec.ofNat 32 (512 * r.val)) = ![0, 1, 1024 * (i 2).val + 512 * r.val, 0] := by
  have := tile_lt i
  unfold k0_off3
  generalize (i 2).val = j at *
  revert r
  interval_cases j <;> decide

theorem trips1 : (k0_t1_loop i).trips = 3 - (i 2).val := by
  have := tile_lt i
  unfold k0_t1_loop
  generalize (i 2).val = j at *
  interval_cases j <;> decide

theorem trips2 : (k0_t2_loop i).trips = 0 := by
  have := tile_lt i
  unfold k0_t2_loop
  generalize (i 2).val = j at *
  interval_cases j <;> decide

theorem off4_eq (k : Fin (k0_t1_loop i).trips) : k0_off4 i k = ![1024 * ((i 2).val + 1 + k.val), 0] := by
  have hj := tile_lt i
  have hk : k.val < 3 - (i 2).val := trips1 i ▸ k.isLt
  simp only [k0_off4]
  generalize k.val = n at *
  generalize (i 2).val = j at *
  have hn : n < 3 := by omega
  interval_cases j <;> interval_cases n <;> first | omega | decide

theorem off5_eq (k : Fin (k0_t1_loop i).trips) : k0_off5 i k = ![0, 0, 1024 * ((i 2).val + 1 + k.val), 0] := by
  have hj := tile_lt i
  have hk : k.val < 3 - (i 2).val := trips1 i ▸ k.isLt
  simp only [k0_off5]
  generalize k.val = n at *
  generalize (i 2).val = j at *
  have hn : n < 3 := by omega
  interval_cases j <;> interval_cases n <;> first | omega | decide

theorem off6_eq (k : Fin (k0_t1_loop i).trips) : k0_off6 i k = ![0, 1, 1024 * ((i 2).val + 1 + k.val), 0] := by
  have hj := tile_lt i
  have hk : k.val < 3 - (i 2).val := trips1 i ▸ k.isLt
  simp only [k0_off6]
  generalize k.val = n at *
  generalize (i 2).val = j at *
  have hn : n < 3 := by omega
  interval_cases j <;> interval_cases n <;> first | omega | decide

end Offsets

end Cert.KernelIdeal.Gen

end
-- ==== Proof.Strips.lean ====
module

public import proofs.«01_k».proof.Proof.Blocks

@[expose] public section

set_option maxRecDepth 16384

noncomputable section

/-!
# The three kinds of block

`St.block` with the payloads the body stores: the first and the second strip of the diagonal tile, and a tile below
the diagonal. The arrays added to (`a10 … a161`) are left open, as they are loaded at different moments of the body.
-/

namespace Cert.KernelIdeal.Gen

open Idealize.ShloMosaic Idealize.ShloMosaic.Tactic Cert.Fox

section Access

variable {κ : Kind} {sp : Space}

/-- What has just been stored to the first rows is what these rows hold. -/
theorem read_back {m : ℕ} (hm : m ≤ 1024) (v : View sig κ sp S1024x128 .f32) (f : v.ty.Contents (Elt Ideal))
    (inb inb' : ∀ a, (![0, 0] : Fin 2 → ℕ) a + (![m, 128] : Fin 2 → ℕ) a ≤ S1024x128.size a) (w : (⟨2, ![m, 128]⟩ : Shape).Idx → EReal)
    (L : List (View.Piece (Elt Ideal) S1024x128 .f32)) (s : Fin m) (l : Fin 128) :
    v.readAt (Elt Ideal) (Rect.unit (s := S1024x128) ![0, 0] ![m, 128] inb').toLoadRect
      (v.writes (Elt Ideal) f (⟨Rect.unit (s := S1024x128) ![0, 0] ![m, 128] inb, w⟩ :: L)) (ix2 s l) = w (ix2 s l) := by
  refine (read_rows v _ rfl inb' s l (by omega)).trans ((read_put_rows v f rfl inb w L _ l).trans ?_)
  rw [dif_pos ⟨Nat.zero_le _, by show 0 + s.val < 0 + m; omega⟩]
  exact congrArg w (congrArg₂ ix2 (Fin.ext (by show 0 + s.val - 0 = s.val; omega)) rfl)

/-- A load of the first rows. -/
theorem read_first {m : ℕ} {e : EltTy} (hm : m ≤ 1024) (v : View sig κ sp S1024x128 e) (f : v.ty.Contents (Elt Ideal))
    (inb' : ∀ a, (![0, 0] : Fin 2 → ℕ) a + (![m, 128] : Fin 2 → ℕ) a ≤ S1024x128.size a) (s : Fin m) (l : Fin 128) :
    v.readAt (Elt Ideal) (Rect.unit (s := S1024x128) ![0, 0] ![m, 128] inb').toLoadRect f (ix2 s l) = v.read (Elt Ideal) f (ix2 ⟨s.val, by omega⟩ l) :=
  (read_rows v _ rfl inb' s l (by omega)).trans (congrArg (v.read (Elt Ideal) f) (congrArg₂ ix2 (Fin.ext (by show 0 + s.val = s.val; omega)) rfl))

/-- A store to the first plane leaves the second. -/
theorem read_other {m : ℕ} (hm : m ≤ 1024) (v : View sig κ sp S2x1024x128 .f32) (f : v.ty.Contents (Elt Ideal))
    (inb : ∀ a, (![0, 0, 0] : Fin 3 → ℕ) a + (![1, m, 128] : Fin 3 → ℕ) a ≤ S2x1024x128.size a)
    (inb' : ∀ a, (![1, 0, 0] : Fin 3 → ℕ) a + (![1, m, 128] : Fin 3 → ℕ) a ≤ S2x1024x128.size a) (w : (⟨3, ![1, m, 128]⟩ : Shape).Idx → EReal)
    (L : List (View.Piece (Elt Ideal) S2x1024x128 .f32)) (s : Fin m) (l : Fin 128) :
    v.readAt (Elt Ideal) (Rect.unit (s := S2x1024x128) ![1, 0, 0] ![1, m, 128] inb').toLoadRect
      (v.writes (Elt Ideal) f (⟨Rect.unit (s := S2x1024x128) ![0, 0, 0] ![1, m, 128] inb, w⟩ :: L)) (ix3 0 s l)
      = v.read (Elt Ideal) (v.writes (Elt Ideal) f L) (ix3 1 ⟨s.val, by omega⟩ l) := by
  refine (read_plane v _ 1 inb' s l (by omega)).trans ((read_put_plane v f 0 inb w L 1 _ l).trans ?_)
  rw [dif_neg (by rintro ⟨h, -⟩; exact absurd (congrArg Fin.val h) (by show ¬ (1 : ℕ) = 0; omega))]

/-- The first 512 of the tile's keys. -/
theorem first_keys (x : Vec Ideal S1024x128 .bf16) (s : Fin 512) (l : Fin 128) : k0_pay44 (F := Ideal) x (ix2 s l) = x (ix2 ⟨s.val, by omega⟩ l) := by
  pointwise [k0_pay44]

/-- The first 512 of the tile's values. -/
theorem first_values (x : Vec Ideal S1024x128 .bf16) (s : Fin 512) (l : Fin 128) : k0_pay45 (F := Ideal) x (ix2 s l) = x (ix2 ⟨s.val, by omega⟩ l) := by
  pointwise [k0_pay45]

/-- The sums of the values' gradient, once cleared. -/
theorem zeros16 (v : View sig κ sp S1024x128 .f32) (f : v.ty.Contents (Elt Ideal)) (inb) (j : S1024x128.Idx) :
    v.read (Elt Ideal) (v.writes (Elt Ideal) f [⟨Rect.unit (s := S1024x128) ![0, 0] S1024x128.size inb, k0_pay43 (F := Ideal)⟩]) j = 0 := by
  refine (congrFun (View.read_writes_full v f inb _ []) j).trans ?_
  pointwise [k0_pay43]

/-- The sums of the keys' gradients, once cleared. -/
theorem zeros15 (v : View sig κ sp S2x1024x128 .f32) (f : v.ty.Contents (Elt Ideal)) (inb) (j : S2x1024x128.Idx) :
    v.read (Elt Ideal) (v.writes (Elt Ideal) f [⟨Rect.unit (s := S2x1024x128) ![0, 0, 0] S2x1024x128.size inb, k0_pay42 (F := Ideal)⟩]) j = 0 := by
  refine (congrFun (View.read_writes_full v f inb _ []) j).trans ?_
  pointwise [k0_pay42]

/-- The two heads' gradients of the queries, once cleared. -/
theorem zeros10 (v : View sig κ sp S4096x128 .f32) (f : v.ty.Contents (Elt Ideal)) (inb) (j : S4096x128.Idx) :
    v.read (Elt Ideal) (v.writes (Elt Ideal) f [⟨Rect.unit (s := S4096x128) ![0, 0] S4096x128.size inb, k0_pay40 (F := Ideal)⟩]) j = 0 := by
  refine (congrFun (View.read_writes_full v f inb _ []) j).trans ?_
  pointwise [k0_pay40]

theorem zeros11 (v : View sig κ sp S4096x128 .f32) (f : v.ty.Contents (Elt Ideal)) (inb) (j : S4096x128.Idx) :
    v.read (Elt Ideal) (v.writes (Elt Ideal) f [⟨Rect.unit (s := S4096x128) ![0, 0] S4096x128.size inb, k0_pay41 (F := Ideal)⟩]) j = 0 := by
  refine (congrFun (View.read_writes_full v f inb _ []) j).trans ?_
  pointwise [k0_pay41]

end Access

variable {κ : Kind} {sp : Space}
variable {v10 v11 : View sig κ sp S4096x128 .f32} {v15 : View sig κ sp S2x1024x128 .f32} {v16 : View sig κ sp S1024x128 .f32}
variable {f10 : v10.ty.Contents (Elt Ideal)} {f11 : v11.ty.Contents (Elt Ideal)} {f15 : v15.ty.Contents (Elt Ideal)} {f16 : v16.ty.Contents (Elt Ideal)}
variable {p : Point} {G0 G1 : ℕ → Fin 128 → EReal} {B B' : ℕ}

/-- The loads of what a block of `n` rows from row `B` on and the first `m` keys adds to. -/
structure Sums (n m : ℕ) (hn : B + n ≤ 4096) (hm : m ≤ 1024) (f10 : v10.ty.Contents (Elt Ideal)) (f11 : v11.ty.Contents (Elt Ideal))
    (f15 : v15.ty.Contents (Elt Ideal)) (f16 : v16.ty.Contents (Elt Ideal))
    (a10 a11 : (⟨2, ![n, 128]⟩ : Shape).Idx → EReal) (a150 a151 : (⟨3, ![1, m, 128]⟩ : Shape).Idx → EReal) (a160 a161 w160 : (⟨2, ![m, 128]⟩ : Shape).Idx → EReal) : Prop where
  h10 : ∀ (r : Fin n) (l : Fin 128), a10 (ix2 r l) = v10.read (Elt Ideal) f10 (ix2 ⟨B + r.val, by omega⟩ l)
  h11 : ∀ (r : Fin n) (l : Fin 128), a11 (ix2 r l) = v11.read (Elt Ideal) f11 (ix2 ⟨B + r.val, by omega⟩ l)
  h150 : ∀ (s : Fin m) (l : Fin 128), a150 (ix3 0 s l) = v15.read (Elt Ideal) f15 (ix3 0 ⟨s.val, by omega⟩ l)
  h151 : ∀ (s : Fin m) (l : Fin 128), a151 (ix3 0 s l) = v15.read (Elt Ideal) f15 (ix3 1 ⟨s.val, by omega⟩ l)
  h160 : ∀ (s : Fin m) (l : Fin 128), a160 (ix2 s l) = v16.read (Elt Ideal) f16 (ix2 ⟨s.val, by omega⟩ l)
  h161 : ∀ (s : Fin m) (l : Fin 128), a161 (ix2 s l) = w160 (ix2 s l)

section Upper

variable {q o d k v : Vec Ideal S512x128 .bf16} {l0 l1 : Vec Ideal S1x1x512x1 .f32} {g0 g1 : Vec Ideal S1x1x1x512 .f32}
variable {a10 a11 a160 a161 : Vec Ideal S512x128 .f32} {a150 a151 : Vec Ideal S1x512x128 .f32}

/-- The first strip of the diagonal tile: its 512 rows against the tile's first 512 keys. -/
theorem St.upper (L : Loads p B 512 512 q o d k v l0 l1 g0 g1) (hB : B = 1024 * p.j + 0) (hn : B + 512 ≤ 4096) (hB' : B' = B + 512)
    (hI : St p G0 G1 B v10 v11 v15 v16 f10 f11 f15 f16) {off : Fin 2 → ℕ} (hoff : off = ![B, 0]) (inb : ∀ a, off a + (![512, 128] : Fin 2 → ℕ) a ≤ S4096x128.size a)
    (inb0 : ∀ a, (![0, 0, 0] : Fin 3 → ℕ) a + (![1, 512, 128] : Fin 3 → ℕ) a ≤ S2x1024x128.size a)
    (inb1 : ∀ a, (![1, 0, 0] : Fin 3 → ℕ) a + (![1, 512, 128] : Fin 3 → ℕ) a ≤ S2x1024x128.size a)
    (inbv : ∀ a, (![0, 0] : Fin 2 → ℕ) a + (![512, 128] : Fin 2 → ℕ) a ≤ S1024x128.size a)
    (A : Sums (B := B) 512 512 hn (by omega) f10 f11 f15 f16 a10 a11 a150 a151 a160 a161 (k0_pay57 (F := Ideal) q d k k0_pay47 k0_pay49 cols g0 l0 a160)) :
    St p G0 G1 B' v10 v11 v15 v16
      (v10.writes (Elt Ideal) f10 [⟨Rect.unit (s := S4096x128) off ![512, 128] inb,
        k0_pay59 (F := Ideal) k (k0_pay52 k0_pay48) (k0_pay56 q d k v (k0_pay46 d o) k0_pay47 k0_pay49 cols g0 l0) a10⟩])
      (v11.writes (Elt Ideal) f11 [⟨Rect.unit (s := S4096x128) off ![512, 128] inb,
        k0_pay70 (F := Ideal) k v (k0_pay61 k0_pay48) (k0_pay63 d k0_pay47) (k0_pay64 (k0_pay46 d o) k0_pay47)
          (k0_pay65 q k k0_pay47 (k0_pay50 k0_pay49 cols) g1) l1 a11⟩])
      (v15.writes (Elt Ideal) f15 [⟨Rect.unit (s := S2x1024x128) ![1, 0, 0] ![1, 512, 128] inb1,
        k0_pay69 (F := Ideal) q v (k0_pay60 k0_pay47) (k0_pay63 d k0_pay47) (k0_pay64 (k0_pay46 d o) k0_pay47)
          (k0_pay65 q k k0_pay47 (k0_pay50 k0_pay49 cols) g1) l1 a151⟩,
        ⟨Rect.unit (s := S2x1024x128) ![0, 0, 0] ![1, 512, 128] inb0,
        k0_pay58 (F := Ideal) q (k0_pay51 k0_pay47) (k0_pay56 q d k v (k0_pay46 d o) k0_pay47 k0_pay49 cols g0 l0) a150⟩])
      (v16.writes (Elt Ideal) f16 [⟨Rect.unit (s := S1024x128) ![0, 0] ![512, 128] inbv,
        k0_pay68 (F := Ideal) (k0_pay63 d k0_pay47) (k0_pay65 q k k0_pay47 (k0_pay50 k0_pay49 cols) g1) l1 a161⟩,
        ⟨Rect.unit (s := S1024x128) ![0, 0] ![512, 128] inbv, k0_pay57 (F := Ideal) q d k k0_pay47 k0_pay49 cols g0 l0 a160⟩]) := by
  subst hB'
  exact St.block hI (by omega) hn (fun r s hr hs hs' => by omega) hoff inb inb0 inb1 inbv
    (fun r l => (upper_q0 L hB a10 r l).trans (by rw [A.h10])) (fun r l => (upper_q1 L hB a11 r l).trans (by rw [A.h11]))
    (fun s l => (upper_k0 L hB a150 s l).trans (by rw [A.h150])) (fun s l => (upper_k1 L hB a151 s l).trans (by rw [A.h151]))
    (fun s l => (upper_v0 L hB a160 s l).trans (by rw [A.h160])) (fun s l => (upper_v1 L hB a161 s l).trans (by rw [A.h161]))

end Upper

section Lower

variable {q o d : Vec Ideal S512x128 .bf16} {k v : Vec Ideal S1024x128 .bf16} {l0 l1 : Vec Ideal S1x1x512x1 .f32} {g0 g1 : Vec Ideal S1x1x1x1024 .f32}
variable {a10 a11 : Vec Ideal S512x128 .f32} {a160 a161 : Vec Ideal S1024x128 .f32} {a150 a151 : Vec Ideal S1x1024x128 .f32}

/-- The second strip of the diagonal tile: its last 512 rows against the tile's keys. -/
theorem St.lower (L : Loads p B 512 1024 q o d k v l0 l1 g0 g1) (hB : B = 1024 * p.j + 512) (hn : B + 512 ≤ 4096) (hB' : B' = B + 512)
    (hI : St p G0 G1 B v10 v11 v15 v16 f10 f11 f15 f16) {off : Fin 2 → ℕ} (hoff : off = ![B, 0]) (inb : ∀ a, off a + (![512, 128] : Fin 2 → ℕ) a ≤ S4096x128.size a)
    (inb0 : ∀ a, (![0, 0, 0] : Fin 3 → ℕ) a + (![1, 1024, 128] : Fin 3 → ℕ) a ≤ S2x1024x128.size a)
    (inb1 : ∀ a, (![1, 0, 0] : Fin 3 → ℕ) a + (![1, 1024, 128] : Fin 3 → ℕ) a ≤ S2x1024x128.size a)
    (inbv : ∀ a, (![0, 0] : Fin 2 → ℕ) a + (![1024, 128] : Fin 2 → ℕ) a ≤ S1024x128.size a)
    (A : Sums (B := B) 512 1024 hn (by omega) f10 f11 f15 f16 a10 a11 a150 a151 a160 a161 (k0_pay83 (F := Ideal) (k0_pay77 lanes d) (k0_pay79 lanes k q g0) (k0_pay80 l0) a160)) :
    St p G0 G1 B' v10 v11 v15 v16
      (v10.writes (Elt Ideal) f10 [⟨Rect.unit (s := S4096x128) off ![512, 128] inb,
        k0_pay85 (F := Ideal) k v (k0_pay75 lanes) (k0_pay77 lanes d) (k0_pay78 lanes d o) (k0_pay79 lanes k q g0) (k0_pay80 l0) a10⟩])
      (v11.writes (Elt Ideal) f11 [⟨Rect.unit (s := S4096x128) off ![512, 128] inb,
        k0_pay96 (F := Ideal) k (k0_pay87 lanes) (k0_pay91 k v q d (k0_pay71 d o) k0_pay73 (k0_pay86 (k0_pay72 lanes)) zeroBf g1 l1) a11⟩])
      (v15.writes (Elt Ideal) f15 [⟨Rect.unit (s := S2x1024x128) ![1, 0, 0] ![1, 1024, 128] inb1,
        k0_pay95 (F := Ideal) (k0_pay93 a151) (k0_pay94 k v q d (k0_pay71 d o) k0_pay73 (k0_pay86 (k0_pay72 lanes)) zeroBf g1 l1)⟩,
        ⟨Rect.unit (s := S2x1024x128) ![0, 0, 0] ![1, 1024, 128] inb0,
        k0_pay84 (F := Ideal) v q (k0_pay74 lanes) (k0_pay77 lanes d) (k0_pay78 lanes d o) (k0_pay79 lanes k q g0) (k0_pay80 l0) a150⟩])
      (v16.writes (Elt Ideal) f16 [⟨Rect.unit (s := S1024x128) ![0, 0] ![1024, 128] inbv,
        k0_pay92 (F := Ideal) k q d k0_pay73 (k0_pay86 (k0_pay72 lanes)) zeroBf g1 l1 a161⟩,
        ⟨Rect.unit (s := S1024x128) ![0, 0] ![1024, 128] inbv, k0_pay83 (F := Ideal) (k0_pay77 lanes d) (k0_pay79 lanes k q g0) (k0_pay80 l0) a160⟩]) := by
  subst hB'
  exact St.block hI (by omega) hn (fun r s hr hs hs' => by omega) hoff inb inb0 inb1 inbv
    (fun r l => (lower_q0 L hB a10 r l).trans (by rw [A.h10])) (fun r l => (lower_q1 L hB a11 r l).trans (by rw [A.h11]))
    (fun s l => (lower_k0 L hB a150 s l).trans (by rw [A.h150])) (fun s l => (lower_k1 L hB a151 s l).trans (by rw [A.h151]))
    (fun s l => (lower_v0 L hB a160 s l).trans (by rw [A.h160])) (fun s l => (lower_v1 L hB a161 s l).trans (by rw [A.h161]))

end Lower

section Full

variable {q o d k v : Vec Ideal S1024x128 .bf16} {l0 l1 : Vec Ideal S1x1x1024x1 .f32} {g0 g1 : Vec Ideal S1x1x1x1024 .f32}
variable {a10 a11 a160 a161 : Vec Ideal S1024x128 .f32} {a150 a151 : Vec Ideal S1x1024x128 .f32}

/-- A tile below the diagonal: 1024 rows against the tile's keys. -/
theorem St.full (L : Loads p B 1024 1024 q o d k v l0 l1 g0 g1) (hB : 1024 * (p.j + 1) ≤ B) (hn : B + 1024 ≤ 4096) (hB' : B' = B + 1024)
    (hI : St p G0 G1 B v10 v11 v15 v16 f10 f11 f15 f16) {off : Fin 2 → ℕ} (hoff : off = ![B, 0]) (inb : ∀ a, off a + (![1024, 128] : Fin 2 → ℕ) a ≤ S4096x128.size a)
    (inb0 : ∀ a, (![0, 0, 0] : Fin 3 → ℕ) a + (![1, 1024, 128] : Fin 3 → ℕ) a ≤ S2x1024x128.size a)
    (inb1 : ∀ a, (![1, 0, 0] : Fin 3 → ℕ) a + (![1, 1024, 128] : Fin 3 → ℕ) a ≤ S2x1024x128.size a)
    (inbv : ∀ a, (![0, 0] : Fin 2 → ℕ) a + (![1024, 128] : Fin 2 → ℕ) a ≤ S1024x128.size a)
    (A : Sums (B := B) 1024 1024 hn (by omega) f10 f11 f15 f16 a10 a11 a150 a151 a160 a161 (k0_pay9 (F := Ideal) (k0_pay6 lanes d) (k0_pay7 lanes k q g0 l0) a160)) :
    St p G0 G1 B' v10 v11 v15 v16
      (v10.writes (Elt Ideal) f10 [⟨Rect.unit (s := S4096x128) off ![1024, 128] inb, k0_pay11 (F := Ideal) k (k0_pay4 lanes) (k0_pay8 lanes k v q d o g0 l0) a10⟩])
      (v11.writes (Elt Ideal) f11 [⟨Rect.unit (s := S4096x128) off ![1024, 128] inb,
        k0_pay97 (F := Ideal) k (k0_pay13 lanes) (k0_pay18 k v q (k0_pay12 lanes) k0_pay14 (k0_pay15 lanes d) (k0_pay16 lanes (k0_pay2 d o)) g1 l1) a11⟩])
      (v15.writes (Elt Ideal) f15 [⟨Rect.unit (s := S2x1024x128) ![1, 0, 0] ![1, 1024, 128] inb1,
        k0_pay20 (F := Ideal) k v q (k0_pay12 lanes) k0_pay14 (k0_pay15 lanes d) (k0_pay16 lanes (k0_pay2 d o)) g1 l1 a151⟩,
        ⟨Rect.unit (s := S2x1024x128) ![0, 0, 0] ![1, 1024, 128] inb0, k0_pay10 (F := Ideal) q (k0_pay3 lanes) (k0_pay8 lanes k v q d o g0 l0) a150⟩])
      (v16.writes (Elt Ideal) f16 [⟨Rect.unit (s := S1024x128) ![0, 0] ![1024, 128] inbv,
        k0_pay19 (F := Ideal) k q (k0_pay12 lanes) k0_pay14 (k0_pay15 lanes d) g1 l1 a161⟩,
        ⟨Rect.unit (s := S1024x128) ![0, 0] ![1024, 128] inbv, k0_pay9 (F := Ideal) (k0_pay6 lanes d) (k0_pay7 lanes k q g0 l0) a160⟩]) := by
  subst hB'
  exact St.block hI (by omega) hn (fun r s hr hs hs' => by omega) hoff inb inb0 inb1 inbv
    (fun r l => (full_q0 L hB a10 r l).trans (by rw [A.h10])) (fun r l => (full_q1 L hB a11 r l).trans (by rw [A.h11]))
    (fun s l => (full_k0 L hB a150 s l).trans (by rw [A.h150])) (fun s l => (full_k1 L hB a151 s l).trans (by rw [A.h151]))
    (fun s l => (full_v0 L hB a160 s l).trans (by rw [A.h160])) (fun s l => (full_v1 L hB a161 s l).trans (by rw [A.h161]))

end Full

end Cert.KernelIdeal.Gen

end
-- ==== Proof.Loop.lean ====
module

public import proofs.«01_k».proof.Proof.Strips
public import proofs.«01_k».proof.Proof.Gen.KernelIdeal.Loops

@[expose] public section

set_option maxRecDepth 16384

noncomputable section

/-!
# The loop over the tiles below the diagonal

One trip is one block of 1024 rows (`trip_state`), so the loop carries the state from the end of the diagonal tile to
the example's last row (`loop_state`).
-/

namespace Cert.KernelIdeal.Gen

open Idealize.ShloMosaic Idealize.ShloMosaic.TcCoe Idealize.ShloMosaic.Tactic Cert.Fox

variable (𝒱 : Variants) (c : Dev nD) (bd : Option 𝒱.V) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (arg2 : BitVec 32) (k v : Vec Ideal S1024x128 .bf16) (v146 : BitVec 32) (v220 : IVec S1024x128 1) (v245 : FVec Ideal S512x1024 .bf16)
  (v254 : FVec Ideal S1024x128 .f32) (v257 : FVec Ideal S1024x128 .f32) (v271 : BitVec 32)
variable (x0 : Vec Ideal S4096x128 .bf16) (x1 x2 : Vec Ideal S1024x128 .bf16) (x3 x4 : Vec Ideal S4096x128 .bf16)
  (x5 : Vec Ideal S1x2x4096x1 .f32) (x6 : Vec Ideal S1x2x1x1024 .f32)
variable (f10 : arg10.view.ty.Contents (Elt Ideal)) (f11 : arg11.view.ty.Contents (Elt Ideal)) (f15 : arg15.view.ty.Contents (Elt Ideal)) (f16 : arg16.view.ty.Contents (Elt Ideal))
variable {G0 G1 : ℕ → Fin 128 → EReal}

/-- The four lists of stores of trip `t`, started from the given contents. -/
abbrev tripOf (t : Fin (k0_t1_loop i).trips) (f10 : arg10.view.ty.Contents (Elt Ideal)) (f11 : arg11.view.ty.Contents (Elt Ideal))
    (f15 : arg15.view.ty.Contents (Elt Ideal)) (f16 : arg16.view.ty.Contents (Elt Ideal)) :=
  tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16
      arg2 lanes k v v146 v220 v245 v254 v257 v271 (harg3.unread x0) (harg6.unread x3) (harg7.unread x4) (harg8.unread x5) (harg9.unread x6) t f10 f11 f15 f16

/-- The four lists of stores of the first `n` trips, started from the given contents. -/
abbrev tripsOf (n : ℕ) :=
  pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16
      arg2 lanes k v v146 v220 v245 v254 v257 v271 (harg3.unread x0) (harg6.unread x3) (harg7.unread x4) (harg8.unread x5) (harg9.unread x6) f10 f11 f15 f16 n

/-- One trip carries the state over the 1024 rows of its tile. -/
theorem trip_state (hk : ∀ (s : Fin 1024) (l : Fin 128), k (ix2 s l) = x1 (ix2 s l)) (hv : ∀ (s : Fin 1024) (l : Fin 128), v (ix2 s l) = x2 (ix2 s l))
    (t : Fin (k0_t1_loop i).trips)
    (hI : St (pointOf (i 2).val x0 x1 x2 x3 x4 x5 x6) G0 G1 (1024 * ((i 2).val + 1 + t.val)) arg10.view arg11.view arg15.view arg16.view f10 f11 f15 f16) :
    St (pointOf (i 2).val x0 x1 x2 x3 x4 x5 x6) G0 G1 (1024 * ((i 2).val + 1 + (t.val + 1))) arg10.view arg11.view arg15.view arg16.view
      (arg10.view.writes (Elt Ideal) f10 (tripOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 t f10 f11 f15 f16).1)
      (arg11.view.writes (Elt Ideal) f11 (tripOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 t f10 f11 f15 f16).2.1)
      (arg15.view.writes (Elt Ideal) f15 (tripOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 t f10 f11 f15 f16).2.2.1)
      (arg16.view.writes (Elt Ideal) f16 (tripOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 t f10 f11 f15 f16).2.2.2) := by
  have ht : t.val < 3 - (i 2).val := trips1 i ▸ t.isLt
  unfold tripOf tripL_k0_t1 trip_k0_t1
  exact St.full (loads_of (x1 := x1) (x2 := x2) (i 2).val (by omega) (by omega) (off4_eq i t) (off5_eq i t) (off6_eq i t) _ _ _ _ _ hk hv) (by show 1024 * ((i 2).val + 1) ≤ _; omega) (by omega) (by omega) hI
    (off4_eq i t) _ _ _ _
    { h10 := fun r l => read_rows _ _ (off4_eq i t) _ r l _
      h11 := fun r l => read_rows _ _ (off4_eq i t) _ r l _
      h150 := fun s l => read_plane _ _ 0 _ s l _
      h151 := fun s l => read_plane _ _ 1 _ s l _
      h160 := fun s l => read_first (by omega) _ _ _ s l
      h161 := fun s l => read_back (by omega) _ _ _ _ _ [] s l }

/-- The first `n` trips carry the state over the rows of `n` tiles. -/
theorem loop_state (hk : ∀ (s : Fin 1024) (l : Fin 128), k (ix2 s l) = x1 (ix2 s l)) (hv : ∀ (s : Fin 1024) (l : Fin 128), v (ix2 s l) = x2 (ix2 s l))
    (hI : St (pointOf (i 2).val x0 x1 x2 x3 x4 x5 x6) G0 G1 (1024 * ((i 2).val + 1)) arg10.view arg11.view arg15.view arg16.view f10 f11 f15 f16)
    (n : ℕ) (hn : n ≤ (k0_t1_loop i).trips) :
    St (pointOf (i 2).val x0 x1 x2 x3 x4 x5 x6) G0 G1 (1024 * ((i 2).val + 1 + n)) arg10.view arg11.view arg15.view arg16.view
      (arg10.view.writes (Elt Ideal) f10 (tripsOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 f10 f11 f15 f16 n).1)
      (arg11.view.writes (Elt Ideal) f11 (tripsOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 f10 f11 f15 f16 n).2.1)
      (arg15.view.writes (Elt Ideal) f15 (tripsOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 f10 f11 f15 f16 n).2.2.1)
      (arg16.view.writes (Elt Ideal) f16 (tripsOf 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x3 x4 x5 x6 f10 f11 f15 f16 n).2.2.2) := by
  induction n with
  | zero => exact hI
  | succ n ih =>
    have h := trip_state 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 k v v146 v220 v245 v254 v257 v271 x0 x1 x2 x3 x4 x5 x6 _ _ _ _ hk hv ⟨n, hn⟩ (ih (by omega))
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16  arg2 lanes k v v146 v220 v245 v254 v257 v271
      (harg3.unread x0) (harg6.unread x3) (harg7.unread x4) (harg8.unread x5) (harg9.unread x6) f10 f11 f15 f16 ⟨n, hn⟩
    simp only [tripsOf]
    rw [e]
    simp only [View.writes_append]
    exact h

end Cert.KernelIdeal.Gen

end
-- ==== Proof.StateAdd.lean ====
module

public import proofs.«01_k».proof.Proof.RunAdd
public import proofs.«01_k».proof.Proof.Loop

@[expose] public section

set_option maxRecDepth 16384

noncomputable section

namespace Cert.KernelIdeal.Gen

open Idealize.ShloMosaic Idealize.ShloMosaic.TcCoe Idealize.ShloMosaic.Tactic Cert.Fox

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec Ideal S4096x128 .bf16) (x1 : Vec Ideal S1024x128 .bf16) (x2 : Vec Ideal S1024x128 .bf16) (x3 : Vec Ideal S4096x128 .bf16) (x4 : Vec Ideal S4096x128 .bf16)
  (x5 : Vec Ideal S1x2x4096x1 .f32) (x6 : Vec Ideal S1x2x1x1024 .f32)
variable (f10 : arg10.view.ty.Contents (Elt Ideal))
variable (f11 : arg11.view.ty.Contents (Elt Ideal))
variable (f12 : arg12.view.ty.Contents (Elt Ideal))
variable (f13 : arg13.view.ty.Contents (Elt Ideal))
variable (f14 : arg14.view.ty.Contents (Elt Ideal))
variable (f15 : arg15.view.ty.Contents (Elt Ideal))
variable (f16 : arg16.view.ty.Contents (Elt Ideal))

set_option maxHeartbeats 4000000 in
/-- The state the run leaves, with every row met. -/
theorem runAdd_state (hc0 : ¬ cond0_0 i) {G0 G1 : ℕ → Fin 128 → EReal}
    (h0 : ∀ (R : Fin 4096) (l : Fin 128), arg10.view.read (Elt Ideal) f10 (ix2 R l) = G0 R l)
    (h1 : ∀ (R : Fin 4096) (l : Fin 128), arg11.view.read (Elt Ideal) f11 (ix2 R l) = G1 R l) :
    St (pointOf (i 2).val x0 x1 x2 x3 x4 x5 x6) G0 G1 4096 arg10.view arg11.view arg15.view arg16.view
      (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).1
      (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.1
      (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.2.1
      (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.2.2.1 := by
  have hj := tile_lt i
  have e1 : Scf.trips (k0_t1_loop i).lb (k0_t1_loop i).ub (k0_t1_loop i).st = 3 - (i 2).val := trips1 i
  have e2 : Scf.trips (k0_t2_loop i).lb (k0_t2_loop i).ub (k0_t2_loop i).st = 0 := trips2 i
  dsimp only at e1 e2
  have hk (s : Fin 1024) (l : Fin 128) : arg4.view.readAt (Elt Ideal) (Rect.unit (s := S1024x128) ![0, 0] ![1024, 128] inb_S1024x128_S1024x128_0_0).toLoadRect (harg4.unread x1) (ix2 s l) = x1 (ix2 s l) :=
    (read_first (by omega) arg4.view (harg4.unread x1) _ s l).trans (congrFun (harg4.read_unread x1) _)
  have hv (s : Fin 1024) (l : Fin 128) : arg5.view.readAt (Elt Ideal) (Rect.unit (s := S1024x128) ![0, 0] ![1024, 128] inb_S1024x128_S1024x128_0_0).toLoadRect (harg5.unread x2) (ix2 s l) = x2 (ix2 s l) :=
    (read_first (by omega) arg5.view (harg5.unread x2) _ s l).trans (congrFun (harg5.read_unread x2) _)
  have hk0 (s : Fin 512) (l : Fin 128) : k0_pay44 (arg4.view.readAt (Elt Ideal) (Rect.unit (s := S1024x128) ![0, 0] ![1024, 128] inb_S1024x128_S1024x128_0_0).toLoadRect (harg4.unread x1)) (ix2 s l)
      = x1 (ix2 ⟨s.val, by omega⟩ l) := (first_keys _ s l).trans (hk _ l)
  have hv0 (s : Fin 512) (l : Fin 128) : k0_pay45 (arg5.view.readAt (Elt Ideal) (Rect.unit (s := S1024x128) ![0, 0] ![1024, 128] inb_S1024x128_S1024x128_0_0).toLoadRect (harg5.unread x2)) (ix2 s l)
      = x2 (ix2 ⟨s.val, by omega⟩ l) := (first_values _ s l).trans (hv _ l)
  have a1 : k0_off1 i 0#32 = ![1024 * (i 2).val + 0, 0] := off1_eq i 0
  have b1 : k0_off1 i 512#32 = ![1024 * (i 2).val + 512, 0] := off1_eq i 1
  have L0 := loads_of (harg3 := harg3) (harg6 := harg6) (harg7 := harg7) (harg8 := harg8) (harg9 := harg9) (x0 := x0) (x1 := x1) (x2 := x2) (x3 := x3) (x4 := x4) (x5 := x5) (x6 := x6)
    (i 2).val (n := 512) (m := 512) (by omega) (by omega) a1 (off2_eq i 0) (off3_eq i 0) (k0_off1_inb i 0) (k0_off2_inb i 0) (k0_off3_inb i 0) inb_S1x2x1x1024_S1x1x1x512_0_0_0_0 inb_S1x2x1x1024_S1x1x1x512_0_1_0_0 hk0 hv0
  have L1 := loads_of (harg3 := harg3) (harg6 := harg6) (harg7 := harg7) (harg8 := harg8) (harg9 := harg9) (x0 := x0) (x1 := x1) (x2 := x2) (x3 := x3) (x4 := x4) (x5 := x5) (x6 := x6)
    (i 2).val (n := 512) (m := 1024) (by omega) (by omega) b1 (off2_eq i 1) (off3_eq i 1) (k0_off1_inb i 1) (k0_off2_inb i 1) (k0_off3_inb i 1) inb_S1x2x1x1024_S1x1x1x1024_0_0_0_0 inb_S1x2x1x1024_S1x1x1x1024_0_1_0_0 hk hv
  unfold runAdd
  dsimp only
  simp only [e1, e2, pb_k0_t2, List.nil_append, View.writes_append]
  refine St.at_rows (B := 1024 * ((i 2).val + 1 + (3 - (i 2).val))) (by omega) ?_
  refine loop_state _ _ _ _ _ _ _ _ _ _ _ _ _ _ _ _ _ _ _ _ _ _ _ _ _ _ _ _ _ _ _ _ _ _ _ _ _ _ _ _ _ x0 x1 x2 x3 x4 x5 x6
    (arg10.view.writes (Elt Ideal) f10 [_, _]) (arg11.view.writes (Elt Ideal) f11 [_, _]) _ _ hk hv ?_ _ (trips1 i).ge
  have start : St (pointOf (i 2).val x0 x1 x2 x3 x4 x5 x6) G0 G1 (1024 * (i 2).val + 0) arg10.view arg11.view arg15.view arg16.view
      f10 f11
      (arg15.view.writes (Elt Ideal) arg15.view.junk [⟨Rect.unit (s := S2x1024x128) ![0, 0, 0] S2x1024x128.size inb_S2x1024x128_S2x1024x128_0_0_0, k0_pay42 (F := Ideal)⟩])
      (arg16.view.writes (Elt Ideal) arg16.view.junk [⟨Rect.unit (s := S1024x128) ![0, 0] S1024x128.size inb_S1024x128_S1024x128_0_0, k0_pay43 (F := Ideal)⟩]) :=
    Inv.start _ _ _ G0 G1 _ _ h0 h1 (fun j => zeros15 _ _ _ j) (fun j => zeros16 _ _ _ j)
  refine St.lower (f10 := arg10.view.writes (Elt Ideal) f10 [_]) (f11 := arg11.view.writes (Elt Ideal) f11 [_]) (f15 := arg15.view.writes (Elt Ideal) arg15.view.junk [_, _, _])
    (f16 := arg16.view.writes (Elt Ideal) arg16.view.junk [_, _, _]) L1 rfl (by omega) (by omega) ?_ b1 _ _ _ _ ?_
  · refine St.upper L0 rfl (by omega) (by omega) start a1 _ _ _ _ ?_
    exact {
      h10 := fun r l => read_rows _ _ a1 _ r l _
      h11 := fun r l => read_rows _ _ a1 _ r l _
      h150 := fun s l => read_plane _ _ 0 _ s l _
      h151 := fun s l => read_other (by omega) _ _ _ _ _ _ s l
      h160 := fun s l => read_first (by omega) _ _ _ s l
      h161 := fun s l => read_back (by omega) _ _ _ _ _ [] s l }
  · exact {
      h10 := fun r l => by
        refine (read_rows _ _ b1 _ r l (by omega)).trans ?_
        refine ((read_put_rows arg10.view f10 a1 _ _ [] _ _).trans (dif_neg ?_)).symm
        intro h
        have h2 := h.2
        dsimp only at h2
        omega
      h11 := fun r l => by
        refine (read_rows _ _ b1 _ r l (by omega)).trans ?_
        refine ((read_put_rows arg11.view f11 a1 _ _ [] _ _).trans (dif_neg ?_)).symm
        intro h
        have h2 := h.2
        dsimp only at h2
        omega
      h150 := fun s l => read_plane _ _ 0 _ s l _
      h151 := fun s l => read_other (by omega) _ _ _ _ _ _ s l
      h160 := fun s l => read_first (by omega) _ _ _ s l
      h161 := fun s l => read_back (by omega) _ _ _ _ _ [] s l }

end Cert.KernelIdeal.Gen

end
-- ==== Proof.Finish.lean ====
module

public import proofs.«01_k».proof.Proof.Strips
public import proofs.«01_k».proof.Proof.Payload

@[expose] public section

noncomputable section

/-!
# What a grid point hands out

The vectors a point leaves in its five output blocks, and that the stores at the end of the body leave them once the
four arrays are in their last state.
-/

namespace Cert.KernelIdeal.Gen

open Idealize.ShloMosaic Cert.Fox

/-- The gradient of the queries of head `h` over the tiles met, this one added to `prev`. -/
def queriesOut (h : Fin 2) (p : Point) (prev : Vec Ideal S4096x128 .f32) : Vec Ideal S4096x128 .f32 := fun x => prev x + p.tq h (x 0).val (x 1)

/-- On each lane the sum over the queries for the head the lane belongs to: the gradient of the keys. -/
def keysOut (p : Point) : Vec Ideal S1024x128 .f32 := fun x =>
  if own 0 (x 1) then ∑ R ∈ Finset.range 4096, p.tk 0 (x 0).val (x 1) R else ∑ R ∈ Finset.range 4096, p.tk 1 (x 0).val (x 1) R

/-- The gradient of the values. -/
def valuesOut (p : Point) : Vec Ideal S1024x128 .f32 := fun x => ∑ R ∈ Finset.range 4096, p.tv (x 0).val (x 1) R

/-- On each lane the sum over the queries for the head the lane does not belong to: the gradient of the gates. -/
def gatesOut (p : Point) : Vec Ideal S1024x128 .f32 := fun x =>
  if own 0 (x 1) then ∑ R ∈ Finset.range 4096, p.tk 1 (x 0).val (x 1) R else ∑ R ∈ Finset.range 4096, p.tk 0 (x 0).val (x 1) R

/-- The rows of a block, by number. -/
def rowsOf (y : Vec Ideal S4096x128 .f32) (R : ℕ) (l : Fin 128) : EReal := if h : R < 4096 then y (ix2 ⟨R, h⟩ l) else 0

theorem rowsOf_apply (y : Vec Ideal S4096x128 .f32) (R : Fin 4096) (l : Fin 128) : rowsOf y R.val l = y (ix2 R l) := dif_pos R.isLt

theorem queriesOut_apply (h : Fin 2) (p : Point) (prev : Vec Ideal S4096x128 .f32) (R : Fin 4096) (l : Fin 128) :
    queriesOut h p prev (ix2 R l) = prev (ix2 R l) + p.tq h R.val l := rfl

theorem keysOut_apply (p : Point) (s : Fin 1024) (l : Fin 128) : keysOut p (ix2 s l)
    = if own 0 l then ∑ R ∈ Finset.range 4096, p.tk 0 s l R else ∑ R ∈ Finset.range 4096, p.tk 1 s l R := rfl

theorem valuesOut_apply (p : Point) (s : Fin 1024) (l : Fin 128) : valuesOut p (ix2 s l) = ∑ R ∈ Finset.range 4096, p.tv s l R := rfl

theorem gatesOut_apply (p : Point) (s : Fin 1024) (l : Fin 128) : gatesOut p (ix2 s l)
    = if own 0 l then ∑ R ∈ Finset.range 4096, p.tk 1 s l R else ∑ R ∈ Finset.range 4096, p.tk 0 s l R := rfl

/-- The selection between the two heads' sums for the keys. -/
theorem pick_own (a b : Vec Ideal S1x1024x128 .f32) (s : Fin 1024) (l : Fin 128) :
    k0_pay99 (F := Ideal) lanes a b (ix2 s l) = if own 0 l then a (ix3 0 s l) else b (ix3 0 s l) := by
  pointwise [k0_pay99, lanes]
  exact select_lane0 _ _ _

/-- The selection between the two heads' sums for the gates. -/
theorem pick_other (a b : Vec Ideal S1x1024x128 .f32) (s : Fin 1024) (l : Fin 128) :
    k0_pay1 (F := Ideal) (k0_pay100 lanes) a b (ix2 s l) = if own 0 l then a (ix3 0 s l) else b (ix3 0 s l) := by
  pointwise [k0_pay1, k0_pay100, lanes]
  exact select_lane0 _ _ _

section Stores

variable {κ : Kind} {sp : Space} {p : Point} {G0 G1 : ℕ → Fin 128 → EReal}
variable {v10 v11 : View sig κ sp S4096x128 .f32} {v15 : View sig κ sp S2x1024x128 .f32} {v16 : View sig κ sp S1024x128 .f32}
variable {f10 : v10.ty.Contents (Elt Ideal)} {f11 : v11.ty.Contents (Elt Ideal)} {f15 : v15.ty.Contents (Elt Ideal)} {f16 : v16.ty.Contents (Elt Ideal)}
variable (hI : St p G0 G1 4096 v10 v11 v15 v16 f10 f11 f15 f16)
variable (v : View sig κ sp S1024x128 .f32) (f : v.ty.Contents (Elt Ideal))
include hI

/-- The store of the keys' gradient. -/
theorem St.keys (inb) (inb0) (inb1) :
    v.read (Elt Ideal) (v.writes (Elt Ideal) f [⟨Rect.unit (s := S1024x128) ![0, 0] S1024x128.size inb, k0_pay99 (F := Ideal) lanes
      (v15.readAt (Elt Ideal) (Rect.unit (s := S2x1024x128) ![0, 0, 0] S1x1024x128.size inb0).toLoadRect f15)
      (v15.readAt (Elt Ideal) (Rect.unit (s := S2x1024x128) ![1, 0, 0] S1x1024x128.size inb1).toLoadRect f15)⟩]) = keysOut p := by
  refine (View.read_writes_full v f inb _ []).trans (funext fun x => ?_)
  obtain ⟨s, l, rfl⟩ : ∃ s l, x = ix2 s l := ⟨_, _, eq_ix2 x⟩
  refine (pick_own _ _ s l).trans ((if_congr Iff.rfl ?_ ?_).trans (keysOut_apply p s l).symm)
  · exact (read_plane (n := 1024) v15 f15 0 inb0 s l s.isLt).trans (hI.h15 0 s l)
  · exact (read_plane (n := 1024) v15 f15 1 inb1 s l s.isLt).trans (hI.h15 1 s l)

/-- The store of the gates' gradient. -/
theorem St.gates (inb) (inb0) (inb1) :
    v.read (Elt Ideal) (v.writes (Elt Ideal) f [⟨Rect.unit (s := S1024x128) ![0, 0] S1024x128.size inb, k0_pay1 (F := Ideal) (k0_pay100 lanes)
      (v15.readAt (Elt Ideal) (Rect.unit (s := S2x1024x128) ![1, 0, 0] S1x1024x128.size inb1).toLoadRect f15)
      (v15.readAt (Elt Ideal) (Rect.unit (s := S2x1024x128) ![0, 0, 0] S1x1024x128.size inb0).toLoadRect f15)⟩]) = gatesOut p := by
  refine (View.read_writes_full v f inb _ []).trans (funext fun x => ?_)
  obtain ⟨s, l, rfl⟩ : ∃ s l, x = ix2 s l := ⟨_, _, eq_ix2 x⟩
  refine (pick_other _ _ s l).trans ((if_congr Iff.rfl ?_ ?_).trans (gatesOut_apply p s l).symm)
  · exact (read_plane (n := 1024) v15 f15 1 inb1 s l s.isLt).trans (hI.h15 1 s l)
  · exact (read_plane (n := 1024) v15 f15 0 inb0 s l s.isLt).trans (hI.h15 0 s l)

/-- The store of the values' gradient. -/
theorem St.values (inb) (inb') :
    v.read (Elt Ideal) (v.writes (Elt Ideal) f [⟨Rect.unit (s := S1024x128) ![0, 0] S1024x128.size inb,
      v16.readAt (Elt Ideal) (Rect.unit (s := S1024x128) ![0, 0] S1024x128.size inb').toLoadRect f16⟩]) = valuesOut p := by
  refine (View.read_writes_full v f inb _ []).trans (funext fun x => ?_)
  obtain ⟨s, l, rfl⟩ : ∃ s l, x = ix2 s l := ⟨_, _, eq_ix2 x⟩
  exact (read_first (m := 1024) (by omega) v16 f16 inb' s l).trans ((hI.h16 s l).trans (valuesOut_apply p s l).symm)

/-- The queries' gradients of the first head. -/
theorem St.queries0 {prev : Vec Ideal S4096x128 .f32} (hG : ∀ (R : Fin 4096) (l : Fin 128), G0 R l = prev (ix2 R l)) :
    v10.read (Elt Ideal) f10 = queriesOut 0 p prev := by
  funext x
  obtain ⟨R, l, rfl⟩ : ∃ R l, x = ix2 R l := ⟨_, _, eq_ix2 x⟩
  rw [hI.h10 R l, if_pos R.isLt, hG, queriesOut_apply]

/-- The queries' gradients of the second head. -/
theorem St.queries1 {prev : Vec Ideal S4096x128 .f32} (hG : ∀ (R : Fin 4096) (l : Fin 128), G1 R l = prev (ix2 R l)) :
    v11.read (Elt Ideal) f11 = queriesOut 1 p prev := by
  funext x
  obtain ⟨R, l, rfl⟩ : ∃ R l, x = ix2 R l := ⟨_, _, eq_ix2 x⟩
  rw [hI.h11 R l, if_pos R.isLt, hG, queriesOut_apply]

end Stores

end Cert.KernelIdeal.Gen

end
-- ==== Proof.BodyAdd.lean ====
module

public import proofs.«01_k».proof.Proof.StateAdd
public import proofs.«01_k».proof.Proof.Finish

@[expose] public section

set_option maxRecDepth 16384

noncomputable section

/-!
# The triple of a grid point that adds to the queries' gradients
-/

namespace Cert.KernelIdeal.Gen

open Idealize.ShloMosaic Idealize.ShloMosaic.TcCoe Idealize.ShloMosaic.Tactic Cert.Fox
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec Ideal S4096x128 .bf16) (x1 : Vec Ideal S1024x128 .bf16) (x2 : Vec Ideal S1024x128 .bf16) (x3 : Vec Ideal S4096x128 .bf16) (x4 : Vec Ideal S4096x128 .bf16)
  (x5 : Vec Ideal S1x2x4096x1 .f32) (x6 : Vec Ideal S1x2x1x1024 .f32)

set_option maxHeartbeats 2000000 in
/-- From the inputs' blocks and the outputs' buffers, the point's outputs. -/
theorem bodyAdd (hc0 : ¬ cond0_0 i) (y0 y1 : Vec Ideal S4096x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y0 ∗ owns (c : Thread nD τ) arg11 fullShare y1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (queriesOut 0 (pointOf (i 2).val x0 x1 x2 x3 x4 x5 x6) y0) ∗ owns (c : Thread nD τ) arg11 fullShare (queriesOut 1 (pointOf (i 2).val x0 x1 x2 x3 x4 x5 x6) y1)
            ∗ owns (c : Thread nD τ) arg12 fullShare (keysOut (pointOf (i 2).val x0 x1 x2 x3 x4 x5 x6)) ∗ owns (c : Thread nD τ) arg13 fullShare (valuesOut (pointOf (i 2).val x0 x1 x2 x3 x4 x5 x6)) ∗ owns (c : Thread nD τ) arg14 fullShare (gatesOut (pointOf (i 2).val x0 x1 x2 x3 x4 x5 x6)) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9
  subst hf10; subst hf11
  have hS := (runAdd_state c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0
      (G0 := rowsOf (arg10.view.read (Elt Ideal) f10))
      (G1 := rowsOf (arg11.view.read (Elt Ideal) f11))
      (fun R l => (rowsOf_apply _ R l).symm) (fun R l => (rowsOf_apply _ R l).symm))
  have e10 := hS.queries0 (prev := arg10.view.read (Elt Ideal) f10) (fun R l => rowsOf_apply _ R l)
  have e11 := hS.queries1 (prev := arg11.view.read (Elt Ideal) f11) (fun R l => rowsOf_apply _ R l)
  have e12 : arg12.view.read (Elt Ideal) (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.1 = keysOut (pointOf (i 2).val x0 x1 x2 x3 x4 x5 x6) := hS.keys arg12.view f12 _ _ _
  have e13 : arg13.view.read (Elt Ideal) (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.1 = valuesOut (pointOf (i 2).val x0 x1 x2 x3 x4 x5 x6) := hS.values arg13.view f13 _ _
  have e14 : arg14.view.read (Elt Ideal) (runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.1 = gatesOut (pointOf (i 2).val x0 x1 x2 x3 x4 x5 x6) := hS.gates arg14.view f14 _ _ _
  iapply ((runAdd (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _, _; isplitr; swap; · iexact H15
    ipureintro; rfl
  iexists _, _; isplitr; swap; · iexact H16
  ipureintro; rfl

end Cert.KernelIdeal.Gen

end
-- ==== Proof.RunClear.lean ====
module

public import proofs.«01_k».proof.Proof.Setup

@[expose] public section

set_option maxRecDepth 16384

noncomputable section

/-!
# The body, run where it first clears the gradients of the queries

The run finds what each buffer holds at the end, as the list of the body's stores.
-/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec F S4096x128 .bf16) (x1 : Vec F S1024x128 .bf16) (x2 : Vec F S1024x128 .bf16) (x3 : Vec F S4096x128 .bf16) (x4 : Vec F S4096x128 .bf16)
  (x5 : Vec F S1x2x4096x1 .f32) (x6 : Vec F S1x2x1x1024 .f32)
variable (f10 : arg10.view.ty.Contents (Elt F))
variable (f11 : arg11.view.ty.Contents (Elt F))
variable (f12 : arg12.view.ty.Contents (Elt F))
variable (f13 : arg13.view.ty.Contents (Elt F))
variable (f14 : arg14.view.ty.Contents (Elt F))
variable (f15 : arg15.view.ty.Contents (Elt F))
variable (f16 : arg16.view.ty.Contents (Elt F))

set_option maxHeartbeats 1000000 in
/-- What the seven buffers the body stores to hold when it has run. -/
def runClear (hc0 : cond0_0 i) :
    Σ' (C10 : arg10.view.ty.Contents (Elt F)) (C11 : arg11.view.ty.Contents (Elt F)) (C12 : arg12.view.ty.Contents (Elt F)) (C13 : arg13.view.ty.Contents (Elt F)) (C14 : arg14.view.ty.Contents (Elt F)) (C15 : arg15.view.ty.Contents (Elt F)),
      { C16 : arg16.view.ty.Contents (Elt F) // ∀ (E : Set ℕ) (K : PUnit → sProp 𝕄),
        iprop((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg8.view.loc (c : Thread nD τ) ↦[arg8.view.set]{fullShare} (harg8.unread x5)) ∗ (arg9.view.loc (c : Thread nD τ) ↦[arg9.view.set]{fullShare} (harg9.unread x6)) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
            ∗ (iprop((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg8.view.loc (c : Thread nD τ) ↦[arg8.view.set]{fullShare} (harg8.unread x5)) ∗ (arg9.view.loc (c : Thread nD τ) ↦[arg9.view.set]{fullShare} (harg9.unread x6)) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16)) -∗ K ⟨⟩))
          ⊢ wp frame (wpE (defs₀ (F := F)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_fox_attn_bwd_eq_skeleton]; unfold cc0_fox_attn_bwd_skel
    simp only [k0_part7_eq_skeleton, k0_part8_eq_skeleton, k0_part9_eq_skeleton, k0_part10_eq_skeleton, k0_part11_eq_skeleton, k0_part12_eq_skeleton, k0_part13_eq_skeleton, k0_part14_eq_skeleton]
    iintro ⟨H3, H4, H5, H6, H7, H8, H9, H10, H11, H12, H13, H14, H15, H16, Hk⟩
    sl_exec (disch := first | sl_exact hc0)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Gen

end
-- ==== Proof.StateClear.lean ====
module

public import proofs.«01_k».proof.Proof.RunClear
public import proofs.«01_k».proof.Proof.Loop

@[expose] public section

set_option maxRecDepth 16384

noncomputable section

namespace Cert.KernelIdeal.Gen

open Idealize.ShloMosaic Idealize.ShloMosaic.TcCoe Idealize.ShloMosaic.Tactic Cert.Fox

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec Ideal S4096x128 .bf16) (x1 : Vec Ideal S1024x128 .bf16) (x2 : Vec Ideal S1024x128 .bf16) (x3 : Vec Ideal S4096x128 .bf16) (x4 : Vec Ideal S4096x128 .bf16)
  (x5 : Vec Ideal S1x2x4096x1 .f32) (x6 : Vec Ideal S1x2x1x1024 .f32)
variable (f10 : arg10.view.ty.Contents (Elt Ideal))
variable (f11 : arg11.view.ty.Contents (Elt Ideal))
variable (f12 : arg12.view.ty.Contents (Elt Ideal))
variable (f13 : arg13.view.ty.Contents (Elt Ideal))
variable (f14 : arg14.view.ty.Contents (Elt Ideal))
variable (f15 : arg15.view.ty.Contents (Elt Ideal))
variable (f16 : arg16.view.ty.Contents (Elt Ideal))

set_option maxHeartbeats 4000000 in
/-- The state the run leaves, with every row met. -/
theorem runClear_state (hc0 : cond0_0 i) {G0 G1 : ℕ → Fin 128 → EReal}
    (h0 : ∀ (R : Fin 4096) (l : Fin 128), G0 R l = 0) (h1 : ∀ (R : Fin 4096) (l : Fin 128), G1 R l = 0) :
    St (pointOf (i 2).val x0 x1 x2 x3 x4 x5 x6) G0 G1 4096 arg10.view arg11.view arg15.view arg16.view
      (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).1
      (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.1
      (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.2.1
      (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.2.2.1 := by
  have hj := tile_lt i
  have e1 : Scf.trips (k0_t1_loop i).lb (k0_t1_loop i).ub (k0_t1_loop i).st = 3 - (i 2).val := trips1 i
  have e2 : Scf.trips (k0_t2_loop i).lb (k0_t2_loop i).ub (k0_t2_loop i).st = 0 := trips2 i
  dsimp only at e1 e2
  have hk (s : Fin 1024) (l : Fin 128) : arg4.view.readAt (Elt Ideal) (Rect.unit (s := S1024x128) ![0, 0] ![1024, 128] inb_S1024x128_S1024x128_0_0).toLoadRect (harg4.unread x1) (ix2 s l) = x1 (ix2 s l) :=
    (read_first (by omega) arg4.view (harg4.unread x1) _ s l).trans (congrFun (harg4.read_unread x1) _)
  have hv (s : Fin 1024) (l : Fin 128) : arg5.view.readAt (Elt Ideal) (Rect.unit (s := S1024x128) ![0, 0] ![1024, 128] inb_S1024x128_S1024x128_0_0).toLoadRect (harg5.unread x2) (ix2 s l) = x2 (ix2 s l) :=
    (read_first (by omega) arg5.view (harg5.unread x2) _ s l).trans (congrFun (harg5.read_unread x2) _)
  have hk0 (s : Fin 512) (l : Fin 128) : k0_pay44 (arg4.view.readAt (Elt Ideal) (Rect.unit (s := S1024x128) ![0, 0] ![1024, 128] inb_S1024x128_S1024x128_0_0).toLoadRect (harg4.unread x1)) (ix2 s l)
      = x1 (ix2 ⟨s.val, by omega⟩ l) := (first_keys _ s l).trans (hk _ l)
  have hv0 (s : Fin 512) (l : Fin 128) : k0_pay45 (arg5.view.readAt (Elt Ideal) (Rect.unit (s := S1024x128) ![0, 0] ![1024, 128] inb_S1024x128_S1024x128_0_0).toLoadRect (harg5.unread x2)) (ix2 s l)
      = x2 (ix2 ⟨s.val, by omega⟩ l) := (first_values _ s l).trans (hv _ l)
  have a1 : k0_off1 i 0#32 = ![1024 * (i 2).val + 0, 0] := off1_eq i 0
  have b1 : k0_off1 i 512#32 = ![1024 * (i 2).val + 512, 0] := off1_eq i 1
  have L0 := loads_of (harg3 := harg3) (harg6 := harg6) (harg7 := harg7) (harg8 := harg8) (harg9 := harg9) (x0 := x0) (x1 := x1) (x2 := x2) (x3 := x3) (x4 := x4) (x5 := x5) (x6 := x6)
    (i 2).val (n := 512) (m := 512) (by omega) (by omega) a1 (off2_eq i 0) (off3_eq i 0) (k0_off1_inb i 0) (k0_off2_inb i 0) (k0_off3_inb i 0) inb_S1x2x1x1024_S1x1x1x512_0_0_0_0 inb_S1x2x1x1024_S1x1x1x512_0_1_0_0 hk0 hv0
  have L1 := loads_of (harg3 := harg3) (harg6 := harg6) (harg7 := harg7) (harg8 := harg8) (harg9 := harg9) (x0 := x0) (x1 := x1) (x2 := x2) (x3 := x3) (x4 := x4) (x5 := x5) (x6 := x6)
    (i 2).val (n := 512) (m := 1024) (by omega) (by omega) b1 (off2_eq i 1) (off3_eq i 1) (k0_off1_inb i 1) (k0_off2_inb i 1) (k0_off3_inb i 1) inb_S1x2x1x1024_S1x1x1x1024_0_0_0_0 inb_S1x2x1x1024_S1x1x1x1024_0_1_0_0 hk hv
  unfold runClear
  dsimp only
  simp only [e1, e2, pb_k0_t2, List.nil_append, View.writes_append]
  refine St.at_rows (B := 1024 * ((i 2).val + 1 + (3 - (i 2).val))) (by omega) ?_
  refine loop_state _ _ _ _ _ _ _ _ _ _ _ _ _ _ _ _ _ _ _ _ _ _ _ _ _ _ _ _ _ _ _ _ _ _ _ _ _ _ _ _ _ x0 x1 x2 x3 x4 x5 x6
    (arg10.view.writes (Elt Ideal) arg10.view.junk [_, _, _]) (arg11.view.writes (Elt Ideal) arg11.view.junk [_, _, _]) _ _ hk hv ?_ _ (trips1 i).ge
  have start : St (pointOf (i 2).val x0 x1 x2 x3 x4 x5 x6) G0 G1 (1024 * (i 2).val + 0) arg10.view arg11.view arg15.view arg16.view
      (arg10.view.writes (Elt Ideal) arg10.view.junk [⟨Rect.unit (s := S4096x128) ![0, 0] S4096x128.size inb_S4096x128_S4096x128_0_0, k0_pay40 (F := Ideal)⟩]) (arg11.view.writes (Elt Ideal) arg11.view.junk [⟨Rect.unit (s := S4096x128) ![0, 0] S4096x128.size inb_S4096x128_S4096x128_0_0, k0_pay41 (F := Ideal)⟩])
      (arg15.view.writes (Elt Ideal) arg15.view.junk [⟨Rect.unit (s := S2x1024x128) ![0, 0, 0] S2x1024x128.size inb_S2x1024x128_S2x1024x128_0_0_0, k0_pay42 (F := Ideal)⟩])
      (arg16.view.writes (Elt Ideal) arg16.view.junk [⟨Rect.unit (s := S1024x128) ![0, 0] S1024x128.size inb_S1024x128_S1024x128_0_0, k0_pay43 (F := Ideal)⟩]) :=
    Inv.start _ _ _ G0 G1 _ _ (fun R l => (zeros10 _ _ _ _).trans (h0 R l).symm) (fun R l => (zeros11 _ _ _ _).trans (h1 R l).symm) (fun j => zeros15 _ _ _ j) (fun j => zeros16 _ _ _ j)
  refine St.lower (f10 := arg10.view.writes (Elt Ideal) arg10.view.junk [_, _]) (f11 := arg11.view.writes (Elt Ideal) arg11.view.junk [_, _]) (f15 := arg15.view.writes (Elt Ideal) arg15.view.junk [_, _, _])
    (f16 := arg16.view.writes (Elt Ideal) arg16.view.junk [_, _, _]) L1 rfl (by omega) (by omega) ?_ b1 _ _ _ _ ?_
  · refine St.upper L0 rfl (by omega) (by omega) start a1 _ _ _ _ ?_
    exact {
      h10 := fun r l => read_rows _ _ a1 _ r l _
      h11 := fun r l => read_rows _ _ a1 _ r l _
      h150 := fun s l => read_plane _ _ 0 _ s l _
      h151 := fun s l => read_other (by omega) _ _ _ _ _ _ s l
      h160 := fun s l => read_first (by omega) _ _ _ s l
      h161 := fun s l => read_back (by omega) _ _ _ _ _ [] s l }
  · exact {
      h10 := fun r l => read_rows _ _ b1 _ r l _
      h11 := fun r l => read_rows _ _ b1 _ r l _
      h150 := fun s l => read_plane _ _ 0 _ s l _
      h151 := fun s l => read_other (by omega) _ _ _ _ _ _ s l
      h160 := fun s l => read_first (by omega) _ _ _ s l
      h161 := fun s l => read_back (by omega) _ _ _ _ _ [] s l }

end Cert.KernelIdeal.Gen

end
-- ==== Proof.BodyClear.lean ====
module

public import proofs.«01_k».proof.Proof.StateClear
public import proofs.«01_k».proof.Proof.Finish

@[expose] public section

set_option maxRecDepth 16384

noncomputable section

/-!
# The triple of a grid point that starts from cleared gradients of the queries
-/

namespace Cert.KernelIdeal.Gen

open Idealize.ShloMosaic Idealize.ShloMosaic.TcCoe Idealize.ShloMosaic.Tactic Cert.Fox
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
variable (arg3 : Memref sig .tc .vmem S4096x128 .bf16) (harg3 : arg3.IsWhole)
variable (arg4 : Memref sig .tc .vmem S1024x128 .bf16) (harg4 : arg4.IsWhole)
variable (arg5 : Memref sig .tc .vmem S1024x128 .bf16) (harg5 : arg5.IsWhole)
variable (arg6 : Memref sig .tc .vmem S4096x128 .bf16) (harg6 : arg6.IsWhole)
variable (arg7 : Memref sig .tc .vmem S4096x128 .bf16) (harg7 : arg7.IsWhole)
variable (arg8 : Memref sig .tc .vmem S1x2x4096x1 .f32) (harg8 : arg8.IsWhole)
variable (arg9 : Memref sig .tc .vmem S1x2x1x1024 .f32) (harg9 : arg9.IsWhole)
variable (arg10 : Memref sig .tc .vmem S4096x128 .f32) (harg10 : arg10.IsWhole)
variable (arg11 : Memref sig .tc .vmem S4096x128 .f32) (harg11 : arg11.IsWhole)
variable (arg12 : Memref sig .tc .vmem S1024x128 .f32) (harg12 : arg12.IsWhole)
variable (arg13 : Memref sig .tc .vmem S1024x128 .f32) (harg13 : arg13.IsWhole)
variable (arg14 : Memref sig .tc .vmem S1024x128 .f32) (harg14 : arg14.IsWhole)
variable (arg15 : Memref sig .tc .vmem S2x1024x128 .f32) (harg15 : arg15.IsWhole)
variable (arg16 : Memref sig .tc .vmem S1024x128 .f32) (harg16 : arg16.IsWhole)
variable (x0 : Vec Ideal S4096x128 .bf16) (x1 : Vec Ideal S1024x128 .bf16) (x2 : Vec Ideal S1024x128 .bf16) (x3 : Vec Ideal S4096x128 .bf16) (x4 : Vec Ideal S4096x128 .bf16)
  (x5 : Vec Ideal S1x2x4096x1 .f32) (x6 : Vec Ideal S1x2x1x1024 .f32)

set_option maxHeartbeats 2000000 in
/-- From the inputs' blocks and the outputs' buffers, the point's outputs. -/
theorem bodyClear (hc0 : cond0_0 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (queriesOut 0 (pointOf (i 2).val x0 x1 x2 x3 x4 x5 x6) (fun _ => 0)) ∗ owns (c : Thread nD τ) arg11 fullShare (queriesOut 1 (pointOf (i 2).val x0 x1 x2 x3 x4 x5 x6) (fun _ => 0))
            ∗ owns (c : Thread nD τ) arg12 fullShare (keysOut (pointOf (i 2).val x0 x1 x2 x3 x4 x5 x6)) ∗ owns (c : Thread nD τ) arg13 fullShare (valuesOut (pointOf (i 2).val x0 x1 x2 x3 x4 x5 x6)) ∗ owns (c : Thread nD τ) arg14 fullShare (gatesOut (pointOf (i 2).val x0 x1 x2 x3 x4 x5 x6)) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_fox_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9
  have hS := (runClear_state c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0
      (G0 := fun _ _ => 0)
      (G1 := fun _ _ => 0)
      (fun _ _ => rfl) (fun _ _ => rfl))
  have e10 := hS.queries0 (prev := fun _ => 0) (fun _ _ => rfl)
  have e11 := hS.queries1 (prev := fun _ => 0) (fun _ _ => rfl)
  have e12 : arg12.view.read (Elt Ideal) (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.1 = keysOut (pointOf (i 2).val x0 x1 x2 x3 x4 x5 x6) := hS.keys arg12.view f12 _ _ _
  have e13 : arg13.view.read (Elt Ideal) (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.1 = valuesOut (pointOf (i 2).val x0 x1 x2 x3 x4 x5 x6) := hS.values arg13.view f13 _ _
  have e14 : arg14.view.read (Elt Ideal) (runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.1 = gatesOut (pointOf (i 2).val x0 x1 x2 x3 x4 x5 x6) := hS.gates arg14.view f14 _ _ _
  iapply ((runClear (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f10 f11 f12 f13 f14 f15 f16 hc0).2.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H4, H5, H6, H7, H8, H9, H10, H11, H12, H13, H14, H15, H16⟩
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _, _; isplitr; swap; · iexact H15
    ipureintro; rfl
  iexists _, _; isplitr; swap; · iexact H16
  ipureintro; rfl

end Cert.KernelIdeal.Gen

end
-- ==== Proof.Launch.lean ====
module

public import proofs.«01_k».proof.Proof.BodyAdd
public import proofs.«01_k».proof.Proof.BodyClear
public import Idealize.ShloMosaic.Lib.Claim

@[expose] public section

set_option maxRecDepth 16384

noncomputable section

/-!
# The run of the kernel's program

What each output block holds after each grid point (`queriesAt` for the two that are carried along the tiles of an
example and pair of heads), the obligation on the body, and the run of the whole program.
-/

namespace Cert.KernelIdeal.Gen

open Idealize.ShloMosaic Idealize.ShloMosaic.TcCoe Idealize.ShloMosaic.Tactic Cert.Fox
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What grid point `t` reads. -/
def pointAt (c : Dev nD) (t : Fin cfg0.N) : Point :=
  pointOf (grid0.coords t 2).val (iblk m c 0 t) (iblk m c 1 t) (iblk m c 2 t) (iblk m c 3 t) (iblk m c 4 t) (iblk m c 5 t) (iblk m c 6 t)

/-- The gradient of the queries of head `h` after point `n`: the sum over the tiles met since the last clearing. -/
def queriesAt (c : Dev nD) (h : Fin 2) : (n : ℕ) → n < cfg0.N → Vec Ideal S4096x128 .f32
  | 0, hn => queriesOut h (pointAt m c ⟨0, hn⟩) (fun _ => 0)
  | n + 1, hn => queriesOut h (pointAt m c ⟨n + 1, hn⟩) (if (n + 1) % 4 = 0 then fun _ => 0 else queriesAt c h n (Nat.lt_of_succ_lt hn))

theorem queriesAt_clear (c : Dev nD) (h : Fin 2) (t : Fin cfg0.N) (h0 : t.val % 4 = 0) :
    queriesAt m c h t.val t.isLt = queriesOut h (pointAt m c t) (fun _ => 0) := by
  obtain ⟨n, hn⟩ := t
  cases n with
  | zero => rfl
  | succ n =>
    show queriesOut h _ (if (n + 1) % 4 = 0 then _ else _) = _
    rw [if_pos h0]

theorem queriesAt_add (c : Dev nD) (h : Fin 2) (t : Fin cfg0.N) (h0 : ¬ t.val % 4 = 0) :
    queriesAt m c h t.val t.isLt = queriesOut h (pointAt m c t) (queriesAt m c h (t.val - 1) (Nat.lt_of_le_of_lt (Nat.sub_le _ _) t.isLt)) := by
  obtain ⟨n, hn⟩ := t
  cases n with
  | zero => exact absurd rfl h0
  | succ n =>
    show queriesOut h _ (if (n + 1) % 4 = 0 then _ else _) = _
    rw [if_neg h0]
    rfl

/-- The run's data on core `c`: the arrays as the region finds them, the inputs' blocks left in place, the outputs at
    what the point hands out. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => queriesAt m c 0 t.val t.isLt
    | ⟨8, _⟩ => queriesAt m c 1 t.val t.isLt
    | ⟨9, _⟩ => keysOut (pointAt m c t)
    | ⟨10, _⟩ => valuesOut (pointAt m c t)
    | ⟨11, _⟩ => gatesOut (pointAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = queriesAt m c 0 t.val t.isLt := by dsimp only [dats]
theorem after0_8 (c : Dev nD) (t : Fin cfg0.N) : (dats m 0 c).after 8 t = queriesAt m c 1 t.val t.isLt := by dsimp only [dats]
theorem after0_9 (c : Dev nD) (t : Fin cfg0.N) : (dats m 0 c).after 9 t = keysOut (pointAt m c t) := by dsimp only [dats]
theorem after0_10 (c : Dev nD) (t : Fin cfg0.N) : (dats m 0 c).after 10 t = valuesOut (pointAt m c t) := by dsimp only [dats]
theorem after0_11 (c : Dev nD) (t : Fin cfg0.N) : (dats m 0 c).after 11 t = gatesOut (pointAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Past the first tile the queries' gradients are found as the point before left them. -/
theorem not_flushed (t : Fin cfg0.N) (h0 : ¬ t.val % 4 = 0) : t.val ≠ 0 ∧ ¬ (t.val - 1) % 4 = 3 := by omega

theorem before0_7 (c : Dev nD) (t : Fin cfg0.N) (h0 : ¬ t.val % 4 = 0) (d) :
    (dats m 0 c).before 7 t d = queriesAt m c 0 (t.val - 1) (Nat.lt_of_le_of_lt (Nat.sub_le _ _) t.isLt) :=
  ((dats m 0 c).before_out_kept 7 rfl t (not_flushed t h0).1
    (Bool.eq_false_iff.mpr fun hf => (not_flushed t h0).2 ((flush0_7 _).mp hf)) (fun _ => rfl) (fun _ _ => rfl) d).trans (after0_7 m c _)
theorem before0_8 (c : Dev nD) (t : Fin cfg0.N) (h0 : ¬ t.val % 4 = 0) (d) :
    (dats m 0 c).before 8 t d = queriesAt m c 1 (t.val - 1) (Nat.lt_of_le_of_lt (Nat.sub_le _ _) t.isLt) :=
  ((dats m 0 c).before_out_kept 8 rfl t (not_flushed t h0).1
    (Bool.eq_false_iff.mpr fun hf => (not_flushed t h0).2 ((flush0_8 _).mp hf)) (fun _ => rfl) (fun _ _ => rfl) d).trans (after0_8 m c _)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  by_cases h0 : t.val % 4 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    rw [queriesAt_clear m c 0 t h0, queriesAt_clear m c 1 t h0]
    iapply (bodyClear c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [before0_7 m c t h0, before0_8 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    rw [queriesAt_add m c 0 t h0, queriesAt_add m c 1 t h0]
    iapply (bodyAdd c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((hcond0_0 t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := Ideal) .tc cfg0.body (cfg0.bodyArgs t (cfg0.slots t)) = bodyAt0 t := by
  unfold defs₀; rw [Defs.onTc_tc]

/-- The obligation on the body, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

/-- The host operations after the kernel. -/
abbrev tail : List (List (HloOp τ sig (Elt Ideal))) := [hostOps1, hostOps1_1, hostOps1_2, hostOps1_3, hostOps1_4]

set_option backward.isDefEq.respectTransparency.types false in
set_option maxHeartbeats 800000 in
/-- The run, with the semaphores' counters at the end. -/
theorem run_main_quiescent : θ_run defs (onTc (τ := τ) (main (F := Ideal))) (s₀ m ρ)
    (fun r => Pipeline.FramePost cfgs (dats m) 0 (Pipeline.afterTail₀ cfgs (dats m) 0 (V0 m) tail) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) tail)) :=
  (θ_run defs _ _).mono (fun _ h => h.1) (run_main_quiescent m ρ)

/-- The kernel's program ends, with its arguments unchanged and every counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Softmax.lean ====
module

public import Idealize.ShloMosaic.Lib.Pointwise

@[expose] public section

noncomputable section

/-!
# The gradient of causal softmax attention over the reals

One head of one example: `n` rows of queries, keys, values and cotangents, and the rows' cumulative gates, all real
numbers. The module names the softmax weights and the gradient of the scores (`Head.weight`, `Head.grad`), and shows that
the two ways of computing them meet these: weights and row log-sums taken once and exponentiated again, and the
vector-Jacobian product of the softmax with its row maximum subtracted. Which number is subtracted before the exponential
does not matter; it only has to be a real number.
-/

namespace Cert.Fox

open Idealize.ShloMosaic

/-- The sum of real numbers read as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum of real numbers and `⊥`s, not all of them `⊥`, is a real number. -/
theorem max_real {n : ℕ} (f : Fin n → EReal) (hf : ∀ s, f s ≠ ⊤) (hr : ∃ s, f s ≠ ⊥) : ∃ r : ℝ, Finset.univ.fold max ⊥ f = (r : EReal) := by
  have hle : ∀ s, f s ≤ Finset.univ.fold max ⊥ f := fun s => (Finset.fold_max_le _).mp le_rfl |>.2 s (Finset.mem_univ _)
  have htop : Finset.univ.fold max ⊥ f ≠ ⊤ := by
    refine ne_of_lt ((Finset.fold_max_lt _).mpr ⟨bot_lt_top, fun s _ => lt_top_iff_ne_top.mpr (hf s)⟩)
  have hbot : Finset.univ.fold max ⊥ f ≠ ⊥ := by
    obtain ⟨s, hs⟩ := hr
    exact fun h => hs (le_bot_iff.mp (h ▸ hle s))
  exact ⟨_, (EReal.coe_toReal htop hbot).symm⟩

/-- The quotient of two real numbers. -/
theorem div_real {x y : ℝ} (hy : y ≠ 0) : Ideal.div (x : EReal) (y : EReal) = ((x / y : ℝ) : EReal) := by
  rw [Ideal.div_coe hy, ← EReal.coe_mul]; congr 1; ring

/-- One head of one example. -/
structure Head (n w : ℕ) where
  q : Fin n → Fin w → ℝ
  k : Fin n → Fin w → ℝ
  v : Fin n → Fin w → ℝ
  d : Fin n → Fin w → ℝ
  c : Fin n → ℝ

namespace Head

variable {n w : ℕ} (H : Head n w)

/-- The score of key `s` for query `r`, less the part that depends on the query's gate alone. -/
def score (r s : Fin n) : ℝ := ∑ l, H.q r l * H.k s l - H.c s

/-- The exponential of a score, zero for a key in the query's future. -/
def num (r s : Fin n) : ℝ := if s ≤ r then Real.exp (H.score r s) else 0

/-- The sum of a query's exponentials. -/
def mass (r : Fin n) : ℝ := ∑ s, H.num r s

/-- The softmax weight of key `s` for query `r`. -/
def weight (r s : Fin n) : ℝ := H.num r s / H.mass r

/-- The gradient of a weight. -/
def slope (r s : Fin n) : ℝ := ∑ l, H.d r l * H.v s l

/-- The row's output. -/
def out (r : Fin n) (l : Fin w) : ℝ := ∑ s, H.weight r s * H.v s l

/-- The gradient of a score. -/
def grad (r s : Fin n) : ℝ := H.weight r s * (H.slope r s - ∑ l, H.d r l * H.out r l)

theorem num_nonneg (r s : Fin n) : 0 ≤ H.num r s := by
  unfold num; split
  · exact (Real.exp_pos _).le
  · exact le_rfl

theorem mass_pos (r : Fin n) : 0 < H.mass r := by
  refine Finset.sum_pos' (fun s _ => H.num_nonneg r s) ⟨r, Finset.mem_univ _, ?_⟩
  rw [num, if_pos le_rfl]; exact Real.exp_pos _

theorem mean_eq (r : Fin n) : ∑ l, H.d r l * H.out r l = ∑ s, H.weight r s * H.slope r s := by
  simp only [out, slope, Finset.mul_sum]
  rw [Finset.sum_comm]
  exact Finset.sum_congr rfl fun s _ => Finset.sum_congr rfl fun l _ => by ring

/-- A score with the row's gate `a` added, or `⊥` in the future. -/
def masked (a : ℝ) (r s : Fin n) : EReal := if s ≤ r then ((H.score r s + a : ℝ) : EReal) else ⊥

/-- A row's maximum is a real number. -/
theorem max_masked (a : ℝ) (r : Fin n) : ∃ m : ℝ, Finset.univ.fold max ⊥ (H.masked a r) = (m : EReal) := by
  refine max_real _ (fun s => ?_) ⟨r, ?_⟩
  · unfold masked; split
    · exact EReal.coe_ne_top _
    · exact bot_ne_top
  · rw [masked, if_pos le_rfl]; exact EReal.coe_ne_bot _

/-- The exponential of a masked score less a real number. -/
theorem exp_masked (a m : ℝ) (r s : Fin n) : Ideal.exp (H.masked a r s - (m : EReal)) = ((Real.exp (a - m) * H.num r s : ℝ) : EReal) := by
  unfold masked num
  split
  · rw [← EReal.coe_sub, Ideal.exp_coe, ← Real.exp_add]; congr 2; ring
  · rw [sub_eq_add_neg, EReal.bot_add, Ideal.exp_bot, mul_zero, EReal.coe_zero]

/-- The sum of a row's exponentials. -/
theorem sum_exp_masked (a m : ℝ) (r : Fin n) : ∑ s, Ideal.exp (H.masked a r s - (m : EReal)) = ((Real.exp (a - m) * H.mass r : ℝ) : EReal) := by
  simp only [H.exp_masked a m]
  rw [coe_sum, mass, Finset.mul_sum]

/-- The weight is the quotient of the two. -/
theorem div_masked (a m : ℝ) (r s : Fin n) :
    Ideal.div (Ideal.exp (H.masked a r s - (m : EReal))) (∑ s, Ideal.exp (H.masked a r s - (m : EReal))) = ((H.weight r s : ℝ) : EReal) := by
  have hp := (H.mass_pos r).ne'
  have he := (Real.exp_pos (a - m)).ne'
  rw [H.exp_masked, H.sum_exp_masked, div_real (mul_ne_zero he hp), weight, mul_div_mul_left _ _ he]

/-- The row log-sum. -/
theorem log_masked (m : ℝ) (r : Fin n) :
    (m : EReal) + Ideal.log (∑ s, Ideal.exp (H.masked 0 r s - (m : EReal))) = ((Real.log (H.mass r) : ℝ) : EReal) := by
  have hp := H.mass_pos r
  have he := Real.exp_pos (0 - m)
  rw [H.sum_exp_masked, Ideal.log_coe, if_neg (not_le.mpr (mul_pos he hp)), Real.log_mul he.ne' hp.ne', Real.log_exp, ← EReal.coe_add]
  congr 1; ring

/-- The weight out of the row log-sum. -/
theorem exp_log (r s : Fin n) : Ideal.exp (H.masked 0 r s - ((Real.log (H.mass r) : ℝ) : EReal)) = ((H.weight r s : ℝ) : EReal) := by
  rw [H.exp_masked, weight, zero_sub, Real.exp_neg, Real.exp_log (H.mass_pos r)]
  congr 1; ring

/-- The gradient of a score out of the row's output. -/
theorem grad_of_out (r s : Fin n) :
    ((H.weight r s : ℝ) : EReal) * (∑ l, (H.d r l : EReal) * (H.v s l : EReal) - ∑ l, (H.d r l : EReal) * (H.out r l : EReal)) = ((H.grad r s : ℝ) : EReal) := by
  simp only [← EReal.coe_mul]
  rw [coe_sum, coe_sum, ← EReal.coe_sub, ← EReal.coe_mul]
  rfl

/-- The gradient of a score as the softmax's vector-Jacobian product has it. -/
theorem grad_of_vjp (a m : ℝ) (r s : Fin n) (E : Fin n → EReal) (L : EReal) (P : Fin n → EReal)
    (hE : ∀ s, E s = Ideal.exp (H.masked a r s - (m : EReal))) (hL : L = ∑ s, Ideal.exp (H.masked a r s - (m : EReal)))
    (hP : ∀ s, P s = ∑ l, (H.d r l : EReal) * (H.v s l : EReal)) :
    (Ideal.div (P s) L + -∑ s, P s * Ideal.div 1 (L * L) * E s) * E s = ((H.grad r s : ℝ) : EReal) := by
  have hp := (H.mass_pos r).ne'
  have he := (Real.exp_pos (a - m)).ne'
  have hPs : ∀ s, P s = ((H.slope r s : ℝ) : EReal) := fun s => by
    rw [hP]; simp only [← EReal.coe_mul]; rw [coe_sum]; rfl
  have hE' := fun s => (hE s).trans (H.exp_masked a m r s)
  have hL' := hL.trans (H.sum_exp_masked a m r)
  simp only [hE', hL', hPs]
  rw [← EReal.coe_mul, ← EReal.coe_one, div_real (mul_ne_zero (mul_ne_zero he hp) (mul_ne_zero he hp)), div_real (mul_ne_zero he hp)]
  simp only [← EReal.coe_mul]
  rw [coe_sum, ← EReal.coe_neg, ← EReal.coe_add, ← EReal.coe_mul]
  congr 1
  rw [grad, mean_eq]
  have h2 : ∑ s, H.slope r s * (1 / (Real.exp (a - m) * H.mass r * (Real.exp (a - m) * H.mass r))) * (Real.exp (a - m) * H.num r s)
      = (∑ s, H.weight r s * H.slope r s) / (Real.exp (a - m) * H.mass r) := by
    rw [Finset.sum_div]
    refine Finset.sum_congr rfl fun s _ => ?_
    unfold weight; field_simp
  rw [h2]
  unfold weight
  field_simp
  ring

end Head

end Cert.Fox

end
-- ==== Proof.Prefix.lean ====
module

public import proofs.«01_k».proof.Proof.Launch
public import proofs.«01_k».proof.Proof.Softmax
public import Idealize.ShloMosaic.Lib.StableHlo.RunRead

@[expose] public section

set_option maxRecDepth 16384

noncomputable section

/-!
# What the host computes before the kernel

The row outputs, row log-sums and gates that the kernel takes beside its arguments.
-/

namespace Cert.KernelIdeal.Gen

open Idealize.ShloMosaic Idealize.ShloMosaic.TcCoe Cert.Fox

/-- The scores with the keys of a query's future at `⊥`. -/
def scores (q k : Vec Ideal S8192x512 .bf16) (c : Vec Ideal S2x8x4096 .f32) : Vec Ideal S2x8x4096x4096 .f32 :=
  select (broadcastInDim S2x8x4096x4096 ![2, 3] bcast_S4096x4096_S2x8x4096x4096_2_3 (cmpi .sge (iotaInDim S4096x4096 32 0) (iotaInDim S4096x4096 32 1)))
    (subf (F := Ideal) (φ := .f32) (Host.dotGeneral (F := Ideal) (φ₁ := .f32) (φ₂ := .f32) dot_S2x8x4096x64_S2x8x4096x64_S2x8x4096x4096_3_3_2_2_01_01 none
        (transpose S2x8x4096x64 [0, 2, 1, 3] (shapeCast S2x4096x8x64 (extf .f32 q bitsLt_bf16_f32) shapeCasts_S8192x512_S2x4096x8x64) transposes_S2x4096x8x64_S2x8x4096x64_0_2_1_3)
        (transpose S2x8x4096x64 [0, 2, 1, 3] (shapeCast S2x4096x8x64 (extf .f32 k bitsLt_bf16_f32) shapeCasts_S8192x512_S2x4096x8x64) transposes_S2x4096x8x64_S2x8x4096x64_0_2_1_3))
      (broadcastInDim S2x8x4096x4096 ![0, 1, 2, 3] bcast_S2x8x1x4096_S2x8x4096x4096_0_1_2_3 (broadcastInDim S2x8x1x4096 ![0, 1, 3] bcast_S2x8x4096_S2x8x1x4096_0_1_3 c)))
    (broadcastInDim S2x8x4096x4096 ![] bcast_S_S2x8x4096x4096 (constant (F := Ideal) S_ .f32 0xFF800000#32))

/-- The rows' maxima. -/
def maxima (x : Vec Ideal S2x8x4096x4096 .f32) : Vec Ideal S2x8x4096x1 .f32 :=
  broadcastInDim S2x8x4096x1 ![0, 1, 2] bcast_S2x8x4096_S2x8x4096x1_0_1_2
    (Host.reduce (FloatOps.maximumf (F := Ideal) (φ := .f32)) x (constant (F := Ideal) S_ .f32 0xFF800000#32) reducesTo_S2x8x4096x4096_S2x8x4096_d3 h_S_)

/-- The exponentials of the scores less the row's maximum. -/
def exponentials (x : Vec Ideal S2x8x4096x4096 .f32) : Vec Ideal S2x8x4096x4096 .f32 :=
  Host.exp (F := Ideal) (φ := .f32) (subf (F := Ideal) (φ := .f32) x (broadcastInDim S2x8x4096x4096 ![0, 1, 2, 3] bcast_S2x8x4096x1_S2x8x4096x4096_0_1_2_3 (maxima x)))

/-- The rows' sums of exponentials. -/
def totals (x : Vec Ideal S2x8x4096x4096 .f32) : Vec Ideal S2x8x4096x1 .f32 :=
  broadcastInDim S2x8x4096x1 ![0, 1, 2] bcast_S2x8x4096_S2x8x4096x1_0_1_2
    (Host.reduceAdd (F := Ideal) (φ := .f32) (exponentials x) (constant (F := Ideal) S_ .f32 0x00000000#32) reducesTo_S2x8x4096x4096_S2x8x4096_d3 h_S_)

/-- The rows' outputs. -/
def outputs (x : Vec Ideal S2x8x4096x4096 .f32) (v : Vec Ideal S8192x512 .bf16) : Vec Ideal S8192x512 .bf16 :=
  truncf (F := Ideal) (φ := .f32) .bf16 (shapeCast S8192x512 (transpose S2x4096x8x64 [0, 2, 1, 3]
    (Host.dotGeneral (F := Ideal) (φ₁ := .f32) (φ₂ := .f32) dot_S2x8x4096x4096_S2x8x4096x64_S2x8x4096x64_3_2_2_3_01_01 none
      (Host.divf (F := Ideal) (φ := .f32) (exponentials x) (broadcastInDim S2x8x4096x4096 ![0, 1, 2, 3] bcast_S2x8x4096x1_S2x8x4096x4096_0_1_2_3 (totals x)))
      (transpose S2x8x4096x64 [0, 2, 1, 3] (shapeCast S2x4096x8x64 (extf .f32 v bitsLt_bf16_f32) shapeCasts_S8192x512_S2x4096x8x64) transposes_S2x4096x8x64_S2x8x4096x64_0_2_1_3))
    transposes_S2x8x4096x64_S2x4096x8x64_0_2_1_3) shapeCasts_S2x4096x8x64_S8192x512) bitsLt_bf16_f32

/-- The rows' log-sums. -/
def logsums (x : Vec Ideal S2x8x4096x4096 .f32) : Vec Ideal S8x2x4096x1 .f32 :=
  shapeCast S8x2x4096x1 (addf (F := Ideal) (φ := .f32) (maxima x) (Host.log (F := Ideal) (φ := .f32) (totals x))) shapeCasts_S2x8x4096x1_S8x2x4096x1

variable (m : (ℓ : Loc nD τ sig) → Buf (Elt Ideal) ℓ)

abbrev argQ (c : Dev nD) : Vec Ideal S8192x512 .bf16 := m ((c : Thread nD τ).loc main_arg0)
abbrev argK (c : Dev nD) : Vec Ideal S8192x512 .bf16 := m ((c : Thread nD τ).loc main_arg1)
abbrev argV (c : Dev nD) : Vec Ideal S8192x512 .bf16 := m ((c : Thread nD τ).loc main_arg2)
abbrev argC (c : Dev nD) : Vec Ideal S2x8x4096 .f32 := m ((c : Thread nD τ).loc main_arg3)
abbrev argD (c : Dev nD) : Vec Ideal S8192x512 .bf16 := m ((c : Thread nD τ).loc main_arg4)

set_option maxHeartbeats 4000000 in
theorem V_outputs (c : Dev nD) : V m c main_v29 = outputs (scores (argQ m c) (argK m c) (argC m c)) (argV m c) := by
  unfold_abbrev_sides
  simp only [List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

set_option maxHeartbeats 4000000 in
theorem V_logsums (c : Dev nD) : V m c main_v32 = logsums (scores (argQ m c) (argK m c) (argC m c)) := by
  unfold_abbrev_sides
  simp only [List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

set_option maxHeartbeats 4000000 in
theorem V_gates (c : Dev nD) : V m c main_v33 = shapeCast S8x2x1x4096 (argC m c) shapeCasts_S2x8x4096_S8x2x1x4096 := by
  unfold_abbrev_sides
  simp only [List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

end Cert.KernelIdeal.Gen

end
-- ==== Proof.Heads.lean ====
module

public import proofs.«01_k».proof.Proof.Softmax
public import proofs.«01_k».proof.KernelIdeal

@[expose] public section

noncomputable section

/-!
# The heads of the arrays

Tokens are rows, example after example; a row's lanes are its heads, one after another. The module cuts one head of one
example out of arrays of real numbers, and names the four gradients of the whole arrays.
-/

namespace Cert.Fox

open Idealize.ShloMosaic

/-- The row of a token. -/
def row (b : Fin 2) (r : Fin 4096) : Fin 8192 := ⟨b * 4096 + r, by omega⟩

/-- The lane of a head's component. -/
def lane (h : Fin 8) (l : Fin 64) : Fin 512 := ⟨h * 64 + l, by omega⟩

/-- A row is a token's. -/
theorem row_eta (x : Fin 8192) : row ⟨x / 4096, by omega⟩ ⟨x % 4096, Nat.mod_lt _ (by decide)⟩ = x :=
  Fin.ext (Nat.div_add_mod' x.val 4096)

/-- A lane is a head's. -/
theorem lane_eta (x : Fin 512) : lane ⟨x / 64, by omega⟩ ⟨x % 64, Nat.mod_lt _ (by decide)⟩ = x :=
  Fin.ext (Nat.div_add_mod' x.val 64)

/-- The arguments, as real numbers. -/
structure Args where
  q : Fin 8192 → Fin 512 → ℝ
  k : Fin 8192 → Fin 512 → ℝ
  v : Fin 8192 → Fin 512 → ℝ
  d : Fin 8192 → Fin 512 → ℝ
  c : Fin 2 → Fin 8 → Fin 4096 → ℝ

namespace Args

variable (A : Args)

/-- Head `h` of example `b`. -/
def head (b : Fin 2) (h : Fin 8) : Head 4096 64 where
  q r l := A.q (row b r) (lane h l)
  k r l := A.k (row b r) (lane h l)
  v r l := A.v (row b r) (lane h l)
  d r l := A.d (row b r) (lane h l)
  c r := A.c b h r

/-- The gradient of the queries. -/
def dq (b : Fin 2) (h : Fin 8) (r : Fin 4096) (l : Fin 64) : ℝ := ∑ s, (A.head b h).grad r s * A.k (row b s) (lane h l)

/-- The gradient of the keys. -/
def dk (b : Fin 2) (h : Fin 8) (s : Fin 4096) (l : Fin 64) : ℝ := ∑ r, (A.head b h).grad r s * A.q (row b r) (lane h l)

/-- The gradient of the values. -/
def dv (b : Fin 2) (h : Fin 8) (s : Fin 4096) (l : Fin 64) : ℝ := ∑ r, (A.head b h).weight r s * A.d (row b r) (lane h l)

/-- The gradient of the cumulative gates. -/
def dc (b : Fin 2) (h : Fin 8) (r : Fin 4096) : ℝ := ∑ s, (A.head b h).grad r s - ∑ s, (A.head b h).grad s r

end Args

end Cert.Fox

end
-- ==== Proof.Stages.lean ====
module

public import proofs.«01_k».proof.Proof.Prefix
public import proofs.«01_k».proof.Proof.Heads
public import Idealize.ShloMosaic.Lib.Pointwise

@[expose] public section

set_option maxRecDepth 16384

noncomputable section

/-!
# The host's arrays for real arguments

The scores, the row outputs, the row log-sums and the gates, entry by entry.
-/

namespace Cert.KernelIdeal.Gen

open Idealize.ShloMosaic Idealize.ShloMosaic.TcCoe Cert.Fox

theorem bot_bits : Ideal.ofBits FTy.f32 4286578688#32 = ⊥ := by decide +kernel

/-- The comparison of two positions. -/
theorem sge_positions (r s : Fin 4096) : IntOp.cmpi CmpIPredicate.sge (BitVec.ofNat 32 r.val) (BitVec.ofNat 32 s.val) = if s ≤ r then 1#1 else 0#1 := by
  have hr := r.isLt
  have hs := s.isLt
  split
  · have hle : s.val ≤ r.val := ‹_›
    word_cmp
  · have hle : ¬ s.val ≤ r.val := ‹_›
    word_cmp

variable (A : Args)

theorem scores_apply (q k : Vec Ideal S8192x512 .bf16) (c : Vec Ideal S2x8x4096 .f32)
    (hq : ∀ x y, q (ix2 x y) = ((A.q x y : ℝ) : EReal)) (hk : ∀ x y, k (ix2 x y) = ((A.k x y : ℝ) : EReal))
    (hc : ∀ b h r, c (ix3 b h r) = ((A.c b h r : ℝ) : EReal))
    (b : Fin 2) (h : Fin 8) (r s : Fin 4096) : scores q k c (ix4 b h r s) = (A.head b h).masked 0 r s := by
  pointwise [scores]
  rw [sge_positions, bot_bits, Head.masked]
  simp only [hq, hk, hc, ← EReal.coe_mul]
  rw [coe_sum, ← EReal.coe_sub]
  split
  · rw [add_zero]; rfl
  · rfl

theorem maxima_apply (x : Vec Ideal S2x8x4096x4096 .f32) (b : Fin 2) (h : Fin 8) (r : Fin 4096) (j : Fin 1) :
    maxima x (ix4 b h r j) = Finset.univ.fold max ⊥ fun s => x (ix4 b h r s) := by
  pointwise [maxima]
  rw [bot_bits]

theorem exponentials_apply (x : Vec Ideal S2x8x4096x4096 .f32) (b : Fin 2) (h : Fin 8) (r s : Fin 4096) :
    exponentials x (ix4 b h r s) = Ideal.exp (x (ix4 b h r s) - Finset.univ.fold max ⊥ fun s => x (ix4 b h r s)) := by
  unfold exponentials
  have e := maxima_apply x b h r 0
  generalize maxima x = y at e ⊢
  rw [← e]
  pointwise []

theorem totals_apply (x : Vec Ideal S2x8x4096x4096 .f32) (b : Fin 2) (h : Fin 8) (r : Fin 4096) (j : Fin 1) :
    totals x (ix4 b h r j) = ∑ s, Ideal.exp (x (ix4 b h r s) - Finset.univ.fold max ⊥ fun s => x (ix4 b h r s)) := by
  unfold totals
  have e := exponentials_apply x b h r
  generalize exponentials x = y at e ⊢
  simp only [← e]
  pointwise []

theorem logs_read (x y : Vec Ideal S2x8x4096x1 .f32) (i : Fin 8) (j : Fin 2) (r : Fin 4096) :
    shapeCast S8x2x4096x1 (addf (F := Ideal) (φ := .f32) x (Host.log (F := Ideal) (φ := .f32) y)) shapeCasts_S2x8x4096x1_S8x2x4096x1 (ix4 i j r 0)
      = x (ix4 ⟨i / 4, by omega⟩ ⟨i % 4 * 2 + j, by omega⟩ r 0) + Ideal.log (y (ix4 ⟨i / 4, by omega⟩ ⟨i % 4 * 2 + j, by omega⟩ r 0)) := by
  pointwise []

theorem outputs_read (y : Vec Ideal S2x8x4096x4096 .f32) (z : Vec Ideal S2x8x4096x1 .f32) (v : Vec Ideal S8192x512 .bf16) (b : Fin 2) (r : Fin 4096) (h : Fin 8) (l : Fin 64) :
    truncf (F := Ideal) (φ := .f32) .bf16 (shapeCast S8192x512 (transpose S2x4096x8x64 [0, 2, 1, 3]
      (Host.dotGeneral (F := Ideal) (φ₁ := .f32) (φ₂ := .f32) dot_S2x8x4096x4096_S2x8x4096x64_S2x8x4096x64_3_2_2_3_01_01 none
        (Host.divf (F := Ideal) (φ := .f32) y (broadcastInDim S2x8x4096x4096 ![0, 1, 2, 3] bcast_S2x8x4096x1_S2x8x4096x4096_0_1_2_3 z))
        (transpose S2x8x4096x64 [0, 2, 1, 3] (shapeCast S2x4096x8x64 (extf .f32 v bitsLt_bf16_f32) shapeCasts_S8192x512_S2x4096x8x64) transposes_S2x4096x8x64_S2x8x4096x64_0_2_1_3))
      transposes_S2x8x4096x64_S2x4096x8x64_0_2_1_3) shapeCasts_S2x4096x8x64_S8192x512) bitsLt_bf16_f32 (ix2 (row b r) (lane h l))
      = ∑ s, Ideal.div (y (ix4 b h r s)) (z (ix4 b h r 0)) * v (ix2 (row b s) (lane h l)) := by
  have e1 : (⟨(row b r).val / 4096, by have := (row b r).isLt; omega⟩ : Fin 2) = b := Fin.ext (by simp only [row]; omega)
  have e2 : (⟨(row b r).val % 4096, Nat.mod_lt _ (by decide)⟩ : Fin 4096) = r := Fin.ext (by simp only [row]; omega)
  have e3 : (⟨(lane h l).val / 64, by have := (lane h l).isLt; omega⟩ : Fin 8) = h := Fin.ext (by simp only [lane]; omega)
  have e4 : ∀ s : Fin 4096, (⟨(row b r).val / 4096 * 4096 + s.val, by have := (row b r).isLt; omega⟩ : Fin 8192) = row b s := fun s => Fin.ext (by simp only [row]; omega)
  pointwise []
  simp only [e1, e2, e3, e4]

theorem gates_read (c : Vec Ideal S2x8x4096 .f32) (i : Fin 8) (j : Fin 2) (r : Fin 4096) :
    shapeCast S8x2x1x4096 c shapeCasts_S2x8x4096_S8x2x1x4096 (ix4 i j 0 r) = c (ix3 ⟨i / 4, by omega⟩ ⟨i % 4 * 2 + j, by omega⟩ r) := by
  pointwise []

section Real

variable {q k v : Vec Ideal S8192x512 .bf16} {c : Vec Ideal S2x8x4096 .f32}
    (hq : ∀ x y, q (ix2 x y) = ((A.q x y : ℝ) : EReal)) (hk : ∀ x y, k (ix2 x y) = ((A.k x y : ℝ) : EReal))
    (hv : ∀ x y, v (ix2 x y) = ((A.v x y : ℝ) : EReal)) (hc : ∀ b h r, c (ix3 b h r) = ((A.c b h r : ℝ) : EReal))

include hq hk hc

/-- The row log-sums are the logarithms of the rows' masses. -/
theorem logsums_real (i : Fin 8) (j : Fin 2) (r : Fin 4096) : logsums (scores q k c) (ix4 i j r 0)
    = ((Real.log ((A.head ⟨i / 4, by omega⟩ ⟨i % 4 * 2 + j, by omega⟩).mass r) : ℝ) : EReal) := by
  unfold logsums
  rw [logs_read, maxima_apply, totals_apply]
  simp only [scores_apply A q k c hq hk hc]
  obtain ⟨a, ha⟩ := (A.head ⟨i / 4, by omega⟩ ⟨i % 4 * 2 + j, by omega⟩).max_masked 0 r
  rw [show (Finset.univ.fold max ⊥ fun s => (A.head ⟨i / 4, by omega⟩ ⟨i % 4 * 2 + j, by omega⟩).masked 0 r s) = (a : EReal) from ha]
  exact Head.log_masked _ a r

include hv

/-- The row outputs are the weighted means of the values. -/
theorem outputs_real (b : Fin 2) (r : Fin 4096) (h : Fin 8) (l : Fin 64) :
    outputs (scores q k c) v (ix2 (row b r) (lane h l)) = (((A.head b h).out r l : ℝ) : EReal) := by
  unfold outputs
  rw [outputs_read]
  simp only [exponentials_apply, totals_apply, scores_apply A q k c hq hk hc]
  obtain ⟨a, ha⟩ := (A.head b h).max_masked 0 r
  rw [show (Finset.univ.fold max ⊥ fun s => (A.head b h).masked 0 r s) = (a : EReal) from ha]
  simp only [Head.div_masked, hv, ← EReal.coe_mul]
  exact coe_sum _ _

end Real

end Cert.KernelIdeal.Gen

end
-- ==== Proof.Pair.lean ====
module

public import proofs.«01_k».proof.Proof.Heads
public import proofs.«01_k».proof.Proof.Model

@[expose] public section

noncomputable section

/-!
# A grid point's sums for real arguments

A grid point works on two heads, whose lanes lie side by side, and on 1024 keys of one example. The module reads its
weights and score gradients as those of the heads, and its four kinds of sums as the gradients.
-/

namespace Cert.Fox

open Idealize.ShloMosaic

/-- The lane of a pair of heads. -/
def pairLane (p : Fin 4) (x : Fin 128) : Fin 512 := ⟨p * 128 + x, by omega⟩

/-- The lane of one head of a pair. -/
def half (h : Fin 2) (l : Fin 64) : Fin 128 := ⟨h * 64 + l, by omega⟩

/-- The head of a pair. -/
def headOf (p : Fin 4) (h : Fin 2) : Fin 8 := ⟨p * 2 + h, by omega⟩

/-- The key of a tile. -/
def key (j : Fin 4) (s : Fin 1024) : Fin 4096 := ⟨s + 1024 * j, by omega⟩

theorem pairLane_half (p : Fin 4) (h : Fin 2) (l : Fin 64) : pairLane p (half h l) = lane (headOf p h) l :=
  Fin.ext (by simp only [pairLane, half, lane, headOf]; omega)

theorem own_half (h g : Fin 2) (l : Fin 64) : own h (half g l) ↔ g = h := by
  unfold own half
  constructor
  · intro e; exact Fin.ext (by have := l.isLt; simp only at e; omega)
  · rintro rfl; have := l.isLt; simp only; omega

/-- An inner product over a head's lanes runs over its components. -/
theorem hdot_half (h : Fin 2) (a b : Fin 128 → EReal) : hdot h a b = ∑ l, a (half h l) * b (half h l) := by
  unfold hdot
  rw [← (finProdFinEquiv (m := 2) (n := 64)).sum_comp, Fintype.sum_prod_type]
  have e : ∀ (g : Fin 2) (l : Fin 64), (finProdFinEquiv (m := 2) (n := 64)) (g, l) = half g l := fun g l =>
    Fin.ext (by simp only [finProdFinEquiv_apply_val, half]; omega)
  simp only [e, own_half]
  rw [Finset.sum_eq_single h]
  · simp only [if_true]
  · intro g _ hg; exact Finset.sum_eq_zero fun l _ => if_neg hg
  · intro hn; exact absurd (Finset.mem_univ _) hn

/-- A sum over the keys runs over the tiles. -/
theorem sum_key (f : Fin 4096 → EReal) : ∑ s, f s = ∑ j, ∑ s, f (key j s) := by
  rw [← (finProdFinEquiv (m := 4) (n := 1024)).sum_comp, Fintype.sum_prod_type]
  rfl

/-- A grid point reads the arrays `A`, and the outputs and row log-sums belonging to them. -/
structure Reads (A : Args) (b : Fin 2) (p : Fin 4) (j : Fin 4) (P : Point) : Prop where
  hj : P.j = j
  hq : ∀ (R : Fin 4096) x, P.q R x = ((A.q (row b R) (pairLane p x) : ℝ) : EReal)
  hd : ∀ (R : Fin 4096) x, P.d R x = ((A.d (row b R) (pairLane p x) : ℝ) : EReal)
  ho : ∀ (R : Fin 4096) h l, P.o R (half h l) = (((A.head b (headOf p h)).out R l : ℝ) : EReal)
  hk : ∀ (s : Fin 1024) x, P.k s x = ((A.k (row b (key j s)) (pairLane p x) : ℝ) : EReal)
  hv : ∀ (s : Fin 1024) x, P.v s x = ((A.v (row b (key j s)) (pairLane p x) : ℝ) : EReal)
  hl : ∀ h (R : Fin 4096), P.lse h R = ((Real.log ((A.head b (headOf p h)).mass R) : ℝ) : EReal)
  hc : ∀ h (s : Fin 1024), P.ck h s = ((A.c b (headOf p h) (key j s) : ℝ) : EReal)

namespace Reads

variable {A : Args} {b : Fin 2} {p j : Fin 4} {P : Point} (H : Reads A b p j P)

include H

/-- The point's weights are the softmax's. -/
theorem weight (h : Fin 2) (R : Fin 4096) (s : Fin 1024) : P.P h R s = (((A.head b (headOf p h)).weight R (key j s) : ℝ) : EReal) := by
  rw [Point.P, prob, ← Head.exp_log, H.hl, Head.masked]
  congr 2
  refine if_congr ?_ ?_ rfl
  · rw [H.hj]; exact Iff.rfl
  · rw [hdot_half, H.hc]
    simp only [H.hq, H.hk, pairLane_half, ← EReal.coe_mul]
    rw [coe_sum, ← EReal.coe_sub, add_zero]
    rfl

/-- The point's score gradients are the softmax's. -/
theorem grad (h : Fin 2) (R : Fin 4096) (s : Fin 1024) : P.S h R s = (((A.head b (headOf p h)).grad R (key j s) : ℝ) : EReal) := by
  rw [← Head.grad_of_out, ← H.weight, Point.S, dscore, Point.P, hdot_half, hdot_half]
  simp only [H.hd, H.hv, H.ho, pairLane_half]
  rfl

/-- The sum for the values. -/
theorem values (s : Fin 1024) (h : Fin 2) (l : Fin 64) :
    ∑ R ∈ Finset.range 4096, P.tv s (half h l) R = ((A.dv b (headOf p h) (key j s) l : ℝ) : EReal) := by
  rw [Finset.sum_range, Args.dv, ← coe_sum]
  refine Finset.sum_congr rfl fun R _ => ?_
  rw [Point.tv, H.weight, H.weight, EReal.coe_mul]
  simp only [only, own_half, H.hd, pairLane_half]
  fin_cases h
  · simp
  · simp

/-- The sum for the keys, on the head's own lanes. -/
theorem keys (s : Fin 1024) (h : Fin 2) (l : Fin 64) :
    ∑ R ∈ Finset.range 4096, P.tk h s (half h l) R = ((A.dk b (headOf p h) (key j s) l : ℝ) : EReal) := by
  rw [Finset.sum_range, Args.dk, ← coe_sum]
  refine Finset.sum_congr rfl fun R _ => ?_
  rw [Point.tk, H.grad, orOne, if_pos ((own_half _ _ _).mpr rfl), H.hq, pairLane_half, EReal.coe_mul]

/-- The sum for the gates, on the other head's lanes. -/
theorem gates (s : Fin 1024) (h g : Fin 2) (hg : g ≠ h) (l : Fin 64) :
    ∑ R ∈ Finset.range 4096, P.tk h s (half g l) R = ((∑ R, (A.head b (headOf p h)).grad R (key j s) : ℝ) : EReal) := by
  rw [Finset.sum_range, ← coe_sum]
  refine Finset.sum_congr rfl fun R _ => ?_
  rw [Point.tk, H.grad, orOne, if_neg (mt (own_half _ _ _).mp hg), mul_one]

/-- A tile's sum for the queries, on the head's own lanes. -/
theorem queries (R : Fin 4096) (h : Fin 2) (l : Fin 64) : P.tq h R (half h l)
    = ∑ s, (((A.head b (headOf p h)).grad R (key j s) * A.k (row b (key j s)) (lane (headOf p h) l) : ℝ) : EReal) := by
  rw [Point.tq, Finset.sum_range]
  refine Finset.sum_congr rfl fun s _ => ?_
  rw [H.grad, orOne, if_pos ((own_half _ _ _).mpr rfl), H.hk, pairLane_half, EReal.coe_mul]

/-- A tile's sum for the queries, on the other head's lanes. -/
theorem sums (R : Fin 4096) (h g : Fin 2) (hg : g ≠ h) (l : Fin 64) : P.tq h R (half g l)
    = ∑ s, (((A.head b (headOf p h)).grad R (key j s) : ℝ) : EReal) := by
  rw [Point.tq, Finset.sum_range]
  refine Finset.sum_congr rfl fun s _ => ?_
  rw [H.grad, orOne, if_neg (mt (own_half _ _ _).mp hg), mul_one]

end Reads

end Cert.Fox

end
-- ==== Proof.Arrays.lean ====
module

public import proofs.«01_k».proof.Proof.Launch
public import proofs.«01_k».proof.Proof.Stages
public import proofs.«01_k».proof.Proof.Pair
public import Idealize.ShloMosaic.Lib.Pipeline.ValueKit

@[expose] public section

set_option maxRecDepth 16384

noncomputable section

/-!
# The five arrays for real arguments

Every grid point reads the blocks of one example, one pair of heads and one tile; the arrays gather what the points leave.
-/

namespace Cert.KernelIdeal.Gen

open Idealize.ShloMosaic Idealize.ShloMosaic.TcCoe Idealize.ShloMosaic.Tactic Cert.Fox

/-- The example of a grid point. -/
def exOf (t : Fin cfg0.N) : Fin 2 := ⟨t.val / 16, by have : t.val < 32 := t.isLt; omega⟩
/-- The pair of heads of a grid point. -/
def pairOf (t : Fin cfg0.N) : Fin 4 := ⟨t.val / 4 % 4, Nat.mod_lt _ (by decide)⟩
/-- The tile of a grid point. -/
def tileOf (t : Fin cfg0.N) : Fin 4 := ⟨t.val % 4, Nat.mod_lt _ (by decide)⟩

theorem index_q : ∀ t : Fin cfg0.N, win0_0.index t = ![t.val / 16, t.val / 4 % 4] := (by decide +kernel : ∀ t : Fin grid0.N, _)
theorem index_k : ∀ t : Fin cfg0.N, win0_1.index t = ![t.val / 16 * 4 + t.val % 4, t.val / 4 % 4] := (by decide +kernel : ∀ t : Fin grid0.N, _)
theorem index_v : ∀ t : Fin cfg0.N, win0_2.index t = ![t.val / 16 * 4 + t.val % 4, t.val / 4 % 4] := (by decide +kernel : ∀ t : Fin grid0.N, _)
theorem index_o : ∀ t : Fin cfg0.N, win0_3.index t = ![t.val / 16, t.val / 4 % 4] := (by decide +kernel : ∀ t : Fin grid0.N, _)
theorem index_d : ∀ t : Fin cfg0.N, win0_4.index t = ![t.val / 16, t.val / 4 % 4] := (by decide +kernel : ∀ t : Fin grid0.N, _)
theorem index_l : ∀ t : Fin cfg0.N, win0_5.index t = ![t.val / 4, 0, 0, 0] := (by decide +kernel : ∀ t : Fin grid0.N, _)
theorem index_c : ∀ t : Fin cfg0.N, win0_6.index t = ![t.val / 4, 0, 0, t.val % 4] := (by decide +kernel : ∀ t : Fin grid0.N, _)
theorem coord_tile : ∀ t : Fin cfg0.N, (grid0.coords t 2).val = t.val % 4 := (by decide +kernel : ∀ t : Fin grid0.N, _)

section Reads

theorem read_q (f : (Pipeline.arrRef spec0 0).ty.Contents (Elt Ideal)) (t : Fin cfg0.N) (R : Fin 4096) (x : Fin 128) :
    ((cfg0.win 0).blk t).view.read (Elt Ideal) f (ix2 R x) = (f : Vec Ideal S8192x512 .bf16) (ix2 (row (exOf t) R) (pairLane (pairOf t) x)) := by
  blk_ext [index_q t] <;> rfl

theorem read_k (f : (Pipeline.arrRef spec0 1).ty.Contents (Elt Ideal)) (t : Fin cfg0.N) (s : Fin 1024) (x : Fin 128) :
    ((cfg0.win 1).blk t).view.read (Elt Ideal) f (ix2 s x) = (f : Vec Ideal S8192x512 .bf16) (ix2 (row (exOf t) (key (tileOf t) s)) (pairLane (pairOf t) x)) := by
  blk_ext [index_k t]
  · simp only [row, key, exOf, tileOf]; omega
  · rfl

theorem read_v (f : (Pipeline.arrRef spec0 2).ty.Contents (Elt Ideal)) (t : Fin cfg0.N) (s : Fin 1024) (x : Fin 128) :
    ((cfg0.win 2).blk t).view.read (Elt Ideal) f (ix2 s x) = (f : Vec Ideal S8192x512 .bf16) (ix2 (row (exOf t) (key (tileOf t) s)) (pairLane (pairOf t) x)) := by
  blk_ext [index_v t]
  · simp only [row, key, exOf, tileOf]; omega
  · rfl

theorem read_o (f : (Pipeline.arrRef spec0 3).ty.Contents (Elt Ideal)) (t : Fin cfg0.N) (R : Fin 4096) (x : Fin 128) :
    ((cfg0.win 3).blk t).view.read (Elt Ideal) f (ix2 R x) = (f : Vec Ideal S8192x512 .bf16) (ix2 (row (exOf t) R) (pairLane (pairOf t) x)) := by
  blk_ext [index_o t] <;> rfl

theorem read_d (f : (Pipeline.arrRef spec0 4).ty.Contents (Elt Ideal)) (t : Fin cfg0.N) (R : Fin 4096) (x : Fin 128) :
    ((cfg0.win 4).blk t).view.read (Elt Ideal) f (ix2 R x) = (f : Vec Ideal S8192x512 .bf16) (ix2 (row (exOf t) R) (pairLane (pairOf t) x)) := by
  blk_ext [index_d t] <;> rfl

theorem read_l (f : (Pipeline.arrRef spec0 5).ty.Contents (Elt Ideal)) (t : Fin cfg0.N) (h : Fin 2) (R : Fin 4096) :
    ((cfg0.win 5).blk t).view.read (Elt Ideal) f (ix4 0 h R 0) = (f : Vec Ideal S8x2x4096x1 .f32) (ix4 ⟨t.val / 4, by have : t.val < 32 := t.isLt; omega⟩ h R 0) := by
  blk_ext [index_l t]

theorem read_c (f : (Pipeline.arrRef spec0 6).ty.Contents (Elt Ideal)) (t : Fin cfg0.N) (h : Fin 2) (s : Fin 1024) :
    ((cfg0.win 6).blk t).view.read (Elt Ideal) f (ix4 0 h 0 s) = (f : Vec Ideal S8x2x1x4096 .f32) (ix4 ⟨t.val / 4, by have : t.val < 32 := t.isLt; omega⟩ h 0 (key (tileOf t) s)) := by
  blk_ext [index_c t]
  simp only [key, tileOf]; omega

end Reads

variable (m : (ℓ : Loc nD τ sig) → Buf (Elt Ideal) ℓ)

/-- Device `c`'s arguments are the real numbers `A`. -/
structure IsReal (A : Args) (c : Dev nD) : Prop where
  hq : ∀ x y, argQ m c (ix2 x y) = ((A.q x y : ℝ) : EReal)
  hk : ∀ x y, argK m c (ix2 x y) = ((A.k x y : ℝ) : EReal)
  hv : ∀ x y, argV m c (ix2 x y) = ((A.v x y : ℝ) : EReal)
  hd : ∀ x y, argD m c (ix2 x y) = ((A.d x y : ℝ) : EReal)
  hc : ∀ b h r, argC m c (ix3 b h r) = ((A.c b h r : ℝ) : EReal)

theorem val_q (c : Dev nD) : V m c (Pipeline.arrRef spec0 0) = argQ m c := V_main_arg0 m c
theorem val_k (c : Dev nD) : V m c (Pipeline.arrRef spec0 1) = argK m c := V_main_arg1 m c
theorem val_v (c : Dev nD) : V m c (Pipeline.arrRef spec0 2) = argV m c := V_main_arg2 m c
theorem val_o (c : Dev nD) : V m c (Pipeline.arrRef spec0 3) = outputs (scores (argQ m c) (argK m c) (argC m c)) (argV m c) := V_outputs m c
theorem val_d (c : Dev nD) : V m c (Pipeline.arrRef spec0 4) = argD m c := V_main_arg4 m c
theorem val_l (c : Dev nD) : V m c (Pipeline.arrRef spec0 5) = logsums (scores (argQ m c) (argK m c) (argC m c)) := V_logsums m c
theorem val_c (c : Dev nD) : V m c (Pipeline.arrRef spec0 6) = shapeCast S8x2x1x4096 (argC m c) shapeCasts_S2x8x4096_S8x2x1x4096 := V_gates m c

variable {m} {A : Args} {c : Dev nD} (H : IsReal m A c)

include H

/-- What the grid points read. -/
theorem reads_at (t : Fin cfg0.N) : Reads A (exOf t) (pairOf t) (tileOf t) (pointAt m c t) := by
  have hN : t.val < 32 := t.isLt
  have eb : (⟨t.val / 4 / 4, by omega⟩ : Fin 2) = exOf t := Fin.ext (by simp only [exOf]; omega)
  have eh : ∀ h : Fin 2, (⟨t.val / 4 % 4 * 2 + h, by omega⟩ : Fin 8) = headOf (pairOf t) h := fun h => rfl
  constructor
  · exact coord_tile t
  · intro R x
    simp only [pointAt, pointOf, dif_pos R.isLt]
    exact ((read_q _ t R x).trans (congrFun (val_q m c) _)).trans (H.hq _ _)
  · intro R x
    simp only [pointAt, pointOf, dif_pos R.isLt]
    exact ((read_d _ t R x).trans (congrFun (val_d m c) _)).trans (H.hd _ _)
  · intro R h l
    simp only [pointAt, pointOf, dif_pos R.isLt]
    refine ((read_o _ t R (half h l)).trans (congrFun (val_o m c) _)).trans ?_
    rw [pairLane_half]
    exact outputs_real A H.hq H.hk H.hv H.hc _ _ _ _
  · intro s x
    simp only [pointAt, pointOf, dif_pos s.isLt]
    exact ((read_k _ t s x).trans (congrFun (val_k m c) _)).trans (H.hk _ _)
  · intro s x
    simp only [pointAt, pointOf, dif_pos s.isLt]
    exact ((read_v _ t s x).trans (congrFun (val_v m c) _)).trans (H.hv _ _)
  · intro h R
    simp only [pointAt, pointOf, dif_pos R.isLt]
    refine ((read_l _ t h R).trans (congrFun (val_l m c) _)).trans ((logsums_real A H.hq H.hk H.hc _ _ _).trans ?_)
    rw [← eh, ← eb]
  · intro h s
    simp only [pointAt, pointOf, dif_pos s.isLt]
    refine ((read_c _ t h s).trans (congrFun (val_c m c) _)).trans ((gates_read _ _ _ _).trans ((H.hc _ _ _).trans ?_))
    rw [← eh, ← eb]

theorem reads_of (t : Fin cfg0.N) (b : Fin 2) (p j : Fin 4) (hb : t.val / 16 = b) (hp : t.val / 4 % 4 = p) (hj : t.val % 4 = j) :
    Reads A b p j (pointAt m c t) := by
  obtain rfl : exOf t = b := Fin.ext hb
  obtain rfl : pairOf t = p := Fin.ext hp
  obtain rfl : tileOf t = j := Fin.ext hj
  exact reads_at H t

end Cert.KernelIdeal.Gen

end
-- ==== Proof.Gathered.lean ====
module

public import proofs.«01_k».proof.Proof.Arrays

@[expose] public section

set_option maxRecDepth 16384

noncomputable section

/-!
# What the five arrays hold

The gradients of the keys and of the values come out whole. The other three arrays have on a head's lanes either its own
numbers or sums of score gradients belonging to the pair's other head (`mate`).
-/

namespace Cert.KernelIdeal.Gen

open Idealize.ShloMosaic Idealize.ShloMosaic.TcCoe Idealize.ShloMosaic.Tactic Cert.Fox

/-- The other head of the pair. -/
def mate (h : Fin 8) : Fin 8 := ⟨h / 2 * 2 + (1 - h % 2), by omega⟩

/-- The array whose entries for a head's component are given. -/
def flat (f : Fin 2 → Fin 8 → Fin 4096 → Fin 64 → ℝ) : Vec Ideal S8192x512 .f32 := fun i =>
  ((f ⟨(i 0).val / 4096, by have := (i 0).isLt; change _ < 8192 at this; omega⟩ ⟨(i 1).val / 64, by have := (i 1).isLt; change _ < 512 at this; omega⟩
    ⟨(i 0).val % 4096, Nat.mod_lt _ (by decide)⟩ ⟨(i 1).val % 64, Nat.mod_lt _ (by decide)⟩ : ℝ) : EReal)

theorem flat_apply (f : Fin 2 → Fin 8 → Fin 4096 → Fin 64 → ℝ) (b : Fin 2) (h : Fin 8) (r : Fin 4096) (l : Fin 64) :
    flat f (ix2 (row b r) (lane h l)) = ((f b h r l : ℝ) : EReal) := by
  have e1 : (⟨(row b r).val / 4096, by have := (row b r).isLt; omega⟩ : Fin 2) = b := Fin.ext (by simp only [row]; omega)
  have e2 : (⟨(row b r).val % 4096, Nat.mod_lt _ (by decide)⟩ : Fin 4096) = r := Fin.ext (by simp only [row]; omega)
  have e3 : (⟨(lane h l).val / 64, by have := (lane h l).isLt; omega⟩ : Fin 8) = h := Fin.ext (by simp only [lane]; omega)
  have e4 : (⟨(lane h l).val % 64, Nat.mod_lt _ (by decide)⟩ : Fin 64) = l := Fin.ext (by simp only [lane]; omega)
  show ((f ⟨(row b r).val / 4096, _⟩ ⟨(lane h l).val / 64, _⟩ ⟨(row b r).val % 4096, _⟩ ⟨(lane h l).val % 64, _⟩ : ℝ) : EReal) = _
  rw [e1, e2, e3, e4]

/-- The sum of a row's score gradients. -/
def rowSum (A : Args) (b : Fin 2) (h : Fin 8) (r : Fin 4096) : ℝ := ∑ s, (A.head b h).grad r s

/-- The sum of a key's score gradients. -/
def keySum (A : Args) (b : Fin 2) (h : Fin 8) (s : Fin 4096) : ℝ := ∑ r, (A.head b h).grad r s

/-- The gradient of the queries of the pairs' first heads, and on the other lanes the sums of those heads' score gradients. -/
def queries0Arr (A : Args) : Vec Ideal S8192x512 .f32 := flat fun b h r l => if h.val % 2 = 0 then A.dq b h r l else rowSum A b (mate h) r

/-- The gradient of the queries of the pairs' second heads, and on the other lanes the sums of those heads' score gradients. -/
def queries1Arr (A : Args) : Vec Ideal S8192x512 .f32 := flat fun b h r l => if h.val % 2 = 1 then A.dq b h r l else rowSum A b (mate h) r

/-- On each lane the sums over the queries of the other head's score gradients. -/
def gatesArr (A : Args) : Vec Ideal S8192x512 .f32 := flat fun b h r l => keySum A b (mate h) r

theorem half_eta (x : Fin 128) : half ⟨x / 64, by omega⟩ ⟨x % 64, Nat.mod_lt _ (by decide)⟩ = x :=
  Fin.ext (Nat.div_add_mod' x.val 64)

/-- The four tiles' sums for the queries. -/
theorem tiles_sum {A : Args} {b : Fin 2} {p : Fin 4} {P : Fin 4 → Point} (hr : ∀ j, Reads A b p j (P j)) (R : Fin 4096) (h g : Fin 2) (l : Fin 64) :
    (∑ j, (P j).tq h R (half g l)) = (((if g = h then A.dq b (headOf p h) R l else rowSum A b (headOf p h) R) : ℝ) : EReal) := by
  split
  · rename_i hg
    subst hg
    rw [Args.dq, ← coe_sum, sum_key]
    exact Finset.sum_congr rfl fun j _ => (hr j).queries R g l
  · rename_i hg
    rw [rowSum, ← coe_sum, sum_key]
    exact Finset.sum_congr rfl fun j _ => (hr j).sums R h g hg l

/-- The first tile of a grid point's example and pair of heads, and the tiles after it. -/
def tilePt (u : Fin 8) (j : Fin 4) : Fin cfg0.N := ⟨4 * u.val + j.val, by show _ < 32; omega⟩

theorem index_7 : ∀ t : Fin cfg0.N, win0_7.index t = ![t.val / 16, t.val / 4 % 4] := (by decide +kernel : ∀ t : Fin grid0.N, _)
theorem index_8 : ∀ t : Fin cfg0.N, win0_8.index t = ![t.val / 16, t.val / 4 % 4] := (by decide +kernel : ∀ t : Fin grid0.N, _)
theorem index_9 : ∀ t : Fin cfg0.N, win0_9.index t = ![t.val / 16 * 4 + t.val % 4, t.val / 4 % 4] := (by decide +kernel : ∀ t : Fin grid0.N, _)
theorem index_10 : ∀ t : Fin cfg0.N, win0_10.index t = ![t.val / 16 * 4 + t.val % 4, t.val / 4 % 4] := (by decide +kernel : ∀ t : Fin grid0.N, _)
theorem index_11 : ∀ t : Fin cfg0.N, win0_11.index t = ![t.val / 16 * 4 + t.val % 4, t.val / 4 % 4] := (by decide +kernel : ∀ t : Fin grid0.N, _)

variable (m : (ℓ : Loc nD τ sig) → Buf (Elt Ideal) ℓ)

/-- A block of the queries' gradients when it leaves: the sum over the four tiles. -/
theorem queries_left (c : Dev nD) (h : Fin 2) (u : Fin 8) (R : Fin 4096) (x : Fin 128) :
    queriesAt m c h (tilePt u 3).val (tilePt u 3).isLt (ix2 R x) = ∑ j, (pointAt m c (tilePt u j)).tq h R x := by
  have e3 := queriesAt_add m c h (tilePt u 3) (by simp only [tilePt]; omega)
  have e2 := queriesAt_add m c h (tilePt u 2) (by simp only [tilePt]; omega)
  have e1 := queriesAt_add m c h (tilePt u 1) (by simp only [tilePt]; omega)
  have e0 := queriesAt_clear m c h (tilePt u 0) (by simp only [tilePt]; omega)
  have f3 := congrFun e3 (ix2 R x)
  have f2 := congrFun e2 (ix2 R x)
  have f1 := congrFun e1 (ix2 R x)
  have f0 := congrFun e0 (ix2 R x)
  rw [queriesOut_apply] at f3 f2 f1 f0
  rw [Fin.sum_univ_four, f3]
  refine congrArg (· + _) ((show _ = _ from f2).trans (congrArg (· + _) ((show _ = _ from f1).trans (congrArg (· + _) (f0.trans (zero_add _))))))

theorem flushed (t : Fin cfg0.N) (h3 : t.val % 4 = 3) : ∃ u : Fin 8, t = tilePt u 3 :=
  ⟨⟨t.val / 4, by have : t.val < 32 := t.isLt; omega⟩, Fin.ext (by simp only [tilePt, Fin.val_ofNat]; omega)⟩

variable {m} {A : Args} {c : Dev nD} (H : IsReal m A c)

include H

theorem reads_tile (u : Fin 8) (j : Fin 4) : Reads A ⟨u / 4, by omega⟩ ⟨u % 4, Nat.mod_lt _ (by decide)⟩ j (pointAt m c (tilePt u j)) :=
  reads_of H (tilePt u j) _ _ _ (by simp only [tilePt]; omega) (by simp only [tilePt]; omega) (by simp only [tilePt]; omega)

theorem array_keys : (dats m 0 c).arrAt 9 cfg0.N = flat A.dk := by
  refine (dats m 0 c).arrAt_eq_of_covers 9 (flat A.dk) (by decide +kernel) fun t hf y => ?_
  blk_simp
  rw [after0_9]
  obtain ⟨s, x, rfl⟩ : ∃ (s : Fin 1024) (x : Fin 128), y = ix2 s x := ⟨_, _, eq_ix2 y⟩
  have e : (flat A.dk) ((win0_9.blk t).view.emb (ix2 s x)) = (flat A.dk) (ix2 (row (exOf t) (key (tileOf t) s)) (pairLane (pairOf t) x)) := by
    generalize flat A.dk = G
    blk_ext [index_9 t]
    · simp only [row, key, exOf, tileOf]; omega
    · rfl
  rw [e, ← half_eta x, pairLane_half]
  generalize (⟨x.val / 64, by omega⟩ : Fin 2) = g
  generalize (⟨x.val % 64, Nat.mod_lt _ (by decide)⟩ : Fin 64) = l
  have hr := reads_at H t
  rw [keysOut_apply, flat_apply, ← hr.keys s g l]
  fin_cases g
  · exact if_pos ((own_half 0 0 l).mpr rfl)
  · exact if_neg (mt (own_half 0 1 l).mp (by decide))

theorem array_values : (dats m 0 c).arrAt 10 cfg0.N = flat A.dv := by
  refine (dats m 0 c).arrAt_eq_of_covers 10 (flat A.dv) (by decide +kernel) fun t hf y => ?_
  blk_simp
  rw [after0_10]
  obtain ⟨s, x, rfl⟩ : ∃ (s : Fin 1024) (x : Fin 128), y = ix2 s x := ⟨_, _, eq_ix2 y⟩
  have e : (flat A.dv) ((win0_10.blk t).view.emb (ix2 s x)) = (flat A.dv) (ix2 (row (exOf t) (key (tileOf t) s)) (pairLane (pairOf t) x)) := by
    generalize flat A.dv = G
    blk_ext [index_10 t]
    · simp only [row, key, exOf, tileOf]; omega
    · rfl
  rw [e, ← half_eta x, pairLane_half]
  generalize (⟨x.val / 64, by omega⟩ : Fin 2) = g
  generalize (⟨x.val % 64, Nat.mod_lt _ (by decide)⟩ : Fin 64) = l
  have hr := reads_at H t
  rw [valuesOut_apply, flat_apply, ← hr.values s g l]

theorem array_gates : (dats m 0 c).arrAt 11 cfg0.N = gatesArr A := by
  refine (dats m 0 c).arrAt_eq_of_covers 11 (gatesArr A) (by decide +kernel) fun t hf y => ?_
  blk_simp
  rw [after0_11]
  obtain ⟨s, x, rfl⟩ : ∃ (s : Fin 1024) (x : Fin 128), y = ix2 s x := ⟨_, _, eq_ix2 y⟩
  have e : (gatesArr A) ((win0_11.blk t).view.emb (ix2 s x)) = (gatesArr A) (ix2 (row (exOf t) (key (tileOf t) s)) (pairLane (pairOf t) x)) := by
    generalize gatesArr A = G
    blk_ext [index_11 t]
    · simp only [row, key, exOf, tileOf]; omega
    · rfl
  rw [e, ← half_eta x, pairLane_half]
  generalize (⟨x.val / 64, by omega⟩ : Fin 2) = g
  generalize (⟨x.val % 64, Nat.mod_lt _ (by decide)⟩ : Fin 64) = l
  have hr := reads_at H t
  rw [gatesOut_apply, gatesArr, flat_apply]
  have e0 : mate (headOf (pairOf t) 0) = headOf (pairOf t) 1 := Fin.ext (by simp only [mate, headOf]; simp)
  have e1 : mate (headOf (pairOf t) 1) = headOf (pairOf t) 0 := Fin.ext (by simp only [mate, headOf]; simp; omega)
  fin_cases g
  · refine (if_pos ((own_half 0 0 l).mpr rfl)).trans ((hr.gates s 1 0 (by decide) l).trans ?_)
    exact congrArg (fun z => ((keySum A (exOf t) z (key (tileOf t) s) : ℝ) : EReal)) e0.symm
  · refine (if_neg (mt (own_half 0 1 l).mp (by decide))).trans ((hr.gates s 0 1 (by decide) l).trans ?_)
    exact congrArg (fun z => ((keySum A (exOf t) z (key (tileOf t) s) : ℝ) : EReal)) e1.symm

theorem array_queries0 : (dats m 0 c).arrAt 7 cfg0.N = queries0Arr A := by
  refine (dats m 0 c).arrAt_eq_of_covers 7 (queries0Arr A) (by decide +kernel) fun t hf y => ?_
  blk_simp
  rw [after0_7]
  obtain ⟨R, x, rfl⟩ : ∃ (R : Fin 4096) (x : Fin 128), y = ix2 R x := ⟨_, _, eq_ix2 y⟩
  have e : (queries0Arr A) ((win0_7.blk t).view.emb (ix2 R x)) = (queries0Arr A) (ix2 (row (exOf t) R) (pairLane (pairOf t) x)) := by
    generalize queries0Arr A = G
    blk_ext [index_7 t] <;> rfl
  rw [e]
  obtain ⟨u, rfl⟩ := flushed t ((flush0_7 t).mp hf)
  have hr := reads_tile H u
  have eb : exOf (tilePt u 3) = ⟨u / 4, by omega⟩ := Fin.ext (by simp only [exOf, tilePt]; omega)
  have ep : pairOf (tilePt u 3) = ⟨u % 4, Nat.mod_lt _ (by decide)⟩ := Fin.ext (by simp only [pairOf, tilePt]; omega)
  rw [queries_left, eb, ep, ← half_eta x, pairLane_half]
  generalize (⟨x.val / 64, by omega⟩ : Fin 2) = g
  generalize (⟨x.val % 64, Nat.mod_lt _ (by decide)⟩ : Fin 64) = l
  generalize (⟨u / 4, by omega⟩ : Fin 2) = b at hr ⊢
  generalize (⟨u % 4, Nat.mod_lt _ (by decide)⟩ : Fin 4) = p at hr ⊢
  have e0 : mate (headOf p 0) = headOf p 1 := Fin.ext (by simp only [mate, headOf]; simp)
  have e1 : mate (headOf p 1) = headOf p 0 := Fin.ext (by simp only [mate, headOf]; simp; omega)
  rw [queries0Arr, flat_apply]
  refine (tiles_sum hr R 0 g l).trans ?_
  by_cases hg : g = 0
  · subst hg
    rw [if_pos rfl, if_pos (show (headOf p 0).val % 2 = 0 by simp only [headOf]; simp)]
  · obtain rfl : g = 1 := by omega
    rw [if_neg hg, if_neg (show ¬ (headOf p 1).val % 2 = 0 by simp only [headOf]; simp), e1]

theorem array_queries1 : (dats m 0 c).arrAt 8 cfg0.N = queries1Arr A := by
  refine (dats m 0 c).arrAt_eq_of_covers 8 (queries1Arr A) (by decide +kernel) fun t hf y => ?_
  blk_simp
  rw [after0_8]
  obtain ⟨R, x, rfl⟩ : ∃ (R : Fin 4096) (x : Fin 128), y = ix2 R x := ⟨_, _, eq_ix2 y⟩
  have e : (queries1Arr A) ((win0_8.blk t).view.emb (ix2 R x)) = (queries1Arr A) (ix2 (row (exOf t) R) (pairLane (pairOf t) x)) := by
    generalize queries1Arr A = G
    blk_ext [index_8 t] <;> rfl
  rw [e]
  obtain ⟨u, rfl⟩ := flushed t ((flush0_8 t).mp hf)
  have hr := reads_tile H u
  have eb : exOf (tilePt u 3) = ⟨u / 4, by omega⟩ := Fin.ext (by simp only [exOf, tilePt]; omega)
  have ep : pairOf (tilePt u 3) = ⟨u % 4, Nat.mod_lt _ (by decide)⟩ := Fin.ext (by simp only [pairOf, tilePt]; omega)
  rw [queries_left, eb, ep, ← half_eta x, pairLane_half]
  generalize (⟨x.val / 64, by omega⟩ : Fin 2) = g
  generalize (⟨x.val % 64, Nat.mod_lt _ (by decide)⟩ : Fin 64) = l
  generalize (⟨u / 4, by omega⟩ : Fin 2) = b at hr ⊢
  generalize (⟨u % 4, Nat.mod_lt _ (by decide)⟩ : Fin 4) = p at hr ⊢
  have e0 : mate (headOf p 0) = headOf p 1 := Fin.ext (by simp only [mate, headOf]; simp)
  have e1 : mate (headOf p 1) = headOf p 0 := Fin.ext (by simp only [mate, headOf]; simp; omega)
  rw [queries1Arr, flat_apply]
  refine (tiles_sum hr R 1 g l).trans ?_
  by_cases hg : g = 1
  · subst hg
    rw [if_pos rfl, if_pos (show (headOf p 1).val % 2 = 1 by simp only [headOf]; simp)]
  · obtain rfl : g = 0 := by omega
    rw [if_neg hg, if_neg (show ¬ (headOf p 0).val % 2 = 1 by simp only [headOf]; simp), e0]

end Cert.KernelIdeal.Gen

end
-- ==== Proof.Tail.lean ====
module

public import proofs.«01_k».proof.Proof.Gathered

@[expose] public section

set_option maxRecDepth 16384

noncomputable section

/-!
# What the host does after the kernel

It picks the queries' gradient of each head out of the two arrays, and subtracts the keys' sums from the queries' sums for
the gates.
-/

namespace Cert.KernelIdeal.Gen

open Idealize.ShloMosaic Idealize.ShloMosaic.TcCoe Cert.Fox

/-- A token's row cut into pairs, heads and components. -/
def cut (x : Vec Ideal S8192x512 .f32) : Vec Ideal S2x4096x4x2x64 .f32 := shapeCast S2x4096x4x2x64 x shapeCasts_S8192x512_S2x4096x4x2x64

/-- The lanes of the pairs' first heads from `x`, of the second heads from `y`. -/
def choose (x y : Vec Ideal S8192x512 .f32) : Vec Ideal S2x4096x4x2x64 .f32 :=
  select (cmpi .eq (iotaInDim S2x4096x4x2x64 32 3) (broadcastInDim S2x4096x4x2x64 ![] bcast_S_S2x4096x4x2x64 (constantI S_ 32 0#32))) (cut x) (cut y)

/-- The queries' gradient. -/
def joined (x y : Vec Ideal S8192x512 .f32) : Vec Ideal S8192x512 .f32 := shapeCast S8192x512 (choose x y) shapeCasts_S2x4096x4x2x64_S8192x512

/-- The gates' gradient. -/
def gateRows (x y z : Vec Ideal S8192x512 .f32) : Vec Ideal S2x8x4096 .f32 :=
  transpose S2x8x4096 [0, 2, 1] (shapeCast S2x4096x8 (concatenate S2x4096x4x2 3
    [⟨S2x4096x4x1, shapeCast S2x4096x4x1 (extractStridedSlice S2x4096x4x1x1 ![0, 0, 0, 1, 0] (subf (F := Ideal) (φ := .f32) (choose y x) (cut z)) slices_S2x4096x4x2x64_S2x4096x4x1x1_0_0_0_1_0) shapeCasts_S2x4096x4x1x1_S2x4096x4x1⟩,
     ⟨S2x4096x4x1, shapeCast S2x4096x4x1 (extractStridedSlice S2x4096x4x1x1 ![0, 0, 0, 0, 0] (subf (F := Ideal) (φ := .f32) (choose y x) (cut z)) slices_S2x4096x4x2x64_S2x4096x4x1x1_0_0_0_0_0) shapeCasts_S2x4096x4x1x1_S2x4096x4x1⟩]
    concatenates_S2x4096x4x1_S2x4096x4x1_S2x4096x4x2_d3) shapeCasts_S2x4096x4x2_S2x4096x8) transposes_S2x4096x8_S2x8x4096_0_2_1

section After

variable (W : Valuation τ sig (Elt Ideal))

theorem after_joined : StableHlo.after tail.flatten W (Proc.devRef .tc main_v42)
    = joined (W (Proc.devRef .tc main_v34_0)) (W (Proc.devRef .tc main_v34_1)) := by
  simp only [List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

theorem after_gates : StableHlo.after tail.flatten W (Proc.devRef .tc main_v51)
    = gateRows (W (Proc.devRef .tc main_v34_0)) (W (Proc.devRef .tc main_v34_1)) (W (Proc.devRef .tc main_v34_4)) := by
  simp only [List.flatten_cons, List.flatten_nil, List.append_nil, List.cons_append, List.nil_append, StableHlo.TRef.nullary, StableHlo.TRef.ternary, StableHlo.TRef.unary, StableHlo.TRef.toBuf, StableHlo.TRef.ofBuf, cast_eq]
  after_reads_simp
  rfl

end After

theorem cut_apply (x : Vec Ideal S8192x512 .f32) (b : Fin 2) (r : Fin 4096) (p : Fin 4) (h : Fin 2) (l : Fin 64) :
    cut x (ix5 b r p h l) = x (ix2 (row b r) (lane (headOf p h) l)) := by
  have e : (⟨p.val * 128 + h.val * 64 + l.val, by omega⟩ : Fin 512) = lane (headOf p h) l := Fin.ext (by simp only [lane, headOf]; omega)
  rw [← e]
  pointwise [cut]
  rfl

theorem choose_apply (x y : Vec Ideal S8192x512 .f32) (b : Fin 2) (r : Fin 4096) (p : Fin 4) (h : Fin 2) (l : Fin 64) :
    choose x y (ix5 b r p h l) = if h = 0 then cut x (ix5 b r p h l) else cut y (ix5 b r p h l) := by
  unfold choose
  generalize cut x = x'
  generalize cut y = y'
  pointwise []
  fin_cases h
  · rfl
  · rfl

theorem joined_apply (x y : Vec Ideal S8192x512 .f32) (b : Fin 2) (r : Fin 4096) (h : Fin 8) (l : Fin 64) :
    joined x y (ix2 (row b r) (lane h l)) = choose x y (ix5 b r ⟨h / 2, by omega⟩ ⟨h % 2, Nat.mod_lt _ (by decide)⟩ l) := by
  have e1 : (⟨(row b r).val / 4096, by have := (row b r).isLt; omega⟩ : Fin 2) = b := Fin.ext (by simp only [row]; omega)
  have e2 : (⟨(row b r).val % 4096, Nat.mod_lt _ (by decide)⟩ : Fin 4096) = r := Fin.ext (by simp only [row]; omega)
  have e3 : (⟨(lane h l).val / 128, by have := (lane h l).isLt; omega⟩ : Fin 4) = ⟨h / 2, by omega⟩ := Fin.ext (by simp only [lane]; omega)
  have e4 : (⟨(lane h l).val / 64 % 2, Nat.mod_lt _ (by decide)⟩ : Fin 2) = ⟨h % 2, Nat.mod_lt _ (by decide)⟩ := Fin.ext (by simp only [lane]; omega)
  have e5 : (⟨(lane h l).val % 64, Nat.mod_lt _ (by decide)⟩ : Fin 64) = l := Fin.ext (by simp only [lane]; omega)
  unfold joined
  generalize choose x y = z
  pointwise []
  rw [e1, e2, e3, e4, e5]

theorem gateRows_apply (x y z : Vec Ideal S8192x512 .f32) (b : Fin 2) (h : Fin 8) (r : Fin 4096) :
    gateRows x y z (ix3 b h r) = choose y x (ix5 b r ⟨h / 2, by omega⟩ ⟨1 - h % 2, by omega⟩ 0) - cut z (ix5 b r ⟨h / 2, by omega⟩ ⟨1 - h % 2, by omega⟩ 0) := by
  unfold gateRows
  generalize choose y x = u
  generalize cut z = v
  pointwise []
  by_cases hh : h.val % 2 < 1
  · have e : (⟨1 - h.val % 2, by omega⟩ : Fin 2) = 1 := Fin.ext (by show 1 - h.val % 2 = 1; omega)
    rw [dif_pos hh, e]
  · have e : (⟨1 - h.val % 2, by omega⟩ : Fin 2) = 0 := Fin.ext (by show 1 - h.val % 2 = 0; omega)
    rw [dif_neg hh, e]

variable {A : Args}

theorem headOf_eta (h : Fin 8) : headOf ⟨h / 2, by omega⟩ ⟨h % 2, Nat.mod_lt _ (by decide)⟩ = h := Fin.ext (Nat.div_add_mod' h.val 2)

theorem headOf_mate (h : Fin 8) : headOf ⟨h / 2, by omega⟩ ⟨1 - h % 2, by omega⟩ = mate h := rfl

theorem mate_mate (h : Fin 8) : mate (mate h) = h := Fin.ext (by simp only [mate]; omega)

/-- The queries' gradient is put together. -/
theorem joined_real (b : Fin 2) (r : Fin 4096) (h : Fin 8) (l : Fin 64) :
    joined (queries0Arr A) (queries1Arr A) (ix2 (row b r) (lane h l)) = ((A.dq b h r l : ℝ) : EReal) := by
  rw [joined_apply, choose_apply, cut_apply, cut_apply, headOf_eta, queries0Arr, queries1Arr, flat_apply, flat_apply]
  by_cases hh : h.val % 2 = 0
  · rw [if_pos (show (⟨h.val % 2, Nat.mod_lt _ (by decide)⟩ : Fin 2) = 0 from Fin.ext hh), if_pos hh]
  · have h1 : h.val % 2 = 1 := by omega
    rw [if_neg (show ¬ (⟨h.val % 2, Nat.mod_lt _ (by decide)⟩ : Fin 2) = 0 from fun e => hh (congrArg Fin.val e)), if_pos h1]

/-- The gates' gradient is the difference of the two sums. -/
theorem gateRows_real (b : Fin 2) (h : Fin 8) (r : Fin 4096) :
    gateRows (queries0Arr A) (queries1Arr A) (gatesArr A) (ix3 b h r) = ((A.dc b h r : ℝ) : EReal) := by
  rw [gateRows_apply, choose_apply, cut_apply, cut_apply, cut_apply, headOf_mate, queries0Arr, queries1Arr, gatesArr, flat_apply, flat_apply, flat_apply, mate_mate,
    Args.dc, EReal.coe_sub]
  refine congrArg (· - _) ?_
  by_cases hh : h.val % 2 = 0
  · have e : ¬ (mate h).val % 2 = 0 := by simp only [mate]; omega
    rw [if_neg (show ¬ (⟨1 - h.val % 2, by omega⟩ : Fin 2) = 0 from fun e => by have := congrArg Fin.val e; simp only [Fin.val_zero] at this; omega), if_neg e, rowSum]
  · have e : ¬ (mate h).val % 2 = 1 := by simp only [mate]; omega
    rw [if_pos (show (⟨1 - h.val % 2, by omega⟩ : Fin 2) = 0 from Fin.ext (by show 1 - h.val % 2 = 0; omega)), if_neg e, rowSum]

section Run

variable (m : (ℓ : Loc nD τ sig) → Buf (Elt Ideal) ℓ) (c : Dev nD)

theorem arr_ne : Function.Injective (Pipeline.arrRef spec0) := by decide +kernel

theorem left_7 : Pipeline.withArrays (cfgs 0).spec c (V0 m c) (fun w => (dats m 0 c).arrAt w (cfgs 0).N) (Proc.devRef .tc main_v34_0)
    = (dats m 0 c).arrAt 7 cfg0.N := Pipeline.withArrays_arr spec0 arr_ne c (V0 m c) _ 7
theorem left_8 : Pipeline.withArrays (cfgs 0).spec c (V0 m c) (fun w => (dats m 0 c).arrAt w (cfgs 0).N) (Proc.devRef .tc main_v34_1)
    = (dats m 0 c).arrAt 8 cfg0.N := Pipeline.withArrays_arr spec0 arr_ne c (V0 m c) _ 8
theorem left_11 : Pipeline.withArrays (cfgs 0).spec c (V0 m c) (fun w => (dats m 0 c).arrAt w (cfgs 0).N) (Proc.devRef .tc main_v34_4)
    = (dats m 0 c).arrAt 11 cfg0.N := Pipeline.withArrays_arr spec0 arr_ne c (V0 m c) _ 11

variable {m c} (H : IsReal m A c)

include H

theorem end_queries : Pipeline.afterTail₀ cfgs (dats m) 0 (V0 m) tail c main_v42 = joined (queries0Arr A) (queries1Arr A) := by
  rw [Pipeline.afterTail₀, after_joined, left_7, left_8, array_queries0 H, array_queries1 H]

theorem end_gates : Pipeline.afterTail₀ cfgs (dats m) 0 (V0 m) tail c main_v51 = gateRows (queries0Arr A) (queries1Arr A) (gatesArr A) := by
  rw [Pipeline.afterTail₀, after_gates, left_7, left_8, left_11, array_queries0 H, array_queries1 H, array_gates H]

end Run

end Cert.KernelIdeal.Gen

end
-- ==== Proof.Reference.lean ====
module

public import proofs.«01_k».proof.Proof.Gen.ReferenceIdeal.Read
public import proofs.«01_k».proof.Proof.Heads
public import Idealize.ShloMosaic.Lib.Pointwise
public import Idealize.ShloMosaic.Lib.WordCmp

@[expose] public section

set_option maxRecDepth 16384

noncomputable section

/-!
# What the reference computes for real arguments

Stage by stage: the masked scores, the exponentials, the weights, the score gradients and the four results.
-/

namespace Cert.ReferenceIdeal.Read

open Cert.ReferenceIdeal Cert.ReferenceIdeal.Gen Idealize.ShloMosaic Idealize.ShloMosaic.TcCoe Cert.Fox

theorem bot_word : Ideal.ofBits FTy.f32 4286578688#32 = ⊥ := by decide +kernel

/-- The comparison of two positions. -/
theorem sge_rows (r s : Fin 4096) : IntOp.cmpi CmpIPredicate.sge (BitVec.ofNat 32 r.val) (BitVec.ofNat 32 s.val) = if s ≤ r then 1#1 else 0#1 := by
  have hr := r.isLt
  have hs := s.isLt
  split
  · have hle : s.val ≤ r.val := ‹_›
    word_cmp
  · have hle : ¬ s.val ≤ r.val := ‹_›
    word_cmp

variable {A : Args} {q k v d : Vec Ideal S8192x512 .bf16} {c : Vec Ideal S2x8x4096 .f32}

section

variable (hq : ∀ x y, q (ix2 x y) = ((A.q x y : ℝ) : EReal)) (hk : ∀ x y, k (ix2 x y) = ((A.k x y : ℝ) : EReal))
    (hv : ∀ x y, v (ix2 x y) = ((A.v x y : ℝ) : EReal)) (hd : ∀ x y, d (ix2 x y) = ((A.d x y : ℝ) : EReal))
    (hc : ∀ b h r, c (ix3 b h r) = ((A.c b h r : ℝ) : EReal))

include hq in
theorem ref_q (b : Fin 2) (h : Fin 8) (r : Fin 4096) (l : Fin 64) : val_main_v5 (F := Ideal) q (ix4 b h r l) = ((A.q (row b r) (lane h l) : ℝ) : EReal) := by
  rw [← hq]
  pointwise [val_main_v5, val_main_v4, val_main_v0]
  rfl

include hk in
theorem ref_k (b : Fin 2) (h : Fin 8) (r : Fin 4096) (l : Fin 64) : val_main_v7 (F := Ideal) k (ix4 b h r l) = ((A.k (row b r) (lane h l) : ℝ) : EReal) := by
  rw [← hk]
  pointwise [val_main_v7, val_main_v6, val_main_v1]
  rfl

include hv in
theorem ref_v (b : Fin 2) (h : Fin 8) (r : Fin 4096) (l : Fin 64) : val_main_v9 (F := Ideal) v (ix4 b h r l) = ((A.v (row b r) (lane h l) : ℝ) : EReal) := by
  rw [← hv]
  pointwise [val_main_v9, val_main_v8, val_main_v2]
  rfl

include hd in
theorem ref_d (b : Fin 2) (h : Fin 8) (r : Fin 4096) (l : Fin 64) : val_main_v57 (F := Ideal) d (ix4 b h r l) = ((A.d (row b r) (lane h l) : ℝ) : EReal) := by
  rw [← hd]
  pointwise [val_main_v57, val_main_v56, val_main_v3]
  rfl

theorem ref_mask (b : Fin 2) (h : Fin 8) (r s : Fin 4096) : val_main_v24_1 (F := Ideal) (ix4 b h r s) = if s ≤ r then 1#1 else 0#1 := by
  rw [← sge_rows]
  pointwise [val_main_v24_1, val_main_v23, val_main_v22, val_main_v21, val_main_v20, val_main_v19, val_main_v18, val_main_v17]

theorem ref_void (b : Fin 2) (h : Fin 8) (r s : Fin 4096) : val_main_call0_v2 (F := Ideal) (ix4 b h r s) = ⊥ := by
  rw [← bot_word]
  pointwise [val_main_call0_v2, val_main_call0_v0, val_main_cst]
  rfl

theorem ref_zero (b : Fin 2) (h : Fin 8) (r s : Fin 4096) : val_main_call1_v0 (F := Ideal) (ix4 b h r s) = 0 := by
  pointwise [val_main_call1_v0, val_main_call1_cst]

include hq hk in
theorem ref_dot (b : Fin 2) (h : Fin 8) (r s : Fin 4096) : val_main_v10 (F := Ideal) q k (ix4 b h r s)
    = ((∑ l, A.q (row b r) (lane h l) * A.k (row b s) (lane h l) : ℝ) : EReal) := by
  have eq := ref_q hq
  have ek := ref_k hk
  unfold val_main_v10
  generalize val_main_v5 (F := Ideal) q = x at eq ⊢
  generalize val_main_v7 (F := Ideal) k = y at ek ⊢
  pointwise []
  simp only [eq, ek, ← EReal.coe_mul]
  exact coe_sum _ _

theorem ref_gates (x : Vec Ideal S2x8x4096x4096 .f32) (b : Fin 2) (h : Fin 8) (r s : Fin 4096) :
    subf (F := Ideal) (φ := .f32) (addf (F := Ideal) (φ := .f32) x (val_main_v12 (F := Ideal) c)) (val_main_v15 (F := Ideal) c) (ix4 b h r s)
      = x (ix4 b h r s) + c (ix3 b h r) - c (ix3 b h s) := by
  pointwise [val_main_v12, val_main_v11, val_main_v15, val_main_v14]

include hq hk hc in
theorem ref_scores (b : Fin 2) (h : Fin 8) (r s : Fin 4096) :
    val_main_v24_0 (F := Ideal) q k c (ix4 b h r s) = (A.head b h).masked (A.c b h r) r s := by
  rw [val_main_v24_0_apply, ref_mask, ref_void, Head.masked]
  have e : val_main_v16 (F := Ideal) q k c (ix4 b h r s) = (((A.head b h).score r s + A.c b h r : ℝ) : EReal) := by
    unfold val_main_v16 val_main_v13
    refine (ref_gates _ b h r s).trans ?_
    rw [ref_dot hq hk, hc, hc, ← EReal.coe_add, ← EReal.coe_sub]
    congr 1
    show _ = (∑ l, A.q (row b r) (lane h l) * A.k (row b s) (lane h l) - A.c b h s) + A.c b h r
    ring
  rw [e]
  split <;> rfl

/-- The maximum over the last axis. -/
theorem ref_fold (x : Vec Ideal S2x8x4096x4096 .f32) (b : Fin 2) (h : Fin 8) (r : Fin 4096) :
    Host.reduce (FloatOps.maximumf (F := Ideal) (φ := .f32)) x (val_main_cst_0 (F := Ideal)) reducesTo_S2x8x4096x4096_S2x8x4096_d3 h_S_ (ix3 b h r)
      = Finset.univ.fold max ⊥ fun s => x (ix4 b h r s) := by
  pointwise [val_main_cst_0]
  rw [bot_word]

theorem ref_floor (b : Fin 2) (h : Fin 8) (r : Fin 4096) : val_main_v31 (F := Ideal) (ix3 b h r) = ⊥ := by
  rw [← bot_word]
  pointwise [val_main_v31, val_main_cst_2]

theorem max_bot_left (x y : EReal) (hx : x = ⊥) : max x y = y := by rw [hx]; exact max_eq_right bot_le

theorem ref_max (b : Fin 2) (h : Fin 8) (r s : Fin 4096) :
    val_main_v43 (F := Ideal) q k c (ix4 b h r s) = Finset.univ.fold max ⊥ fun s => val_main_v24_0 (F := Ideal) q k c (ix4 b h r s) := by
  have e : val_main_v32 (F := Ideal) q k c (ix3 b h r) = val_main_v25 (F := Ideal) q k c (ix3 b h r) :=
    (val_main_v32_apply q k c (ix3 b h r)).trans (max_bot_left _ _ (ref_floor b h r))
  have e' : val_main_v25 (F := Ideal) q k c (ix3 b h r) = Finset.univ.fold max ⊥ fun s => val_main_v24_0 (F := Ideal) q k c (ix4 b h r s) := by
    unfold val_main_v25
    exact ref_fold _ b h r
  rw [← e', ← e]
  unfold val_main_v43 val_main_v42
  generalize val_main_v32 (F := Ideal) q k c = x
  pointwise []

theorem ref_one : Ideal.ofBits FTy.f32 0x3F800000#32 = 1 := by
  rw [Ideal.ofBits_one_f32]

theorem ref_exp (b : Fin 2) (h : Fin 8) (r s : Fin 4096) : val_main_v45 (F := Ideal) q k c (ix4 b h r s)
    = Ideal.exp (val_main_v24_0 (F := Ideal) q k c (ix4 b h r s) - val_main_v43 (F := Ideal) q k c (ix4 b h r s)) := by
  rw [val_main_v45_apply, val_main_v44_apply]
  rfl

theorem ref_total (b : Fin 2) (h : Fin 8) (r : Fin 4096) : val_main_v46 (F := Ideal) q k c (ix3 b h r) = ∑ s, val_main_v45 (F := Ideal) q k c (ix4 b h r s) := by
  unfold val_main_v46
  generalize val_main_v45 (F := Ideal) q k c = x
  pointwise [val_main_cst_8]

theorem ref_total1 (b : Fin 2) (h : Fin 8) (r : Fin 4096) : val_main_v47 (F := Ideal) q k c (ix4 b h r 0) = val_main_v46 (F := Ideal) q k c (ix3 b h r) := by
  unfold val_main_v47
  generalize val_main_v46 (F := Ideal) q k c = x
  pointwise []

theorem ref_total2 (b : Fin 2) (h : Fin 8) (r s : Fin 4096) : val_main_v48 (F := Ideal) q k c (ix4 b h r s) = val_main_v46 (F := Ideal) q k c (ix3 b h r) := by
  rw [← ref_total1]
  unfold val_main_v48
  generalize val_main_v47 (F := Ideal) q k c = x
  pointwise []

theorem ref_total3 (b : Fin 2) (h : Fin 8) (r s : Fin 4096) : val_main_v67 (F := Ideal) q k c (ix4 b h r s) = val_main_v46 (F := Ideal) q k c (ix3 b h r) := by
  rw [← ref_total1]
  unfold val_main_v67
  generalize val_main_v47 (F := Ideal) q k c = x
  pointwise []

theorem ref_square (b : Fin 2) (h : Fin 8) (r s : Fin 4096) : val_main_v61 (F := Ideal) q k c (ix4 b h r s)
    = Ideal.div 1 (val_main_v46 (F := Ideal) q k c (ix3 b h r) * val_main_v46 (F := Ideal) q k c (ix3 b h r)) := by
  rw [← ref_total1, ← ref_one]
  unfold val_main_v61 val_main_v52 val_main_v50
  generalize val_main_v47 (F := Ideal) q k c = x
  pointwise [val_main_v51, val_main_cst_9]

include hv hd in
theorem ref_slope (b : Fin 2) (h : Fin 8) (r s : Fin 4096) : val_main_v60 (F := Ideal) v d (ix4 b h r s)
    = ∑ l, ((A.head b h).d r l : EReal) * ((A.head b h).v s l : EReal) := by
  have ev := ref_v hv
  have ed := ref_d hd
  unfold val_main_v60
  generalize val_main_v9 (F := Ideal) v = x at ev ⊢
  generalize val_main_v57 (F := Ideal) d = y at ed ⊢
  pointwise []
  simp only [ev, ed]
  rfl

theorem ref_pull (b : Fin 2) (h : Fin 8) (r s : Fin 4096) : val_main_v70 (F := Ideal) q k v c d (ix4 b h r s)
    = -∑ s, val_main_v63 (F := Ideal) q k v c d (ix4 b h r s) := by
  unfold val_main_v70 val_main_v69 val_main_v66 val_main_v65 val_main_v64
  generalize val_main_v63 (F := Ideal) q k v c d = x
  pointwise [val_main_cst_10, val_main_cst_11]
  exact Fin.sum_univ_one _

include hq hk hc in
/-- The exponentials, the row's maximum being some real number. -/
theorem ref_exps (b : Fin 2) (h : Fin 8) (r : Fin 4096) : ∃ m : ℝ, (∀ s, val_main_v45 (F := Ideal) q k c (ix4 b h r s)
      = Ideal.exp ((A.head b h).masked (A.c b h r) r s - (m : EReal)))
    ∧ val_main_v46 (F := Ideal) q k c (ix3 b h r) = ∑ s, Ideal.exp ((A.head b h).masked (A.c b h r) r s - (m : EReal)) := by
  obtain ⟨m, hm⟩ := (A.head b h).max_masked (A.c b h r) r
  have e : ∀ s, val_main_v45 (F := Ideal) q k c (ix4 b h r s) = Ideal.exp ((A.head b h).masked (A.c b h r) r s - (m : EReal)) := fun s => by
    rw [ref_exp, ref_max]
    simp only [ref_scores hq hk hc]
    rw [show (Finset.univ.fold max ⊥ fun s => (A.head b h).masked (A.c b h r) r s) = (m : EReal) from hm]
  refine ⟨m, e, ?_⟩
  rw [ref_total]
  exact Finset.sum_congr rfl fun s _ => e s

include hq hk hc in
theorem ref_weight (b : Fin 2) (h : Fin 8) (r s : Fin 4096) : val_main_v49 (F := Ideal) q k c (ix4 b h r s) = (((A.head b h).weight r s : ℝ) : EReal) := by
  obtain ⟨m, e, e'⟩ := ref_exps hq hk hc b h r
  rw [val_main_v49_apply, ref_total2, e, e']
  exact Head.div_masked _ _ _ _ _

include hq hk hv hd hc in
theorem ref_grad (b : Fin 2) (h : Fin 8) (r s : Fin 4096) : val_main_v73 (F := Ideal) q k v c d (ix4 b h r s) = (((A.head b h).grad r s : ℝ) : EReal) := by
  rw [val_main_v73_apply, ref_mask, ref_zero]
  have e : val_main_v72 (F := Ideal) q k v c d (ix4 b h r s) = (((A.head b h).grad r s : ℝ) : EReal) := by
    obtain ⟨m, e, e'⟩ := ref_exps hq hk hc b h r
    have e63 : ∀ s, val_main_v63 (F := Ideal) q k v c d (ix4 b h r s)
        = val_main_v60 (F := Ideal) v d (ix4 b h r s) * Ideal.div 1 (val_main_v46 (F := Ideal) q k c (ix3 b h r) * val_main_v46 (F := Ideal) q k c (ix3 b h r))
          * val_main_v45 (F := Ideal) q k c (ix4 b h r s) := fun s => by
      rw [val_main_v63_apply, val_main_v62_apply, ref_square]
      rfl
    rw [val_main_v72_apply, val_main_v71_apply, val_main_v68_apply, ref_pull, ref_total3]
    simp only [e63]
    exact (A.head b h).grad_of_vjp (A.c b h r) m r s (fun s => val_main_v45 (F := Ideal) q k c (ix4 b h r s)) _
      (fun s => val_main_v60 (F := Ideal) v d (ix4 b h r s)) e e' (fun s => ref_slope hv hd b h r s)
  rw [e]
  by_cases hs : s ≤ r
  · rw [if_pos hs]; rfl
  · rw [if_neg hs, Head.grad, Head.weight, Head.num, if_neg hs, zero_div, zero_mul, EReal.coe_zero]; rfl

theorem tok_85 (b : Fin 2) (h : Fin 8) (r : Fin 4096) (l : Fin 64) : val_main_v85 (F := Ideal) q k c d (ix2 (row b r) (lane h l)) = val_main_v59 (F := Ideal) q k c d (ix4 b h r l) := by
  have e1 : (⟨(row b r).val / 4096, by have := (row b r).isLt; omega⟩ : Fin 2) = b := Fin.ext (by simp only [row]; omega)
  have e2 : (⟨(row b r).val % 4096, Nat.mod_lt _ (by decide)⟩ : Fin 4096) = r := Fin.ext (by simp only [row]; omega)
  have e3 : (⟨(lane h l).val / 64, by have := (lane h l).isLt; omega⟩ : Fin 8) = h := Fin.ext (by simp only [lane]; omega)
  have e4 : (⟨(lane h l).val % 64, Nat.mod_lt _ (by decide)⟩ : Fin 64) = l := Fin.ext (by simp only [lane]; omega)
  unfold val_main_v85 val_main_v84
  generalize val_main_v59 (F := Ideal) q k c d = x
  pointwise []
  simp only [e1, e2, e3, e4]

theorem tok_87 (b : Fin 2) (h : Fin 8) (r : Fin 4096) (l : Fin 64) : val_main_v87 (F := Ideal) q k v c d (ix2 (row b r) (lane h l)) = val_main_v82 (F := Ideal) q k v c d (ix4 b h r l) := by
  have e1 : (⟨(row b r).val / 4096, by have := (row b r).isLt; omega⟩ : Fin 2) = b := Fin.ext (by simp only [row]; omega)
  have e2 : (⟨(row b r).val % 4096, Nat.mod_lt _ (by decide)⟩ : Fin 4096) = r := Fin.ext (by simp only [row]; omega)
  have e3 : (⟨(lane h l).val / 64, by have := (lane h l).isLt; omega⟩ : Fin 8) = h := Fin.ext (by simp only [lane]; omega)
  have e4 : (⟨(lane h l).val % 64, Nat.mod_lt _ (by decide)⟩ : Fin 64) = l := Fin.ext (by simp only [lane]; omega)
  unfold val_main_v87 val_main_v86
  generalize val_main_v82 (F := Ideal) q k v c d = x
  pointwise []
  simp only [e1, e2, e3, e4]

theorem tok_89 (b : Fin 2) (h : Fin 8) (r : Fin 4096) (l : Fin 64) : val_main_v89 (F := Ideal) q k v c d (ix2 (row b r) (lane h l)) = val_main_v83 (F := Ideal) q k v c d (ix4 b h r l) := by
  have e1 : (⟨(row b r).val / 4096, by have := (row b r).isLt; omega⟩ : Fin 2) = b := Fin.ext (by simp only [row]; omega)
  have e2 : (⟨(row b r).val % 4096, Nat.mod_lt _ (by decide)⟩ : Fin 4096) = r := Fin.ext (by simp only [row]; omega)
  have e3 : (⟨(lane h l).val / 64, by have := (lane h l).isLt; omega⟩ : Fin 8) = h := Fin.ext (by simp only [lane]; omega)
  have e4 : (⟨(lane h l).val % 64, Nat.mod_lt _ (by decide)⟩ : Fin 64) = l := Fin.ext (by simp only [lane]; omega)
  unfold val_main_v89 val_main_v88
  generalize val_main_v83 (F := Ideal) q k v c d = x
  pointwise []
  simp only [e1, e2, e3, e4]

include hq hk hd hc in
/-- The gradient of the values. -/
theorem ref_dv (b : Fin 2) (h : Fin 8) (s : Fin 4096) (l : Fin 64) :
    val_main_v85 (F := Ideal) q k c d (ix2 (row b s) (lane h l)) = ((A.dv b h s l : ℝ) : EReal) := by
  rw [tok_85]
  have ew := ref_weight hq hk hc
  have ed := ref_d hd
  unfold val_main_v59 val_main_v58
  generalize val_main_v49 (F := Ideal) q k c = x at ew ⊢
  generalize val_main_v57 (F := Ideal) d = y at ed ⊢
  pointwise []
  simp only [ew, ed, ← EReal.coe_mul]
  rw [coe_sum, Args.dv]
  congr 1
  exact Finset.sum_congr rfl fun r _ => mul_comm _ _

include hq hk hv hd hc

/-- The gradient of the keys. -/
theorem ref_dk (b : Fin 2) (h : Fin 8) (s : Fin 4096) (l : Fin 64) :
    val_main_v87 (F := Ideal) q k v c d (ix2 (row b s) (lane h l)) = ((A.dk b h s l : ℝ) : EReal) := by
  rw [tok_87]
  have ew := ref_grad hq hk hv hd hc
  have ed := ref_q hq
  unfold val_main_v82
  generalize val_main_v73 (F := Ideal) q k v c d = x at ew ⊢
  generalize val_main_v5 (F := Ideal) q = y at ed ⊢
  pointwise []
  simp only [ew, ed, ← EReal.coe_mul]
  exact coe_sum _ _

/-- The gradient of the queries. -/
theorem ref_dq (b : Fin 2) (h : Fin 8) (r : Fin 4096) (l : Fin 64) :
    val_main_v89 (F := Ideal) q k v c d (ix2 (row b r) (lane h l)) = ((A.dq b h r l : ℝ) : EReal) := by
  rw [tok_89]
  have ew := ref_grad hq hk hv hd hc
  have ed := ref_k hk
  unfold val_main_v83
  generalize val_main_v73 (F := Ideal) q k v c d = x at ew ⊢
  generalize val_main_v7 (F := Ideal) k = y at ed ⊢
  pointwise []
  simp only [ew, ed, ← EReal.coe_mul]
  exact coe_sum _ _

/-- The gradient of the cumulative gates. -/
theorem ref_dc (b : Fin 2) (h : Fin 8) (r : Fin 4096) :
    val_main_v81 (F := Ideal) q k v c d (ix3 b h r) = ((A.dc b h r : ℝ) : EReal) := by
  have ew := ref_grad hq hk hv hd hc
  unfold val_main_v81 val_main_v80 val_main_v79 val_main_v78 val_main_v77 val_main_v76 val_main_v75 val_main_v74
  generalize val_main_v73 (F := Ideal) q k v c d = x at ew ⊢
  pointwise [val_main_cst_12, val_main_cst_13, val_main_cst_14, val_main_cst_15]
  simp only [ew, Fin.sum_univ_one, ← EReal.coe_neg]
  rw [coe_sum, coe_sum, ← EReal.coe_add, Args.dc, Finset.sum_neg_distrib]
  congr 1
  ring

end

end Cert.ReferenceIdeal.Read

end
-- ==== Proof.Finite.lean ====
module

public import proofs.«01_k».proof.Defs
public import proofs.«01_k».proof.Proof.Arrays

@[expose] public section

set_option maxRecDepth 16384

noncomputable section

/-!
# The precondition

Every entry of the arguments has a magnitude below `⊤`; such an array is an array of real numbers.
-/

namespace Cert.Fox

open Idealize.ShloMosaic Idealize.ShloMosaic.TcCoe Cert.KernelIdeal.Gen

instance finiteFacts : Cert.Pre_finite.Facts where
  bitsLt_bf16_f32 := by decide
  bcast_S_S8192x512 := by decide
  bcast_S_S2x8x4096 := by decide

/-- A magnitude below `⊤` is that of a real number. -/
theorem real_of_abs {x : EReal} (h : x ⊔ -x < ⊤) : x = ((x.toReal : ℝ) : EReal) := by
  refine (EReal.coe_toReal (fun e => ?_) (fun e => ?_)).symm
  · rw [e] at h; exact absurd h (by simp)
  · rw [e] at h; exact absurd h (by simp)

theorem bound_top : Ideal.ofBits .f32 0x7F800000#32 = ⊤ := by simp [Ideal.ofBits, Ideal.ieee]

theorem lt_of_flag {a b : EReal} (h : BitVec.ofBool (decide (a < b)) = 1#1) : a < b := by
  by_contra n
  rw [decide_eq_false n] at h
  exact absurd h (by decide)

/-- An entry of a matrix that passes the test is a real number. -/
theorem mask_bf16 (x : Vec Ideal Cert.Pre_finite.S8192x512 .bf16) (a : Fin 8192) (b : Fin 512)
    (h : cmpf (F := Ideal) (φ := .f32) .olt (Host.absf (F := Ideal) (φ := .f32) (extf .f32 x Cert.Pre_finite.Facts.bitsLt_bf16_f32))
      (broadcastInDim Cert.Pre_finite.S8192x512 ![] Cert.Pre_finite.Facts.bcast_S_S8192x512 (constant (F := Ideal) Cert.Pre_finite.S_ .f32 0x7F800000#32)) (ix2 a b) = 1#1) :
    x (ix2 a b) = (((x (ix2 a b) : EReal).toReal : ℝ) : EReal) := by
  refine real_of_abs ?_
  revert h
  pointwise []
  intro h
  have := lt_of_flag h
  rw [bound_top] at this
  exact this

/-- The same for the gates' running sums. -/
theorem mask_f32 (x : Vec Ideal Cert.Pre_finite.S2x8x4096 .f32) (a : Fin 2) (b : Fin 8) (r : Fin 4096)
    (h : cmpf (F := Ideal) (φ := .f32) .olt (Host.absf (F := Ideal) (φ := .f32) x)
      (broadcastInDim Cert.Pre_finite.S2x8x4096 ![] Cert.Pre_finite.Facts.bcast_S_S2x8x4096 (constant (F := Ideal) Cert.Pre_finite.S_ .f32 0x7F800000#32)) (ix3 a b r) = 1#1) :
    x (ix3 a b r) = (((x (ix3 a b r) : EReal).toReal : ℝ) : EReal) := by
  refine real_of_abs ?_
  revert h
  pointwise []
  intro h
  have := lt_of_flag h
  rw [bound_top] at this
  exact this

variable (m : (ℓ : Loc Cert.KernelIdeal.nD Cert.KernelIdeal.τ Cert.KernelIdeal.sig) → Buf (Elt Ideal) ℓ)

/-- The real numbers the arguments stand for. -/
def argsOf (c : Dev Cert.KernelIdeal.nD) : Args where
  q x y := (argQ m c (ix2 x y) : EReal).toReal
  k x y := (argK m c (ix2 x y) : EReal).toReal
  v x y := (argV m c (ix2 x y) : EReal).toReal
  d x y := (argD m c (ix2 x y) : EReal).toReal
  c b h r := (argC m c (ix3 b h r) : EReal).toReal

theorem isReal (P : Cert.Pre_KernelIdeal_finite m) (c : Dev Cert.KernelIdeal.nD) : IsReal m (argsOf m c) c where
  hq x y := mask_bf16 (argQ m c) x y (congrFun (P c).1 _)
  hk x y := mask_bf16 (argK m c) x y (congrFun (P c).2.1 _)
  hv x y := mask_bf16 (argV m c) x y (congrFun (P c).2.2.1 _)
  hc b h r := mask_f32 (argC m c) b h r (congrFun (P c).2.2.2.1 _)
  hd x y := mask_bf16 (argD m c) x y (congrFun (P c).2.2.2.2 _)

end Cert.Fox

end
-- ==== Proof.Tiles.lean ====
module

public import Idealize.ShloMosaic.Lib.Pointwise

@[expose] public section

noncomputable section

/-!
# A sum over the tokens, tile by tile

A weight's gradient is a sum over all 8192 tokens. Its kernel takes 16 tiles of 512 tokens in turn and adds each tile's
sum to what it holds. `firstTiles f n` is the sum of `f` over the tokens of the first `n` tiles; `firstTiles_succ` is
the kernel's step and `firstTiles_all` says that 16 tiles are all the tokens.
-/

namespace Cert.Tiles

/-- The sum of `f` over the first `n` tiles of 512 tokens. -/
def firstTiles (f : ℕ → EReal) (n : ℕ) : EReal := ∑ k ∈ Finset.range (512 * n), f k

theorem firstTiles_zero (f : ℕ → EReal) : firstTiles f 0 = 0 := by
  simp [firstTiles]

theorem firstTiles_succ (f : ℕ → EReal) (n : ℕ) :
    firstTiles f (n + 1) = firstTiles f n + ∑ q : Fin 512, f (512 * n + q.val) := by
  unfold firstTiles
  rw [Nat.mul_succ, Finset.sum_range_add, Fin.sum_univ_eq_sum_range (fun q => f (512 * n + q))]

theorem firstTiles_all (f : ℕ → EReal) : firstTiles f 16 = ∑ k : Fin 8192, f k.val :=
  (Fin.sum_univ_eq_sum_range f 8192).symm

/-- A matrix of the given number of columns at a row that may lie outside it, where it reads zero. -/
def atRow {n d : ℕ} (x : Fin n → Fin d → EReal) (j : Fin d) (k : ℕ) : EReal :=
  if h : k < n then x ⟨k, h⟩ j else 0

theorem atRow_val {n d : ℕ} (x : Fin n → Fin d → EReal) (j : Fin d) (k : Fin n) : atRow x j k.val = x k j :=
  dif_pos k.isLt

end Cert.Tiles

end
-- ==== Proof.GradIn.lean ====
module

public import proofs.«01_k».proof.Proof.Gen.Kernel2Ideal.Value
public import proofs.«01_k».proof.Proof.Tiles
public import Idealize.ShloMosaic.Lib.Pipeline.ValueKit

@[expose] public section

set_option maxRecDepth 16384

noncomputable section

/-!
# The gradient of the feed-forward's first weight, as its kernel computes it

Grid point `t` takes column block `t / 16` of the weight and token tile `t % 16`. The scratch is cleared at a block's
first tile, every tile adds its product, and the last tile writes the block. `held` is the scratch after each point;
`array_in` is the weight's gradient.
-/

namespace Cert.Kernel2Ideal.Gen

open Idealize.ShloMosaic Idealize.ShloMosaic.TcCoe Idealize.ShloMosaic.Tactic Cert.Tiles
open Idealize.ShloMosaic.Pipeline (Dat)

/-- The product of the normalised activations at feature `r` and the hidden gradients at column `j`, of token `k`. -/
def term (a : Vec Ideal S8192x1024 .bf16) (b : Vec Ideal S8192x5632 .bf16) (r : Fin 1024) (j : Fin 5632) (k : ℕ) : EReal :=
  atRow (fun x y => a (ix2 x y)) r k * atRow (fun x y => b (ix2 x y)) j k

theorem clear_apply (y : S1024x1408.Idx) : k0_pay1 (F := Ideal) y = 0 := by
  pointwise [k0_pay1]

theorem add_apply (x : Vec Ideal S1024x1408 .f32) (a : Vec Ideal S512x1024 .bf16) (b : Vec Ideal S512x1408 .bf16) (r : Fin 1024) (j : Fin 1408) :
    k0_pay2 (F := Ideal) x a b (ix2 r j) = x (ix2 r j) + ∑ q : Fin 512, a (ix2 q r) * b (ix2 q j) := by
  pointwise [k0_pay2]

theorem write_apply (x : Vec Ideal S1024x1408 .f32) (u : Fin 1) (r : Fin 1024) (j : Fin 1408) :
    k0_pay3 (F := Ideal) x (ix3 u r j) = x (ix2 r j) := by
  pointwise [k0_pay3]

variable (m : (ℓ : Loc nD τ sig) → Buf (Elt Ideal) ℓ) (c : Dev nD)

/-- The two operands, as launched. -/
abbrev operandA : Vec Ideal S8192x1024 .bf16 := m ((c.tc : Thread nD τ).loc main_arg0)
abbrev operandB : Vec Ideal S8192x5632 .bf16 := m ((c.tc : Thread nD τ).loc main_arg1)

theorem index_at : ∀ t : Fin cfg0.N, win0_0.index t = ![t.val % 16, 0] ∧ win0_1.index t = ![t.val % 16, t.val / 16]
    ∧ win0_2.index t = ![t.val / 16, 0, 0] :=
  (by decide +kernel : ∀ t : Fin grid0.N, _)

theorem block_a (t : Fin cfg0.N) (q : Fin 512) (r : Fin 1024) :
    iblk m c 0 t (ix2 q r) = atRow (fun x y => operandA m c (ix2 x y)) r (512 * (t.val % 16) + q.val) := by
  have := q.isLt
  rw [atRow, dif_pos (by omega)]
  blk_ext [iblk, V, (index_at t).1]

theorem column_lt (t : Fin cfg0.N) (j : Fin 1408) : 1408 * (t.val / 16) + j.val < 5632 := by
  have : t.val < 64 := t.isLt
  omega

theorem block_b (t : Fin cfg0.N) (q : Fin 512) (j : Fin 1408) :
    iblk m c 1 t (ix2 q j) = atRow (fun x y => operandB m c (ix2 x y)) ⟨1408 * (t.val / 16) + j.val, column_lt t j⟩ (512 * (t.val % 16) + q.val) := by
  have := q.isLt
  rw [atRow, dif_pos (by omega)]
  blk_ext [iblk, V, (index_at t).2.1]

/-- One tile's step of the running sum. -/
theorem step_at (t : Fin cfg0.N) (x : Vec Ideal S1024x1408 .f32) (r : Fin 1024) (j : Fin 1408)
    (h : x (ix2 r j) = firstTiles (term (operandA m c) (operandB m c) r ⟨1408 * (t.val / 16) + j.val, column_lt t j⟩) (t.val % 16)) :
    k0_pay2 (F := Ideal) x (iblk m c 0 t) (iblk m c 1 t) (ix2 r j)
      = firstTiles (term (operandA m c) (operandB m c) r ⟨1408 * (t.val / 16) + j.val, column_lt t j⟩) (t.val % 16 + 1) := by
  rw [firstTiles_succ, ← h, add_apply]
  refine congrArg (_ + ·) (Finset.sum_congr rfl fun q _ => ?_)
  rw [block_a, block_b, term]

/-- The scratch after a block's first tile, and after a later one. -/
theorem scratch_clear (t : Fin cfg0.N) (h0 : t.val % 16 = 0) :
    (outsAt0 m c t.val t.isLt).2 = k0_pay2 (F := Ideal) (k0_pay1 (F := Ideal)) (iblk m c 0 t) (iblk m c 1 t) := by
  rw [outsAt0_A m c t h0 (by omega)]
  frame_out

theorem scratch_add (t : Fin cfg0.N) (h0 : ¬t.val % 16 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 16 = 15
  · rw [outsAt0_C m c t h0 h1]
    frame_out
    exact congrArg (fun z => k0_pay2 (F := Ideal) z _ _) ((Memref.isWhole_whole cc0_scratch0).read_unread _)
  · rw [outsAt0_B m c t h0 h1]
    frame_out
    exact congrArg (fun z => k0_pay2 (F := Ideal) z _ _) ((Memref.isWhole_whole cc0_scratch0).read_unread _)

/-- What a block's last tile writes. -/
theorem written (t : Fin cfg0.N) (h1 : t.val % 16 = 15) :
    (outsAt0 m c t.val t.isLt).1 = k0_pay3 (F := Ideal) (outsAt0 m c t.val t.isLt).2 := by
  rw [scratch_add m c t (by omega), outsAt0_C m c t (by omega) h1]
  frame_out
  exact congrArg (fun z => k0_pay3 (F := Ideal) (k0_pay2 (F := Ideal) z _ _)) ((Memref.isWhole_whole cc0_scratch0).read_unread _)

/-- After point `t` the scratch holds the sums over the tiles met of its block. -/
theorem held (n : ℕ) (hn : n < cfg0.N) (r : Fin 1024) (j : Fin 1408) :
    (outsAt0 m c n hn).2 (ix2 r j)
      = firstTiles (term (operandA m c) (operandB m c) r ⟨1408 * (n / 16) + j.val, column_lt ⟨n, hn⟩ j⟩) (n % 16 + 1) := by
  induction n with
  | zero =>
    rw [scratch_clear m c ⟨0, hn⟩ (Nat.zero_mod _)]
    exact step_at m c ⟨0, hn⟩ _ r j ((clear_apply _).trans (firstTiles_zero _).symm)
  | succ n ih =>
    by_cases h0 : (n + 1) % 16 = 0
    · rw [scratch_clear m c ⟨n + 1, hn⟩ h0]
      refine step_at m c ⟨n + 1, hn⟩ _ r j ((clear_apply _).trans ?_)
      dsimp only
      rw [h0, firstTiles_zero]
    · rw [scratch_add m c ⟨n + 1, hn⟩ h0]
      refine step_at m c ⟨n + 1, hn⟩ _ r j ?_
      refine (ih (Nat.lt_of_succ_lt hn)).trans ?_
      have e1 : n % 16 + 1 = (n + 1) % 16 := by omega
      have e2 : n / 16 = (n + 1) / 16 := by omega
      simp only [e1, e2]

/-- The gradient of the first weight: at block `s`, feature `r` and column `j` of the block. -/
def gradIn (a : Vec Ideal S8192x1024 .bf16) (b : Vec Ideal S8192x5632 .bf16) : Vec Ideal S4x1024x1408 .bf16 := fun i =>
  ∑ k : Fin 8192, a (ix2 k ⟨(i 1).val, (i 1).isLt⟩) * b (ix2 k ⟨1408 * (i 0).val + (i 2).val, by
    have h0 : (i 0).val < 4 := (i 0).isLt
    have h2 : (i 2).val < 1408 := (i 2).isLt
    omega⟩)

theorem array_in : (dats m 0 c).arrAt 2 cfg0.N = gradIn (operandA m c) (operandB m c) := by
  refine (dats m 0 c).arrAt_eq_of_covers 2 (gradIn (operandA m c) (operandB m c)) (by decide +kernel) fun t hf y => ?_
  have h1 : t.val % 16 = 15 := (flush0_2 t).mp hf
  blk_simp
  rw [after0_2, written m c t h1]
  obtain ⟨u, r, j, rfl⟩ : ∃ (u : Fin 1) (r : Fin 1024) (j : Fin 1408), y = ix3 u r j := ⟨_, _, _, eq_ix3 y⟩
  have e : ((win0_2.blk t).view.emb (ix3 u r j)) = ix3 (⟨t.val / 16, by have : t.val < 64 := t.isLt; omega⟩ : Fin 4) r j := by
    blk_ext [(index_at t).2.2]
  rw [e, write_apply, held m c t.val t.isLt, h1, firstTiles_all]
  show _ = ∑ k : Fin 8192, (_ : EReal)
  exact Fin.sum_fin_congr fun k => by rw [term, atRow_val, atRow_val]; rfl

end Cert.Kernel2Ideal.Gen

end
-- ==== Proof.GradOut.lean ====
module

public import proofs.«01_k».proof.Proof.Gen.Kernel3Ideal.Value
public import proofs.«01_k».proof.Proof.Tiles
public import Idealize.ShloMosaic.Lib.Pipeline.ValueKit

@[expose] public section

set_option maxRecDepth 16384

noncomputable section

/-!
# The gradient of the feed-forward's second weight, as its kernel computes it

Grid point `t` takes row block `t / 16` of the weight and token tile `t % 16`. The scratch is cleared at a block's
first tile, every tile adds its product, and the last tile writes the block. `held` is the scratch after each point;
`array_out` is the weight's gradient.
-/

namespace Cert.Kernel3Ideal.Gen

open Idealize.ShloMosaic Idealize.ShloMosaic.TcCoe Idealize.ShloMosaic.Tactic Cert.Tiles
open Idealize.ShloMosaic.Pipeline (Dat)

/-- The product of the activated hidden values at column `r` and the output gradients at feature `j`, of token `k`. -/
def term (a : Vec Ideal S8192x2816 .bf16) (b : Vec Ideal S8192x1024 .bf16) (r : Fin 2816) (j : Fin 1024) (k : ℕ) : EReal :=
  atRow (fun x y => a (ix2 x y)) r k * atRow (fun x y => b (ix2 x y)) j k

theorem clear_apply (y : S1408x1024.Idx) : k0_pay1 (F := Ideal) y = 0 := by
  pointwise [k0_pay1]

theorem add_apply (x : Vec Ideal S1408x1024 .f32) (a : Vec Ideal S512x1408 .bf16) (b : Vec Ideal S512x1024 .bf16) (r : Fin 1408) (j : Fin 1024) :
    k0_pay2 (F := Ideal) x a b (ix2 r j) = x (ix2 r j) + ∑ q : Fin 512, a (ix2 q r) * b (ix2 q j) := by
  pointwise [k0_pay2]

theorem write_apply (x : Vec Ideal S1408x1024 .f32) (r : Fin 1408) (j : Fin 1024) :
    k0_pay3 (F := Ideal) x (ix2 r j) = x (ix2 r j) := by
  pointwise [k0_pay3]

variable (m : (ℓ : Loc nD τ sig) → Buf (Elt Ideal) ℓ) (c : Dev nD)

/-- The two operands, as launched. -/
abbrev operandA : Vec Ideal S8192x2816 .bf16 := m ((c.tc : Thread nD τ).loc main_arg0)
abbrev operandB : Vec Ideal S8192x1024 .bf16 := m ((c.tc : Thread nD τ).loc main_arg1)

theorem index_at : ∀ t : Fin cfg0.N, win0_0.index t = ![t.val % 16, t.val / 16] ∧ win0_1.index t = ![t.val % 16, 0]
    ∧ win0_2.index t = ![t.val / 16, 0] :=
  (by decide +kernel : ∀ t : Fin grid0.N, _)

theorem row_lt (t : Fin cfg0.N) (r : Fin 1408) : 1408 * (t.val / 16) + r.val < 2816 := by
  have : t.val < 32 := t.isLt
  omega

theorem block_a (t : Fin cfg0.N) (q : Fin 512) (r : Fin 1408) :
    iblk m c 0 t (ix2 q r) = atRow (fun x y => operandA m c (ix2 x y)) ⟨1408 * (t.val / 16) + r.val, row_lt t r⟩ (512 * (t.val % 16) + q.val) := by
  have := q.isLt
  rw [atRow, dif_pos (by omega)]
  blk_ext [iblk, V, (index_at t).1]

theorem block_b (t : Fin cfg0.N) (q : Fin 512) (j : Fin 1024) :
    iblk m c 1 t (ix2 q j) = atRow (fun x y => operandB m c (ix2 x y)) j (512 * (t.val % 16) + q.val) := by
  have := q.isLt
  rw [atRow, dif_pos (by omega)]
  blk_ext [iblk, V, (index_at t).2.1]

/-- One tile's step of the running sum. -/
theorem step_at (t : Fin cfg0.N) (x : Vec Ideal S1408x1024 .f32) (r : Fin 1408) (j : Fin 1024)
    (h : x (ix2 r j) = firstTiles (term (operandA m c) (operandB m c) ⟨1408 * (t.val / 16) + r.val, row_lt t r⟩ j) (t.val % 16)) :
    k0_pay2 (F := Ideal) x (iblk m c 0 t) (iblk m c 1 t) (ix2 r j)
      = firstTiles (term (operandA m c) (operandB m c) ⟨1408 * (t.val / 16) + r.val, row_lt t r⟩ j) (t.val % 16 + 1) := by
  rw [firstTiles_succ, ← h, add_apply]
  refine congrArg (_ + ·) (Finset.sum_congr rfl fun q _ => ?_)
  rw [block_a, block_b, term]

/-- The scratch after a block's first tile, and after a later one. -/
theorem scratch_clear (t : Fin cfg0.N) (h0 : t.val % 16 = 0) :
    (outsAt0 m c t.val t.isLt).2 = k0_pay2 (F := Ideal) (k0_pay1 (F := Ideal)) (iblk m c 0 t) (iblk m c 1 t) := by
  rw [outsAt0_A m c t h0 (by omega)]
  frame_out

theorem scratch_add (t : Fin cfg0.N) (h0 : ¬t.val % 16 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 16 = 15
  · rw [outsAt0_C m c t h0 h1]
    frame_out
    exact congrArg (fun z => k0_pay2 (F := Ideal) z _ _) ((Memref.isWhole_whole cc0_scratch0).read_unread _)
  · rw [outsAt0_B m c t h0 h1]
    frame_out
    exact congrArg (fun z => k0_pay2 (F := Ideal) z _ _) ((Memref.isWhole_whole cc0_scratch0).read_unread _)

/-- What a block's last tile writes. -/
theorem written (t : Fin cfg0.N) (h1 : t.val % 16 = 15) :
    (outsAt0 m c t.val t.isLt).1 = k0_pay3 (F := Ideal) (outsAt0 m c t.val t.isLt).2 := by
  rw [scratch_add m c t (by omega), outsAt0_C m c t (by omega) h1]
  frame_out
  exact congrArg (fun z => k0_pay3 (F := Ideal) (k0_pay2 (F := Ideal) z _ _)) ((Memref.isWhole_whole cc0_scratch0).read_unread _)

/-- After point `t` the scratch holds the sums over the tiles met of its block. -/
theorem held (n : ℕ) (hn : n < cfg0.N) (r : Fin 1408) (j : Fin 1024) :
    (outsAt0 m c n hn).2 (ix2 r j)
      = firstTiles (term (operandA m c) (operandB m c) ⟨1408 * (n / 16) + r.val, row_lt ⟨n, hn⟩ r⟩ j) (n % 16 + 1) := by
  induction n with
  | zero =>
    rw [scratch_clear m c ⟨0, hn⟩ (Nat.zero_mod _)]
    exact step_at m c ⟨0, hn⟩ _ r j ((clear_apply _).trans (firstTiles_zero _).symm)
  | succ n ih =>
    by_cases h0 : (n + 1) % 16 = 0
    · rw [scratch_clear m c ⟨n + 1, hn⟩ h0]
      refine step_at m c ⟨n + 1, hn⟩ _ r j ((clear_apply _).trans ?_)
      dsimp only
      rw [h0, firstTiles_zero]
    · rw [scratch_add m c ⟨n + 1, hn⟩ h0]
      refine step_at m c ⟨n + 1, hn⟩ _ r j ?_
      refine (ih (Nat.lt_of_succ_lt hn)).trans ?_
      have e1 : n % 16 + 1 = (n + 1) % 16 := by omega
      have e2 : n / 16 = (n + 1) / 16 := by omega
      simp only [e1, e2]

/-- The gradient of the second weight, at column `i 0` of the hidden values and feature `i 1`. -/
def gradOut (a : Vec Ideal S8192x2816 .bf16) (b : Vec Ideal S8192x1024 .bf16) : Vec Ideal S2816x1024 .bf16 := fun i =>
  ∑ k : Fin 8192, a (ix2 k (i 0)) * b (ix2 k (i 1))

theorem array_out : (dats m 0 c).arrAt 2 cfg0.N = gradOut (operandA m c) (operandB m c) := by
  refine (dats m 0 c).arrAt_eq_of_covers 2 (gradOut (operandA m c) (operandB m c)) (by decide +kernel) fun t hf y => ?_
  have h1 : t.val % 16 = 15 := (flush0_2 t).mp hf
  blk_simp
  rw [after0_2, written m c t h1]
  obtain ⟨r, j, rfl⟩ : ∃ (r : Fin 1408) (j : Fin 1024), y = ix2 r j := ⟨_, _, eq_ix2 y⟩
  have e : ((win0_2.blk t).view.emb (ix2 r j)) = ix2 (⟨1408 * (t.val / 16) + r.val, row_lt t r⟩ : Fin 2816) j := by
    blk_ext [(index_at t).2.2]
  rw [e, write_apply, held m c t.val t.isLt, h1, firstTiles_all]
  show _ = ∑ k : Fin 8192, (_ : EReal)
  exact Fin.sum_fin_congr fun k => by rw [term, atRow_val, atRow_val]; rfl

end Cert.Kernel3Ideal.Gen

end
-- ==== Proof.WeightGrads.lean ====
module

public import proofs.«01_k».proof.Defs
public import proofs.«01_k».proof.Proof.GradIn
public import proofs.«01_k».proof.Proof.GradOut
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import Idealize.ShloMosaic.Adequacy

@[expose] public section

set_option maxRecDepth 16384

noncomputable section

/-!
# The feed-forward's two weight gradients

The two references read as the same sums over the tokens, and the claims of the two kernels.
-/

namespace Cert.Proof

open Idealize.ShloMosaic Idealize.ShloMosaic.TcCoe Idealize.ShloMosaic.Tactic Idealize.SL.Sem

/-- The first weight's gradient as differentiation writes it. -/
theorem reference_in (a : Vec Ideal Cert.Reference2Ideal.S8192x1024 .bf16) (b : Vec Ideal Cert.Reference2Ideal.S8192x5632 .bf16) :
    Cert.Reference2Ideal.Read.val_main_v10 (F := Ideal) a b = Cert.Kernel2Ideal.Gen.gradIn a b := by
  funext i
  obtain ⟨s, r, j, rfl⟩ : ∃ (s : Fin 4) (r : Fin 1024) (j : Fin 1408), i = ix3 s r j := ⟨_, _, _, eq_ix3 i⟩
  rw [Cert.Reference2Ideal.Read.val_main_v10_apply, Cert.Reference2Ideal.Read.val_main_v9_apply,
    Cert.Reference2Ideal.Read.val_main_v8_apply, Cert.Reference2Ideal.Read.val_main_v7_apply, Cert.Reference2Ideal.Read.val_main_v6_apply]
  show ∑ k : Fin 8192, (_ : EReal) = ∑ k : Fin 8192, (_ : EReal)
  refine Fin.sum_fin_congr fun k => (mul_comm _ _).trans ?_
  rw [Cert.Reference2Ideal.Read.val_main_v5_apply, Cert.Reference2Ideal.Read.val_main_v1_apply]
  show a _ * b _ = a _ * b _
  have hj := j.isLt
  have hs := s.isLt
  have hr := r.isLt
  congr 2 <;> funext x <;> refine Fin.ext ?_
  · match x with
    | ⟨0, _⟩ => rfl
    | ⟨1, _⟩ => show ((r.val * 4 + s.val) * 1408 + j.val) / 5632 = r.val; omega
  · match x with
    | ⟨0, _⟩ => rfl
    | ⟨1, _⟩ => show ((r.val * 4 + s.val) * 1408 + j.val) % 5632 = 1408 * s.val + j.val; omega

/-- The second weight's gradient as differentiation writes it. -/
theorem reference_out (a : Vec Ideal Cert.Reference3Ideal.S8192x2816 .bf16) (b : Vec Ideal Cert.Reference3Ideal.S8192x1024 .bf16) :
    Cert.Reference3Ideal.Read.val_main_v6 (F := Ideal) a b = Cert.Kernel3Ideal.Gen.gradOut a b := by
  funext i
  obtain ⟨r, j, rfl⟩ : ∃ (r : Fin 2816) (j : Fin 1024), i = ix2 r j := ⟨_, _, eq_ix2 i⟩
  rw [Cert.Reference3Ideal.Read.val_main_v6_apply, Cert.Reference3Ideal.Read.val_main_v5_apply, Cert.Reference3Ideal.Read.val_main_v4_apply]
  show ∑ k : Fin 8192, (_ : EReal) = ∑ k : Fin 8192, (_ : EReal)
  refine Fin.sum_fin_congr fun k => (mul_comm _ _).trans ?_
  rw [Cert.Reference3Ideal.Read.val_main_v3_apply, Cert.Reference3Ideal.Read.val_main_v1_apply]
  show a _ * b _ = a _ * b _
  congr 2 <;> funext x <;> refine Fin.ext ?_
  · match x with
    | ⟨0, _⟩ => rfl
    | ⟨1, _⟩ => rfl
  · match x with
    | ⟨0, _⟩ => rfl
    | ⟨1, _⟩ => rfl

theorem frame_reference_in : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_reference_out : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel's gradient of the first weight is the reference's, for all arguments. -/
theorem same_in : Cert.algebraic_Kernel2Ideal_Reference2Ideal := by
  intro m g m' g' _ he
  refine ⟨fun c => Cert.Kernel2Ideal.Gen.gradIn (Cert.Kernel2Ideal.Gen.operandA m c) (Cert.Kernel2Ideal.Gen.operandB m c), ?_, ?_⟩
  · exact (θ_run Cert.Kernel2Ideal.defs _ _).mono (fun r h c => ⟨(h c).1.trans (Cert.Kernel2Ideal.Gen.array_in m c), (h c).2⟩)
      (Cert.Kernel2Ideal.Value.run_blocks m g)
  · refine (θ_run Cert.Reference2Ideal.defs _ _).mono (fun r h c => ?_) (Cert.Reference2Ideal.Value.run (F := Ideal) m' g')
    obtain ⟨h0, h1⟩ := h c
    obtain ⟨e0, e1⟩ := he c
    rw [Cert.Reference2Ideal.Read.val_main_v10_eq, e0, e1] at h0
    exact ⟨h0.trans (reference_in _ _), h1⟩

/-- The kernel's gradient of the second weight is the reference's, for all arguments. -/
theorem same_out : Cert.algebraic_Kernel3Ideal_Reference3Ideal := by
  intro m g m' g' _ he
  refine ⟨fun c => Cert.Kernel3Ideal.Gen.gradOut (Cert.Kernel3Ideal.Gen.operandA m c) (Cert.Kernel3Ideal.Gen.operandB m c), ?_, ?_⟩
  · exact (θ_run Cert.Kernel3Ideal.defs _ _).mono (fun r h c => ⟨(h c).1.trans (Cert.Kernel3Ideal.Gen.array_out m c), (h c).2⟩)
      (Cert.Kernel3Ideal.Value.run_blocks m g)
  · refine (θ_run Cert.Reference3Ideal.defs _ _).mono (fun r h c => ?_) (Cert.Reference3Ideal.Value.run (F := Ideal) m' g')
    obtain ⟨h0, h1⟩ := h c
    obtain ⟨e0, e1⟩ := he c
    rw [Cert.Reference3Ideal.Read.val_main_v6_eq, e0, e1] at h0
    exact ⟨h0.trans (reference_out _ _), h1⟩

end Cert.Proof

end
-- ==== Proof.BackSetupIdeal.lean ====
/-
What the feed-forward gradient kernel's body is proved over: the region's entry, the staged blocks, the
condition under which the body loads the weights, and the invariant's parts listed one by one.
-/
module

public import proofs.«01_k».proof.Proof.Gen.Kernel5Ideal.Frame
public import proofs.«01_k».proof.Proof.Gen.Kernel5Ideal.Skeleton
public import Idealize.ShloMosaic.Lib.VecWindow
public import Idealize.ShloMosaic.Lib.WordCmp

@[expose] public section

set_option maxRecDepth 16384

noncomputable section

namespace Cert.Kernel5Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body loads the weights: its grid coordinate is zero. -/
abbrev Loads (i : grid0.Coords) : Prop :=
  (Scalar.cmpi .ne (Scalar.extui (Scalar.cmpi .eq (BitVec.ofNat 32 (i 0).val) 0#32)) 0#32) = 1#1

/-- It does so at the first of the thirty-two points only. -/
theorem loads_iff (t : Fin cfg0.N) : Loads (grid0.coords t) ↔ t.val = 0 := by
  have ht : t.val < 32 := Nat.lt_of_lt_of_eq t.isLt N_0
  have e0 : (grid0.coords t 0).val = t.val / 1 % 32 := Pipeline.Grid.coords_val t 0 (by decide) rfl
  simp only [Loads, e0]
  have key : (Scalar.cmpi .ne (Scalar.extui (Scalar.cmpi .eq (BitVec.ofNat 32 (t.val / 1 % 32)) 0#32)) 0#32) = 1#1
      ↔ t.val % 32 = 0 := by word_cmp
  rw [key, Nat.mod_eq_of_lt ht]

/-- The two weight scratches of the kernel, whole. -/
abbrev scrIn : Memref sig .tc .vmem S4x1024x1408 .bf16 := Memref.whole cc0_scratch0
abbrev scrOut : Memref sig .tc .vmem S2816x1024 .bf16 := Memref.whole cc0_scratch1
/-- The two weight arrays the body copies them from, whole. -/
abbrev argIn : Memref sig .tc .hbm S4x1024x1408 .bf16 := Memref.whole main_arg3
abbrev argOut : Memref sig .tc .hbm S4x704x1024 .bf16 := Memref.whole main_arg4

/-- A memref's buffer contents on a core, and the whole buffer held at them. -/
abbrev Held (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e)
    (f : Held (F := F) c M) : sProp 𝕄 :=
  M.view.loc (c : Thread nD τ) ↦{fullShare} f

/-- The eight copy counters of the body, all at zero. -/
abbrev countersZero (c : Dev nD) : sProp 𝕄 :=
  iprop(semVal ((c : Thread nD τ), SemLoc.dma 18) 0 ∗ semVal ((c : Thread nD τ), SemLoc.dma 19) 0
    ∗ semVal ((c : Thread nD τ), SemLoc.dma 20) 0 ∗ semVal ((c : Thread nD τ), SemLoc.dma 21) 0
    ∗ semVal ((c : Thread nD τ), SemLoc.dma 22) 0 ∗ semVal ((c : Thread nD τ), SemLoc.dma 23) 0
    ∗ semVal ((c : Thread nD τ), SemLoc.dma 24) 0 ∗ semVal ((c : Thread nD τ), SemLoc.dma 25) 0)

/-- The counters as the launch lists them. -/
abbrev counter : Fin 8 → SemLoc sig := fun j =>
  (![SemLoc.dma 18, SemLoc.dma 19, SemLoc.dma 20, SemLoc.dma 21, SemLoc.dma 22, SemLoc.dma 23, SemLoc.dma 24,
    SemLoc.dma 25] : Fin 8 → SemLoc sig) j

theorem counter_facts : Pipeline.OwnSemFacts spec0 counter := by decide

theorem counters_eq (c : Dev nD) :
    (Pipeline.ownSems0 (Ix := Unit) (Name := ℕ) (U := Pipeline.UD sig nD τ) (Lvl := ℕ) (Val := Elt F) (τ := τ) counter c : sProp 𝕄)
      = countersZero c := by
  rw [Pipeline.ownSems0_eq_of_list c counter [0, 1, 2, 3, 4, 5, 6, 7] (by decide) (by decide)]; rfl

/-- The weight arrays, as buffers no window stages. -/
def weightRefs : Finset (Ref sig .tc) := {main_arg3, main_arg4}

theorem weightRefs_sub : weightRefs ⊆ Pipeline.restRefs sig spec0 := by decide

theorem weights_eq (c : Dev nD) :
    (bigSep weightRefs (fun b => ((c : Thread nD τ).loc b) ↦{fullShare} V m c b) : sProp 𝕄)
      = iprop(held c argIn (V m c main_arg3) ∗ held c argOut (V m c main_arg4)) := by
  rw [BI.bigSep_eq_bigSepL_of_eq [main_arg3, main_arg4] (by decide) (by decide)]; rfl

/-- What the launch hands the body, part by part: the scratches at anything, the generator's register, the counters at
    zero and the weight arrays. -/
theorem entry_eq (c : Dev nD) :
    (Pipeline.ΦD counter spec0 weightRefs (V m) c : sProp 𝕄)
      = iprop(iprop((∃ d, held c scrIn d) ∗ (∃ d, held c scrOut d)) ∗ (∃ r, prngReg c r) ∗ countersZero c
        ∗ iprop(held c argIn (V m c main_arg3) ∗ held c argOut (V m c main_arg4))) := by
  rw [Pipeline.ΦD_eq, scopedRest0_eq, counters_eq, weights_eq]

/-- The host's operations before the region, then the region. -/
theorem enters (𝒱₀ : Variants) : Pipeline.HMain (Ix := Unit) (Name := ℕ) (U := Pipeline.UD sig nD τ) (Lvl := ℕ) cfgs 0
    defs₀ 𝒱₀ m (main (F := F)) (V m) :=
  Pipeline.hmain_prefix cfgs 0 defs₀ 𝒱₀ m main hostOps0 hostOps0_sub hostOps0_fresh main_chain

/-- The cotangent block is in its staging buffer at every point. -/
theorem staged_dy {c : Dev nD} (dat : Dat τ (Elt F) Unit ℕ (Pipeline.UD sig nD τ) ℕ cfg0 c)
    (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl)
      (fun t => by rw [hafter]; unfold Dat.blockOf iblk; rw [hA]) t d).trans
    (by unfold Dat.fetched Dat.blockOf iblk; rw [hA]; rfl)

/-- The token block is in its staging buffer at every point. -/
theorem staged_x {c : Dev nD} (dat : Dat τ (Elt F) Unit ℕ (Pipeline.UD sig nD τ) ℕ cfg0 c)
    (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl)
      (fun t => by rw [hafter]; unfold Dat.blockOf iblk; rw [hA]) t d).trans
    (by unfold Dat.fetched Dat.blockOf iblk; rw [hA]; rfl)

/-- The block of saved pre-activations is in its staging buffer at every point. -/
theorem staged_h {c : Dev nD} (dat : Dat τ (Elt F) Unit ℕ (Pipeline.UD sig nD τ) ℕ cfg0 c)
    (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl)
      (fun t => by rw [hafter]; unfold Dat.blockOf iblk; rw [hA]) t d).trans
    (by unfold Dat.fetched Dat.blockOf iblk; rw [hA]; rfl)

/-- The gain is in its staging buffer at every point. -/
theorem staged_gain {c : Dev nD} (dat : Dat τ (Elt F) Unit ℕ (Pipeline.UD sig nD τ) ℕ cfg0 c)
    (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl)
      (fun t => by rw [hafter]; unfold Dat.blockOf iblk; rw [hA]) t d).trans
    (by unfold Dat.fetched Dat.blockOf iblk; rw [hA]; rfl)

/-- A run of the region that ends with its arrays as the proof data says leaves the argument arrays unchanged. -/
theorem arguments_kept (dats : (p : Fin 1) → (c : Dev nD) → Dat τ (Elt F) Unit ℕ (Pipeline.UD sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel5Ideal.Back
-- ==== Proof.BackLoadIdeal.lean ====
/-
The two weight scratches after the body's eight copies, whatever they held before: the first is the gate and up
weights as they are, the second the down weights with their four slots one under another.
-/
module

public import proofs.«01_k».proof.Proof.BackSetupIdeal
public import Idealize.ShloMosaic.Lib.ValueLayout
public import Idealize.ShloMosaic.Lib.Pointwise

@[expose] public section

set_option maxRecDepth 16384

noncomputable section

namespace Cert.Kernel5Ideal.Back

open Idealize.ShloMosaic Idealize.ShloMosaic.TcCoe Idealize.ShloMosaic.Tactic
open Idealize.ShloMosaic.Pointwise
open Cert.Kernel5Ideal.Gen

variable {F : FTy → Type} [FloatOps F]

/-- The down weights, row `704·s + r` being row `r` of slot `s`. -/
def stacked (w : Vec F S4x704x1024 .bf16) : Vec F S2816x1024 .bf16 := fun y =>
  w (ix3 (⟨(y 0).val / 704, by have h : (y 0).val < 2816 := (y 0).isLt; omega⟩ : Fin 4)
    (⟨(y 0).val % 704, Nat.mod_lt _ (by omega)⟩ : Fin 704) (⟨(y 1).val, (y 1).isLt⟩ : Fin 1024))

/-- Slot `s` of the first scratch, as the body's copies address it. -/
abbrev slotIn {κ : Kind} {sp : Space} (M : Memref sig κ sp S4x1024x1408 .bf16) (s : ℕ)
    (h : ∀ a, (![s, 0, 0] : Fin 3 → ℕ) a + S1x1024x1408.size a ≤ S4x1024x1408.size a) : Memref sig κ sp S1024x1408 .bf16 :=
  (M.slice (Rect.unit (s := S4x1024x1408) ![s, 0, 0] S1x1024x1408.size h) (fun _ => rfl)).squeeze S1024x1408
    squeezes_S1x1024x1408_S1024x1408

/-- Slot `s` of the down weights, as the body's copies address it. -/
abbrev slotOut {κ : Kind} {sp : Space} (M : Memref sig κ sp S4x704x1024 .bf16) (s : ℕ)
    (h : ∀ a, (![s, 0, 0] : Fin 3 → ℕ) a + S1x704x1024.size a ≤ S4x704x1024.size a) : Memref sig κ sp S704x1024 .bf16 :=
  (M.slice (Rect.unit (s := S4x704x1024) ![s, 0, 0] S1x704x1024.size h) (fun _ => rfl)).squeeze S704x1024
    squeezes_S1x704x1024_S704x1024

/-- The 704 rows of the second scratch from row `o`. -/
abbrev rowsOut {κ : Kind} {sp : Space} (M : Memref sig κ sp S2816x1024 .bf16) (o : ℕ)
    (h : ∀ a, (![o, 0] : Fin 2 → ℕ) a + S704x1024.size a ≤ S2816x1024.size a) : Memref sig κ sp S704x1024 .bf16 :=
  M.slice (Rect.unit (s := S2816x1024) ![o, 0] S704x1024.size h) (fun _ => rfl)

theorem mem_slotIn (s : ℕ) (h) (i : S4x1024x1408.Idx) : i ∈ (slotIn scrIn s h).view.set ↔ (i 0).val = s := by
  rw [View.set_reshape, View.set_slice_whole, Rect.mem_set_unit]
  constructor
  · intro hi
    have h0 := hi 0
    have e : (![s, 0, 0] : Fin 3 → ℕ) 0 = s := rfl
    have e' : S1x1024x1408.size 0 = 1 := rfl
    rw [e, e'] at h0; omega
  · intro hi a
    have hs := (i a).isLt
    match a with
    | 0 => exact ⟨hi.ge, by show (i 0).val < s + 1; omega⟩
    | 1 => exact ⟨Nat.zero_le _, by show (i 1).val < 0 + 1024; exact (Nat.zero_add 1024).symm ▸ hs⟩
    | 2 => exact ⟨Nat.zero_le _, by show (i 2).val < 0 + 1408; exact (Nat.zero_add 1408).symm ▸ hs⟩

theorem mem_rowsOut (o : ℕ) (h) (i : S2816x1024.Idx) :
    i ∈ (rowsOut scrOut o h).view.set ↔ o ≤ (i 0).val ∧ (i 0).val < o + 704 := by
  rw [View.set_slice_whole, Rect.mem_set_unit]
  constructor
  · intro hi; exact hi 0
  · intro hi a
    have hs := (i a).isLt
    match a with
    | 0 => exact hi
    | 1 => exact ⟨Nat.zero_le _, by show (i 1).val < 0 + 1024; exact (Nat.zero_add 1024).symm ▸ hs⟩

/-- The first scratch after its four copies. -/
theorem loaded_in (f w : Vec F S4x1024x1408 .bf16) (h0 h1 h2 h3) (p0 p1 p2 p3 : Vec F S1024x1408 .bf16)
    (e0 : p0 = (slotIn argIn 0 h0).view.read (Elt F) w) (e1 : p1 = (slotIn argIn 1 h1).view.read (Elt F) w)
    (e2 : p2 = (slotIn argIn 2 h2).view.read (Elt F) w) (e3 : p3 = (slotIn argIn 3 h3).view.read (Elt F) w) :
    (slotIn scrIn 3 h3).view.write (Elt F) ((slotIn scrIn 2 h2).view.write (Elt F) ((slotIn scrIn 1 h1).view.write (Elt F)
      ((slotIn scrIn 0 h0).view.write (Elt F) f p0 Finset.univ) p1 Finset.univ) p2 Finset.univ) p3 Finset.univ = w := by
  subst e0 e1 e2 e3
  have e : ∀ s h, (slotIn argIn s h).view.read (Elt F) w = (slotIn scrIn s h).view.read (Elt F) w := fun _ _ => rfl
  rw [e, e, e, e, View.write_read_eq_piecewise, View.write_read_eq_piecewise, View.write_read_eq_piecewise,
    View.write_read_eq_piecewise]
  funext i
  have hi : ((i : S4x1024x1408.Idx) 0).val < 4 := ((i : S4x1024x1408.Idx) 0).isLt
  by_cases c3 : ((i : S4x1024x1408.Idx) 0).val = 3
  · exact Finset.piecewise_eq_of_mem _ _ _ ((mem_slotIn 3 h3 i).mpr c3)
  refine (Finset.piecewise_eq_of_notMem _ _ _ (fun hh => c3 ((mem_slotIn 3 h3 i).mp hh))).trans ?_
  by_cases c2 : ((i : S4x1024x1408.Idx) 0).val = 2
  · exact Finset.piecewise_eq_of_mem _ _ _ ((mem_slotIn 2 h2 i).mpr c2)
  refine (Finset.piecewise_eq_of_notMem _ _ _ (fun hh => c2 ((mem_slotIn 2 h2 i).mp hh))).trans ?_
  by_cases c1 : ((i : S4x1024x1408.Idx) 0).val = 1
  · exact Finset.piecewise_eq_of_mem _ _ _ ((mem_slotIn 1 h1 i).mpr c1)
  refine (Finset.piecewise_eq_of_notMem _ _ _ (fun hh => c1 ((mem_slotIn 1 h1 i).mp hh))).trans ?_
  exact Finset.piecewise_eq_of_mem _ _ _ ((mem_slotIn 0 h0 i).mpr (by omega))

/-- Each slot of the down weights is the rows of the stack it is copied to. -/
theorem slot_rows (w : Vec F S4x704x1024 .bf16) (s o : ℕ) (hs h) (ho : o = 704 * s) :
    (slotOut argOut s hs).view.read (Elt F) w = (rowsOut scrOut o h).view.read (Elt F) (stacked w) := by
  subst ho
  refine (Memref.read_squeeze_slice argOut _ _ squeezes_S1x704x1024_S704x1024
    (show S1x704x1024.ShapeCasts S704x1024 by decide) w).trans ?_
  refine funext (fun (y : S704x1024.Idx) => ?_)
  have ha : (y 0).val < 704 := (y 0).isLt
  have e : Shape.reshapeEquiv (s := S1x704x1024) (s' := S704x1024) (by decide) y
      = ValueIdx.ix3 (⟨0, Nat.one_pos⟩ : Fin 1) (⟨(y 0).val, (y 0).isLt⟩ : Fin 704) (⟨(y 1).val, (y 1).isLt⟩ : Fin 1024) :=
    (congrArg _ (eq_ix2 y)).trans (ValueIdx.reshapeEquiv_ix2_1ab (a := 704) (b := 1024) _ _ _)
  refine (congrArg (View.readAt (Elt F) argOut.view
    (Rect.unit (s := S4x704x1024) ![s, 0, 0] S1x704x1024.size hs).toLoadRect w) e).trans ?_
  show w _ = w _
  refine congrArg w (funext fun q => Fin.ext ?_)
  match q with
  | 0 => show s + 1 * 0 = (704 * s + 1 * (y 0).val) / 704; omega
  | 1 => show 0 + 1 * (y 0).val = (704 * s + 1 * (y 0).val) % 704; omega
  | 2 => rfl

/-- The second scratch after its four copies. -/
theorem loaded_out (f : Vec F S2816x1024 .bf16) (w : Vec F S4x704x1024 .bf16) (h0 h1 h2 h3 k0 k1 k2 k3)
    (p0 p1 p2 p3 : Vec F S704x1024 .bf16)
    (e0 : p0 = (slotOut argOut 0 k0).view.read (Elt F) w) (e1 : p1 = (slotOut argOut 1 k1).view.read (Elt F) w)
    (e2 : p2 = (slotOut argOut 2 k2).view.read (Elt F) w) (e3 : p3 = (slotOut argOut 3 k3).view.read (Elt F) w) :
    scrOut.view.writes (Elt F) f
      [⟨Rect.unit (s := S2816x1024) ![2112, 0] S704x1024.size h3, p3⟩,
        ⟨Rect.unit (s := S2816x1024) ![1408, 0] S704x1024.size h2, p2⟩,
        ⟨Rect.unit (s := S2816x1024) ![704, 0] S704x1024.size h1, p1⟩,
        ⟨Rect.unit (s := S2816x1024) ![0, 0] S704x1024.size h0, p0⟩] = stacked w := by
  subst e0 e1 e2 e3
  show (rowsOut scrOut 2112 h3).view.write (Elt F) ((rowsOut scrOut 1408 h2).view.write (Elt F)
      ((rowsOut scrOut 704 h1).view.write (Elt F)
      ((rowsOut scrOut 0 h0).view.write (Elt F) f ((slotOut argOut 0 k0).view.read (Elt F) w) Finset.univ)
      ((slotOut argOut 1 k1).view.read (Elt F) w) Finset.univ)
      ((slotOut argOut 2 k2).view.read (Elt F) w) Finset.univ)
      ((slotOut argOut 3 k3).view.read (Elt F) w) Finset.univ = stacked w
  rw [slot_rows w 0 0 k0 h0 rfl, slot_rows w 1 704 k1 h1 rfl, slot_rows w 2 1408 k2 h2 rfl, slot_rows w 3 2112 k3 h3 rfl,
    View.write_read_eq_piecewise, View.write_read_eq_piecewise, View.write_read_eq_piecewise,
    View.write_read_eq_piecewise]
  funext i
  have hi : ((i : S2816x1024.Idx) 0).val < 2816 := ((i : S2816x1024.Idx) 0).isLt
  by_cases c3 : 2112 ≤ ((i : S2816x1024.Idx) 0).val
  · exact Finset.piecewise_eq_of_mem _ _ _ ((mem_rowsOut 2112 h3 i).mpr ⟨c3, by omega⟩)
  refine (Finset.piecewise_eq_of_notMem _ _ _ (fun hh => c3 ((mem_rowsOut 2112 h3 i).mp hh).1)).trans ?_
  by_cases c2 : 1408 ≤ ((i : S2816x1024.Idx) 0).val
  · exact Finset.piecewise_eq_of_mem _ _ _ ((mem_rowsOut 1408 h2 i).mpr ⟨c2, by omega⟩)
  refine (Finset.piecewise_eq_of_notMem _ _ _ (fun hh => c2 ((mem_rowsOut 1408 h2 i).mp hh).1)).trans ?_
  by_cases c1 : 704 ≤ ((i : S2816x1024.Idx) 0).val
  · exact Finset.piecewise_eq_of_mem _ _ _ ((mem_rowsOut 704 h1 i).mpr ⟨c1, by omega⟩)
  refine (Finset.piecewise_eq_of_notMem _ _ _ (fun hh => c1 ((mem_rowsOut 704 h1 i).mp hh).1)).trans ?_
  exact Finset.piecewise_eq_of_mem _ _ _ ((mem_rowsOut 0 h0 i).mpr ⟨by omega, by omega⟩)

end Cert.Kernel5Ideal.Back
-- ==== Proof.BackBodyIdeal.lean ====
/-
One point of the feed-forward gradient kernel, run: what it leaves in its six output blocks as a function of its four
input blocks and the weights, at the point that loads the weights and clears the gain's gradient and at those that find
the weights loaded and add to what they find.
-/
module

public import proofs.«01_k».proof.Proof.BackLoadIdeal

@[expose] public section

set_option maxRecDepth 16384

noncomputable section

namespace Cert.Kernel5Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Cert.Kernel5Ideal.Gen

variable {F : FTy → Type} [FloatOps F]

local notation "𝕄" => MT nD τ sig Unit (Elt F) ℕ (Pipeline.UD sig nD τ) ℕ

/-- Slot `s` of the gate and up weights. -/
def slab (w : Vec F S4x1024x1408 .bf16) (s : Fin 4) : Vec F S1x1024x1408 .bf16 := fun j =>
  w (ix3 s (⟨(j 1).val, (j 1).isLt⟩ : Fin 1024) (⟨(j 2).val, (j 2).isLt⟩ : Fin 1408))

/-- Half `s` of the stacked down weights. -/
def half (w : Vec F S2816x1024 .bf16) (s : Fin 2) : Vec F S1408x1024 .bf16 := fun j =>
  w (ix2 (⟨1408 * s.val + (j 0).val, by have h : (j 0).val < 1408 := (j 0).isLt; have := s.isLt; omega⟩ : Fin 2816)
    (⟨(j 1).val, (j 1).isLt⟩ : Fin 1024))

/-- Block `s` of 1408 columns of the saved pre-activations: the gate's two halves, then the up's. -/
def cols (h : Vec F S256x5632 .bf16) (s : Fin 4) : Vec F S256x1408 .bf16 := fun y =>
  h (ix2 (⟨(y 0).val, (y 0).isLt⟩ : Fin 256)
    (⟨1408 * s.val + (y 1).val, by have h : (y 1).val < 1408 := (y 1).isLt; have := s.isLt; omega⟩ : Fin 5632))

/-- The gradient of the gated hidden row, half by half. -/
def slopeA (dy : Vec F S256x1024 .f32) (wo : Vec F S2816x1024 .bf16) : FVec F S256x1408 .f32 := k0_pay7 dy (half wo 0)
def slopeB (dy : Vec F S256x1024 .f32) (wo : Vec F S2816x1024 .bf16) : FVec F S256x1408 .f32 :=
  k0_pay18 (k0_pay5 dy) (half wo 1)

/-- The gradients of the gate's two halves and of the up's. -/
def gateA (dy : Vec F S256x1024 .f32) (h : Vec F S256x5632 .bf16) (wo : Vec F S2816x1024 .bf16) : FVec F S256x1408 .bf16 :=
  k0_pay15 (k0_pay10 (cols h 0)) (k0_pay13 dy (half wo 0) (cols h 2)) (k0_pay14 (cols h 0))
def gateB (dy : Vec F S256x1024 .f32) (h : Vec F S256x5632 .bf16) (wo : Vec F S2816x1024 .bf16) : FVec F S256x1408 .bf16 :=
  k0_pay24 (slopeB dy wo) (k0_pay19 (cols h 1)) (k0_pay20 (cols h 3)) (k0_pay21 (cols h 1))
def upA (dy : Vec F S256x1024 .f32) (h : Vec F S256x5632 .bf16) (wo : Vec F S2816x1024 .bf16) : FVec F S256x1408 .bf16 :=
  k0_pay16 (slopeA dy wo) (k0_pay11 (cols h 0))
def upB (dy : Vec F S256x1024 .f32) (h : Vec F S256x5632 .bf16) (wo : Vec F S2816x1024 .bf16) : FVec F S256x1408 .bf16 :=
  k0_pay25 (slopeB dy wo) (k0_pay22 (cols h 1))

/-- The gradient of the normalised rows. -/
def normedGrad (dy : Vec F S256x1024 .f32) (h : Vec F S256x5632 .bf16) (wi : Vec F S4x1024x1408 .bf16)
    (wo : Vec F S2816x1024 .bf16) : FVec F S256x1024 .f32 :=
  k0_pay26 (k0_pay17 (k0_pay6 (F := F)) (slopeA dy wo) (k0_pay10 (cols h 0)) (k0_pay11 (cols h 0))
    (k0_pay13 dy (half wo 0) (cols h 2)) (k0_pay14 (cols h 0)) (slab wi 0) (slab wi 2))
    (slopeB dy wo) (k0_pay19 (cols h 1)) (k0_pay20 (cols h 3)) (k0_pay21 (cols h 1)) (k0_pay22 (cols h 1)) (slab wi 1) (slab wi 3)

/-- The token gradients a point leaves. -/
def tokensOut (dy x : Vec F S256x1024 .f32) (h : Vec F S256x5632 .bf16) (g : Vec F S1x1024 .f32)
    (wi : Vec F S4x1024x1408 .bf16) (wo : Vec F S2816x1024 .bf16) : Vec F S256x1024 .f32 :=
  k0_pay2 dy (normedGrad dy h wi wo) (k0_pay27 g) (k0_pay28 x) (k0_pay29 x)

/-- The normalised rows a point leaves. -/
def normedOut (x : Vec F S256x1024 .f32) (g : Vec F S1x1024 .f32) : Vec F S256x1024 .bf16 := k0_pay1 (k0_pay30 x g)

/-- The halved cotangent a point leaves. -/
def halvedOut (dy : Vec F S256x1024 .f32) : Vec F S256x1024 .bf16 := k0_pay5 dy

/-- The gain's gradient after a point, over what it was before. -/
def gainOut (dy x : Vec F S256x1024 .f32) (h : Vec F S256x5632 .bf16) (wi : Vec F S4x1024x1408 .bf16)
    (wo : Vec F S2816x1024 .bf16) (d : Vec F S1x1024 .f32) : Vec F S1x1024 .f32 :=
  k0_pay3 (normedGrad dy h wi wo) (k0_pay29 x) d

/-- Two blocks of 1408 columns side by side. -/
def pair (a b : Vec F S256x1408 .bf16) : Vec F S256x2816 .bf16 := fun y =>
  let r : Fin 256 := ⟨(y 0).val, (y 0).isLt⟩
  let q : Fin 1408 := ⟨(y 1).val % 1408, Nat.mod_lt _ (by omega)⟩
  if (y 1).val < 1408 then a (ix2 r q) else b (ix2 r q)

/-- The gated hidden rows a point leaves. -/
def gatedOut (h : Vec F S256x5632 .bf16) : Vec F S256x2816 .bf16 :=
  pair (k0_pay12 (cols h 0) (cols h 2)) (k0_pay23 (cols h 1) (cols h 3))

/-- Four blocks of 1408 columns side by side. -/
def bands (a b c d : Vec F S256x1408 .bf16) : Vec F S256x5632 .bf16 := fun y =>
  let r : Fin 256 := ⟨(y 0).val, (y 0).isLt⟩
  let q : Fin 1408 := ⟨(y 1).val % 1408, Nat.mod_lt _ (by omega)⟩
  if (y 1).val < 1408 then a (ix2 r q) else if (y 1).val < 2816 then b (ix2 r q)
  else if (y 1).val < 4224 then c (ix2 r q) else d (ix2 r q)

/-- The gradients of the pre-activations a point leaves: the gate's two halves, then the up's. -/
def hiddenOut (dy : Vec F S256x1024 .f32) (h : Vec F S256x5632 .bf16) (wo : Vec F S2816x1024 .bf16) : Vec F S256x5632 .bf16 :=
  bands (gateA dy h wo) (gateB dy h wo) (upA dy h wo) (upB dy h wo)

/-- A block of 256 rows and 1408 columns at column `o`. -/
abbrev band (o : ℕ) (h : ∀ a, (![0, o] : Fin 2 → ℕ) a + S256x1408.size a ≤ S256x5632.size a) : Rect S256x5632 :=
  Rect.unit (s := S256x5632) ![0, o] S256x1408.size h

theorem mem_band (o : ℕ) (h) (y : S256x5632.Idx) (hy : o ≤ (y 1).val ∧ (y 1).val < o + 1408) : y ∈ (band o h).set := by
  rw [Rect.mem_set_unit]
  intro a
  match a with
  | 0 => exact ⟨Nat.zero_le _, by show (y 0).val < 0 + 256; exact (Nat.zero_add 256).symm ▸ (y 0).isLt⟩
  | 1 => exact hy

/-- The four stores of the block of pre-activation gradients, read back. -/
theorem bands_read (v : View sig .tc .vmem S256x5632 .bf16) (f : v.ty.Contents (Elt F)) (a b c d : Vec F S256x1408 .bf16)
    (h0 h1 h2 h3) :
    v.read (Elt F) (v.writes (Elt F) f [⟨band 4224 h3, d⟩, ⟨band 1408 h1, b⟩, ⟨band 2816 h2, c⟩, ⟨band 0 h0, a⟩])
      = bands a b c d := by
  funext y
  have hb : (y 1).val < 5632 := (y 1).isLt
  refine View.read_writes_apply_of_pieces v f (bands a b c d) _ ?_ y ?_
  · intro p hp
    simp only [List.mem_cons, List.not_mem_nil, or_false] at hp
    rcases hp with rfl | rfl | rfl | rfl
    · refine fun (x : S256x1408.Idx) => ?_
      have hx : (x 1).val < 1408 := (x 1).isLt
      have e : ((band 4224 h3).emb x 1).val = 4224 + 1 * (x 1).val := rfl
      refine Eq.trans ?_ ((if_neg (show ¬((band 4224 h3).emb x 1).val < 1408 by omega)).trans ((if_neg (show ¬((band 4224 h3).emb x 1).val < 2816 by omega)).trans (if_neg (show ¬((band 4224 h3).emb x 1).val < 4224 by omega)))).symm
      refine congrArg d (funext fun q => Fin.ext ?_)
      match q with
      | 0 => show (x 0).val = 0 + 1 * (x 0).val; omega
      | 1 => show (x 1).val = (4224 + 1 * (x 1).val) % 1408; omega
    · refine fun (x : S256x1408.Idx) => ?_
      have hx : (x 1).val < 1408 := (x 1).isLt
      have e : ((band 1408 h1).emb x 1).val = 1408 + 1 * (x 1).val := rfl
      refine Eq.trans ?_ ((if_neg (show ¬((band 1408 h1).emb x 1).val < 1408 by omega)).trans (if_pos (show ((band 1408 h1).emb x 1).val < 2816 by omega))).symm
      refine congrArg b (funext fun q => Fin.ext ?_)
      match q with
      | 0 => show (x 0).val = 0 + 1 * (x 0).val; omega
      | 1 => show (x 1).val = (1408 + 1 * (x 1).val) % 1408; omega
    · refine fun (x : S256x1408.Idx) => ?_
      have hx : (x 1).val < 1408 := (x 1).isLt
      have e : ((band 2816 h2).emb x 1).val = 2816 + 1 * (x 1).val := rfl
      refine Eq.trans ?_ ((if_neg (show ¬((band 2816 h2).emb x 1).val < 1408 by omega)).trans ((if_neg (show ¬((band 2816 h2).emb x 1).val < 2816 by omega)).trans (if_pos (show ((band 2816 h2).emb x 1).val < 4224 by omega)))).symm
      refine congrArg c (funext fun q => Fin.ext ?_)
      match q with
      | 0 => show (x 0).val = 0 + 1 * (x 0).val; omega
      | 1 => show (x 1).val = (2816 + 1 * (x 1).val) % 1408; omega
    · refine fun (x : S256x1408.Idx) => ?_
      have hx : (x 1).val < 1408 := (x 1).isLt
      have e : ((band 0 h0).emb x 1).val = 0 + 1 * (x 1).val := rfl
      refine Eq.trans ?_ (if_pos (show ((band 0 h0).emb x 1).val < 1408 by omega)).symm
      refine congrArg a (funext fun q => Fin.ext ?_)
      match q with
      | 0 => show (x 0).val = 0 + 1 * (x 0).val; omega
      | 1 => show (x 1).val = (0 + 1 * (x 1).val) % 1408; omega
  · by_cases c1 : (y 1).val < 1408
    · exact ⟨_, List.mem_cons_of_mem _ (List.mem_cons_of_mem _ (List.mem_cons_of_mem _ List.mem_cons_self)),
        mem_band 0 h0 y ⟨Nat.zero_le _, by omega⟩⟩
    by_cases c2 : (y 1).val < 2816
    · exact ⟨_, List.mem_cons_of_mem _ List.mem_cons_self, mem_band 1408 h1 y ⟨by omega, by omega⟩⟩
    by_cases c3 : (y 1).val < 4224
    · exact ⟨_, List.mem_cons_of_mem _ (List.mem_cons_of_mem _ List.mem_cons_self), mem_band 2816 h2 y ⟨by omega, by omega⟩⟩
    · exact ⟨_, List.mem_cons_self, mem_band 4224 h3 y ⟨by omega, by omega⟩⟩

/-- A load of a slot of the first scratch. -/
theorem slab_load (w : Vec F S4x1024x1408 .bf16) (s : ℕ) (hs : s < 4) (h) :
    View.readAt (Elt F) scrIn.view (Rect.unit (s := S4x1024x1408) ![s, 0, 0] S1x1024x1408.size h).toLoadRect w
      = slab w ⟨s, hs⟩ := by
  refine funext fun (j : S1x1024x1408.Idx) => ?_
  have h0 : (j 0).val < 1 := (j 0).isLt
  show w _ = w _
  refine congrArg w (funext fun q => Fin.ext ?_)
  match q with
  | 0 => show s + 1 * (j 0).val = s; omega
  | 1 => show 0 + 1 * (j 1).val = (j 1).val; omega
  | 2 => show 0 + 1 * (j 2).val = (j 2).val; omega

/-- A load of a half of the second scratch. -/
theorem half_load (w : Vec F S2816x1024 .bf16) (s o : ℕ) (hs : s < 2) (ho : o = 1408 * s) (h) :
    View.readAt (Elt F) scrOut.view (Rect.unit (s := S2816x1024) ![o, 0] S1408x1024.size h).toLoadRect w
      = half w ⟨s, hs⟩ := by
  subst ho
  refine funext fun (j : S1408x1024.Idx) => ?_
  show w _ = w _
  refine congrArg w (funext fun q => Fin.ext ?_)
  match q with
  | 0 => show 1408 * s + 1 * (j 0).val = 1408 * s + (j 0).val; omega
  | 1 => show 0 + 1 * (j 1).val = (j 1).val; omega

/-- A load of a block of columns of the pre-activations. -/
theorem cols_load (v : Memref sig .tc .vmem S256x5632 .bf16) (hv : v.IsWhole) (h : Vec F S256x5632 .bf16) (s o : ℕ) (hs : s < 4)
    (ho : o = 1408 * s) (hb) :
    View.readAt (Elt F) v.view (Rect.unit (s := S256x5632) ![0, o] S256x1408.size hb).toLoadRect (hv.unread h)
      = cols h ⟨s, hs⟩ := by
  subst ho
  have e : v.view.read (Elt F) (hv.unread h) = h := hv.read_unread _
  refine funext fun (j : S256x1408.Idx) => ?_
  refine Eq.trans (show _ = v.view.read (Elt F) (hv.unread h) ((Rect.unit (s := S256x5632) ![0, 1408 * s] S256x1408.size hb).emb j) from rfl) ?_
  rw [e]
  show h _ = h _
  refine congrArg h (funext fun q => Fin.ext ?_)
  match q with
  | 0 => show 0 + 1 * (j 0).val = (j 0).val; omega
  | 1 => show 1408 * s + 1 * (j 1).val = 1408 * s + (j 1).val; omega

/-- A block of 256 rows and 1408 columns of the gated rows at column `o`. -/
abbrev strip (o : ℕ) (h : ∀ a, (![0, o] : Fin 2 → ℕ) a + S256x1408.size a ≤ S256x2816.size a) : Rect S256x2816 :=
  Rect.unit (s := S256x2816) ![0, o] S256x1408.size h

theorem mem_strip (o : ℕ) (h) (y : S256x2816.Idx) (hy : o ≤ (y 1).val ∧ (y 1).val < o + 1408) : y ∈ (strip o h).set := by
  rw [Rect.mem_set_unit]
  intro a
  match a with
  | 0 => exact ⟨Nat.zero_le _, by show (y 0).val < 0 + 256; exact (Nat.zero_add 256).symm ▸ (y 0).isLt⟩
  | 1 => exact hy

/-- The two stores of the gated rows, read back. -/
theorem pair_read (v : View sig .tc .vmem S256x2816 .bf16) (f : v.ty.Contents (Elt F)) (a b : Vec F S256x1408 .bf16) (h0 h1) :
    v.read (Elt F) (v.writes (Elt F) f [⟨strip 1408 h1, b⟩, ⟨strip 0 h0, a⟩]) = pair a b := by
  funext y
  have hb : (y 1).val < 2816 := (y 1).isLt
  refine View.read_writes_apply_of_pieces v f (pair a b) _ ?_ y ?_
  · intro p hp
    simp only [List.mem_cons, List.not_mem_nil, or_false] at hp
    rcases hp with rfl | rfl
    · refine fun (x : S256x1408.Idx) => ?_
      have hx : (x 1).val < 1408 := (x 1).isLt
      have e : ((strip 1408 h1).emb x 1).val = 1408 + 1 * (x 1).val := rfl
      refine Eq.trans ?_ (if_neg (show ¬((strip 1408 h1).emb x 1).val < 1408 by omega)).symm
      refine congrArg b (funext fun q => Fin.ext ?_)
      match q with
      | 0 => show (x 0).val = 0 + 1 * (x 0).val; omega
      | 1 => show (x 1).val = (1408 + 1 * (x 1).val) % 1408; omega
    · refine fun (x : S256x1408.Idx) => ?_
      have hx : (x 1).val < 1408 := (x 1).isLt
      have e : ((strip 0 h0).emb x 1).val = 0 + 1 * (x 1).val := rfl
      refine Eq.trans ?_ (if_pos (show ((strip 0 h0).emb x 1).val < 1408 by omega)).symm
      refine congrArg a (funext fun q => Fin.ext ?_)
      match q with
      | 0 => show (x 0).val = 0 + 1 * (x 0).val; omega
      | 1 => show (x 1).val = (0 + 1 * (x 1).val) % 1408; omega
  · by_cases c1 : (y 1).val < 1408
    · exact ⟨_, List.mem_cons_of_mem _ List.mem_cons_self, mem_strip 0 h0 y ⟨Nat.zero_le _, by omega⟩⟩
    · exact ⟨_, List.mem_cons_self, mem_strip 1408 h1 y ⟨by omega, by omega⟩⟩

/-- The gradient of the normalised rows, as the body's loads spell it. -/
theorem normedGrad_loaded (dy : Vec F S256x1024 .f32) (h : Vec F S256x5632 .bf16) (wi : Vec F S4x1024x1408 .bf16)
    (wo : Vec F S2816x1024 .bf16) (c0 c1 c2 c3 : Vec F S256x1408 .bf16) (s0 s1 s2 s3 : Vec F S1x1024x1408 .bf16) (t0 t1 : Vec F S1408x1024 .bf16)
    (hc0 : c0 = cols h 0) (hc1 : c1 = cols h 1) (hc2 : c2 = cols h 2) (hc3 : c3 = cols h 3)
    (hs0 : s0 = slab wi 0) (hs1 : s1 = slab wi 1) (hs2 : s2 = slab wi 2) (hs3 : s3 = slab wi 3)
    (ht0 : t0 = half wo 0) (ht1 : t1 = half wo 1) :
    k0_pay26 (k0_pay17 (k0_pay6 (F := F)) (k0_pay7 dy t0) (k0_pay10 c0) (k0_pay11 c0) (k0_pay13 dy t0 c2) (k0_pay14 c0) s0 s2)
      (k0_pay18 (k0_pay5 dy) t1) (k0_pay19 c1) (k0_pay20 c3) (k0_pay21 c1) (k0_pay22 c1) s1 s3 = normedGrad dy h wi wo := by
  subst hc0 hc1 hc2 hc3 hs0 hs1 hs2 hs3 ht0 ht1
  rfl

/-- The gradients of the pre-activations, as the body's loads spell them. -/
theorem hidden_loaded (dy : Vec F S256x1024 .f32) (h : Vec F S256x5632 .bf16) (wo : Vec F S2816x1024 .bf16)
    (c0 c1 c2 c3 : Vec F S256x1408 .bf16) (t0 t1 : Vec F S1408x1024 .bf16)
    (hc0 : c0 = cols h 0) (hc1 : c1 = cols h 1) (hc2 : c2 = cols h 2) (hc3 : c3 = cols h 3)
    (ht0 : t0 = half wo 0) (ht1 : t1 = half wo 1) :
    bands (k0_pay15 (k0_pay10 c0) (k0_pay13 dy t0 c2) (k0_pay14 c0))
      (k0_pay24 (k0_pay18 (k0_pay5 dy) t1) (k0_pay19 c1) (k0_pay20 c3) (k0_pay21 c1))
      (k0_pay16 (k0_pay7 dy t0) (k0_pay11 c0)) (k0_pay25 (k0_pay18 (k0_pay5 dy) t1) (k0_pay22 c1)) = hiddenOut dy h wo := by
  subst hc0 hc1 hc2 hc3 ht0 ht1
  rfl

/-- The gated rows, as the body's loads spell them. -/
theorem gated_loaded (h : Vec F S256x5632 .bf16) (c0 c1 c2 c3 : Vec F S256x1408 .bf16)
    (hc0 : c0 = cols h 0) (hc1 : c1 = cols h 1) (hc2 : c2 = cols h 2) (hc3 : c3 = cols h 3) :
    pair (k0_pay12 c0 c2) (k0_pay23 c1 c3) = gatedOut h := by
  subst hc0 hc1 hc2 hc3
  rfl

set_option sl_exec.dmaWindow true in
set_option maxHeartbeats 16000000 in
/-- THE BODY at any point: either it loads the weights and clears the gain's gradient, or the scratches hold the weights
    already. -/
theorem body_run (c : Dev nD) (i : grid0.Coords) (arg1 : Memref sig .tc .vmem S256x1024 .f32) (harg1 : arg1.IsWhole)
    (arg2 : Memref sig .tc .vmem S256x1024 .f32) (harg2 : arg2.IsWhole)
    (arg3 : Memref sig .tc .vmem S256x5632 .bf16) (harg3 : arg3.IsWhole)
    (arg4 : Memref sig .tc .vmem S1x1024 .f32) (harg4 : arg4.IsWhole)
    (arg7 : Memref sig .tc .vmem S256x1024 .f32) (harg7 : arg7.IsWhole)
    (arg8 : Memref sig .tc .vmem S256x5632 .bf16) (harg8 : arg8.IsWhole)
    (arg9 : Memref sig .tc .vmem S256x2816 .bf16) (harg9 : arg9.IsWhole)
    (arg10 : Memref sig .tc .vmem S256x1024 .bf16) (harg10 : arg10.IsWhole)
    (arg11 : Memref sig .tc .vmem S256x1024 .bf16) (harg11 : arg11.IsWhole)
    (arg12 : Memref sig .tc .vmem S1x1024 .f32) (harg12 : arg12.IsWhole)
    (x0 x1 : Vec F S256x1024 .f32) (x2 : Vec F S256x5632 .bf16) (x3 d : Vec F S1x1024 .f32)
    (wi : Vec F S4x1024x1408 .bf16) (wo : Vec F S4x704x1024 .bf16)
    (fi : Vec F S4x1024x1408 .bf16) (fo : Vec F S2816x1024 .bf16)
    (hs : Loads i ∨ (fi = wi ∧ fo = stacked wo)) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d
        ∗ held c scrIn fi ∗ held c scrOut fo ∗ countersZero c ∗ held c argIn wi ∗ held c argOut wo
        ∗ owes (c : Thread nD τ) 0 W
        ∗ (owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg7 fullShare (tokensOut x0 x1 x2 x3 wi (stacked wo))
            ∗ owns (c : Thread nD τ) arg8 fullShare (hiddenOut x0 x2 (stacked wo))
            ∗ owns (c : Thread nD τ) arg9 fullShare (gatedOut x2)
            ∗ owns (c : Thread nD τ) arg10 fullShare (normedOut x1 x3)
            ∗ owns (c : Thread nD τ) arg11 fullShare (halvedOut x0)
            ∗ owns (c : Thread nD τ) arg12 fullShare (gainOut x0 x1 x2 wi (stacked wo) (if Loads i then k0_pay4 else d))
            ∗ held c scrIn wi ∗ held c scrOut (stacked wo) ∗ countersZero c ∗ held c argIn wi ∗ held c argOut wo
            ∗ (∃ W', owes (c : Thread nD τ) 0 W') -∗ K ⟨⟩))
      ⊢ wp frame (wpE (defs₀ (F := F)) Variants.none c none) Set.univ (cc0_ffn_bwd i arg1 harg1 arg2 harg2 arg3 harg3 arg4 harg4
          (Memref.whole main_arg3) (Memref.isWhole_whole _) (Memref.whole main_arg4) (Memref.isWhole_whole _) arg7 harg7
          arg8 harg8 arg9 harg9 arg10 harg10 arg11 harg11 arg12 harg12
          scrIn (Memref.isWhole_whole _) scrOut (Memref.isWhole_whole _) cc0_scratch2) K := by
  simp only [cc0_ffn_bwd_eq_skeleton]; unfold cc0_ffn_bwd_skel
  simp only [k0_part4_eq_skeleton, k0_part1_eq_skeleton, k0_part2_eq_skeleton, k0_part3_eq_skeleton, k0_part5_eq_skeleton,
    k0_part6_eq_skeleton]
  unfold k0_part4_skel
  simp only [k0_part1_eq_skeleton, k0_part2_eq_skeleton, k0_part3_eq_skeleton]; unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, HS0, HS1, ⟨Hq0, Hq1, Hq2, Hq3, Hq4, Hq5, Hq6, Hq7⟩, Hh0, Hh1, HW, Hk⟩
  obtain rfl := harg1.eq_unread hf0; obtain rfl := harg2.eq_unread hf1
  obtain rfl := harg3.eq_unread hf2; obtain rfl := harg4.eq_unread hf3
  obtain rfl := harg12.eq_unread hf9
  have e0 : View.readAt (Elt F) arg1.view (Rect.unit (s := S256x1024) ![0, 0] S256x1024.size inb_S256x1024_S256x1024_0_0).toLoadRect
      (harg1.unread x0) = x0 := (View.readAt_full _ _ _).trans (harg1.read_unread _)
  have e1 : View.readAt (Elt F) arg2.view (Rect.unit (s := S256x1024) ![0, 0] S256x1024.size inb_S256x1024_S256x1024_0_0).toLoadRect
      (harg2.unread x1) = x1 := (View.readAt_full _ _ _).trans (harg2.read_unread _)
  have e3 : View.readAt (Elt F) arg4.view (Rect.unit (s := S1x1024) ![0, 0] S1x1024.size inb_S1x1024_S1x1024_0_0).toLoadRect
      (harg4.unread x3) = x3 := (View.readAt_full _ _ _).trans (harg4.read_unread _)
  have e9 : View.readAt (Elt F) arg12.view (Rect.unit (s := S1x1024) ![0, 0] S1x1024.size inb_S1x1024_S1x1024_0_0).toLoadRect
      (harg12.unread d) = d := (View.readAt_full _ _ _).trans (harg12.read_unread _)
  by_cases hc0 : Loads i
  · (set_option sl_exec.maxSteps 42 in sl_exec (disch := first | sl_exact hc0))
    ihave HS0' := (Entails.of_eq (congrArg (held (F := F) c scrIn) (loaded_in fi wi
      inb_S4x1024x1408_S1x1024x1408_0_0_0 inb_S4x1024x1408_S1x1024x1408_1_0_0 inb_S4x1024x1408_S1x1024x1408_2_0_0
      inb_S4x1024x1408_S1x1024x1408_3_0_0 (body_run.sl.dma0 wi) (body_run.sl.dma0_1 wi) (body_run.sl.dma0_2 wi)
      (body_run.sl.dma0_3 wi) rfl rfl rfl rfl))) $$ HS0
    ihave HS1' := (Entails.of_eq (congrArg (held (F := F) c scrOut) (loaded_out fo wo
      inb_S2816x1024_S704x1024_0_0 inb_S2816x1024_S704x1024_704_0 inb_S2816x1024_S704x1024_1408_0
      inb_S2816x1024_S704x1024_2112_0 inb_S4x704x1024_S1x704x1024_0_0_0 inb_S4x704x1024_S1x704x1024_1_0_0
      inb_S4x704x1024_S1x704x1024_2_0_0 inb_S4x704x1024_S1x704x1024_3_0_0 (body_run.sl.dma0_4 wo) (body_run.sl.dma0_5 wo)
      (body_run.sl.dma0_6 wo) (body_run.sl.dma0_7 wo) rfl rfl rfl rfl))) $$ HS1
    sl_exec
    sl_step
    iapply Hk
    isplitl [H0]
    · iexists _; isplitr
      swap; · iexact H0
      ipureintro; exact harg1.read_unread _
    isplitl [H1]
    · iexists _; isplitr
      swap; · iexact H1
      ipureintro; exact harg2.read_unread _
    isplitl [H2]
    · iexists _; isplitr
      swap; · iexact H2
      ipureintro; exact harg3.read_unread _
    isplitl [H3]
    · iexists _; isplitr
      swap; · iexact H3
      ipureintro; exact harg4.read_unread _
    isplitl [H4]
    · iexists _; isplitr
      swap; · iexact H4
      ipureintro
      refine (View.read_writes_full _ _ _ _ _).trans ?_
      exact congrArg (fun v => k0_pay2 x0 v (k0_pay27 x3) (k0_pay28 x1) (k0_pay29 x1)) (normedGrad_loaded x0 x2 wi (stacked wo) _ _ _ _ _ _ _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
        (slab_load wi 0 (by omega) _) (slab_load wi 1 (by omega) _) (slab_load wi 2 (by omega) _) (slab_load wi 3 (by omega) _)
        (half_load (stacked wo) 0 0 (by omega) rfl _) (half_load (stacked wo) 1 1408 (by omega) rfl _))
    isplitl [H5]
    · iexists _; isplitr
      swap; · iexact H5
      ipureintro
      refine (bands_read _ _ _ _ _ _ _ _ _ _).trans ?_
      exact hidden_loaded x0 x2 (stacked wo) _ _ _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
        (half_load (stacked wo) 0 0 (by omega) rfl _) (half_load (stacked wo) 1 1408 (by omega) rfl _)
    isplitl [H6]
    · iexists _; isplitr
      swap; · iexact H6
      ipureintro
      refine (pair_read _ _ _ _ _ _).trans ?_
      exact gated_loaded x2 _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
    isplitl [H7]
    · iexists _; isplitr
      swap; · iexact H7
      ipureintro
      exact View.read_writes_full _ _ _ _ _
    isplitl [H8]
    · iexists _; isplitr
      swap; · iexact H8
      ipureintro
      exact View.read_writes_full _ _ _ _ _
    isplitl [H9]
    · iexists _; isplitr
      swap; · iexact H9
      ipureintro
      refine (View.read_writes_full _ _ _ _ _).trans ?_
      rw [if_pos hc0]
      exact congrArg₂ (fun v d => k0_pay3 v (k0_pay29 x1) d) (normedGrad_loaded x0 x2 wi (stacked wo) _ _ _ _ _ _ _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
        (slab_load wi 0 (by omega) _) (slab_load wi 1 (by omega) _) (slab_load wi 2 (by omega) _) (slab_load wi 3 (by omega) _)
        (half_load (stacked wo) 0 0 (by omega) rfl _) (half_load (stacked wo) 1 1408 (by omega) rfl _)) ((View.readAt_full _ _ _).trans (View.read_writes_full _ _ _ _ _))
    isplitl [HS0']; · iexact HS0'
    isplitl [HS1']; · iexact HS1'
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    iexists _; iexact HW
  · obtain ⟨rfl, rfl⟩ := hs.resolve_left hc0
    sl_exec (disch := first | sl_exact hc0)
    sl_step
    iapply Hk
    isplitl [H0]
    · iexists _; isplitr
      swap; · iexact H0
      ipureintro; exact harg1.read_unread _
    isplitl [H1]
    · iexists _; isplitr
      swap; · iexact H1
      ipureintro; exact harg2.read_unread _
    isplitl [H2]
    · iexists _; isplitr
      swap; · iexact H2
      ipureintro; exact harg3.read_unread _
    isplitl [H3]
    · iexists _; isplitr
      swap; · iexact H3
      ipureintro; exact harg4.read_unread _
    isplitl [H4]
    · iexists _; isplitr
      swap; · iexact H4
      ipureintro
      refine (View.read_writes_full _ _ _ _ _).trans ?_
      exact congrArg (fun v => k0_pay2 x0 v (k0_pay27 x3) (k0_pay28 x1) (k0_pay29 x1)) (normedGrad_loaded x0 x2 fi (stacked wo) _ _ _ _ _ _ _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
        (slab_load fi 0 (by omega) _) (slab_load fi 1 (by omega) _) (slab_load fi 2 (by omega) _) (slab_load fi 3 (by omega) _)
        (half_load (stacked wo) 0 0 (by omega) rfl _) (half_load (stacked wo) 1 1408 (by omega) rfl _))
    isplitl [H5]
    · iexists _; isplitr
      swap; · iexact H5
      ipureintro
      refine (bands_read _ _ _ _ _ _ _ _ _ _).trans ?_
      exact hidden_loaded x0 x2 (stacked wo) _ _ _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
        (half_load (stacked wo) 0 0 (by omega) rfl _) (half_load (stacked wo) 1 1408 (by omega) rfl _)
    isplitl [H6]
    · iexists _; isplitr
      swap; · iexact H6
      ipureintro
      refine (pair_read _ _ _ _ _ _).trans ?_
      exact gated_loaded x2 _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
    isplitl [H7]
    · iexists _; isplitr
      swap; · iexact H7
      ipureintro
      exact View.read_writes_full _ _ _ _ _
    isplitl [H8]
    · iexists _; isplitr
      swap; · iexact H8
      ipureintro
      exact View.read_writes_full _ _ _ _ _
    isplitl [H9]
    · iexists _; isplitr
      swap; · iexact H9
      ipureintro
      refine (View.read_writes_full _ _ _ _ _).trans ?_
      rw [if_neg hc0]
      exact congrArg₂ (fun v d => k0_pay3 v (k0_pay29 x1) d) (normedGrad_loaded x0 x2 fi (stacked wo) _ _ _ _ _ _ _ _ _ _
        (cols_load arg3 harg3 x2 0 0 (by omega) rfl _) (cols_load arg3 harg3 x2 1 1408 (by omega) rfl _) (cols_load arg3 harg3 x2 2 2816 (by omega) rfl _) (cols_load arg3 harg3 x2 3 4224 (by omega) rfl _)
        (slab_load fi 0 (by omega) _) (slab_load fi 1 (by omega) _) (slab_load fi 2 (by omega) _) (slab_load fi 3 (by omega) _)
        (half_load (stacked wo) 0 0 (by omega) rfl _) (half_load (stacked wo) 1 1408 (by omega) rfl _)) rfl
    isplitl [HS0]; · iexact HS0
    isplitl [HS1]; · iexact HS1
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    iexists _; iexact HW

end Cert.Kernel5Ideal.Back
-- ==== Proof.BackFrameIdeal.lean ====
/-
The feed-forward gradient kernel over its thirty-two points: what the six output arrays end at, every argument unchanged and every
counter back at zero, at every final state.
-/
module

public import proofs.«01_k».proof.Proof.BackBodyIdeal
public import proofs.«01_k».proof.Proof.Gen.Kernel5Ideal.Launch
public import proofs.«01_k».proof.Proof.Gen.Kernel5Ideal.Points
public import Idealize.ShloMosaic.Lib.Pipeline.FrameBody
public import Idealize.ShloMosaic.Lib.Claim

@[expose] public section

set_option maxRecDepth 16384

noncomputable section

namespace Cert.Kernel5Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the region finds them, the down weights stacked. -/
abbrev weightsIn (c : Dev nD) : Vec F S4x1024x1408 .bf16 := V m c main_arg3
abbrev weightsOut (c : Dev nD) : Vec F S4x704x1024 .bf16 := V m c main_arg4

/-- Between points: the weights are in the scratches, the counters at zero, the weight arrays untouched. -/
def warm (c : Dev nD) : sProp 𝕄 :=
  iprop(iprop(held c scrIn (weightsIn m c) ∗ held c scrOut (stacked (weightsOut m c))) ∗ (∃ r, prngReg c r)
    ∗ countersZero c ∗ iprop(held c argIn (weightsIn m c) ∗ held c argOut (weightsOut m c)))

/-- The invariant before point `n`: what the launch hands over at the first, the weights loaded afterwards. -/
def carry (c : Dev nD) : ℕ → sProp 𝕄
  | 0 => Pipeline.ΦD counter spec0 weightRefs (V m) c
  | _ + 1 => warm m c

theorem carry_pos (c : Dev nD) (n : ℕ) (hn : n ≠ 0) : carry m c n = warm m c := by
  cases n with
  | zero => exact absurd rfl hn
  | succ n => rfl

/-- The gain's gradient after point `n`: zero at first, each point adding its own. -/
def gainAt (c : Dev nD) : (n : ℕ) → n < cfg0.N → Vec F S1x1024 .f32
  | 0, hn => gainOut (iblk m c 0 ⟨0, hn⟩) (iblk m c 1 ⟨0, hn⟩) (iblk m c 2 ⟨0, hn⟩) (weightsIn m c) (stacked (weightsOut m c)) k0_pay4
  | n + 1, hn => gainOut (iblk m c 0 ⟨n + 1, hn⟩) (iblk m c 1 ⟨n + 1, hn⟩) (iblk m c 2 ⟨n + 1, hn⟩) (weightsIn m c)
      (stacked (weightsOut m c)) (gainAt c n (Nat.lt_of_succ_lt hn))

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tokensOut (iblk m c 0 t) (iblk m c 1 t) (iblk m c 2 t) (iblk m c 3 t) (weightsIn m c) (stacked (weightsOut m c))
    | ⟨5, _⟩ => hiddenOut (iblk m c 0 t) (iblk m c 2 t) (stacked (weightsOut m c))
    | ⟨6, _⟩ => gatedOut (iblk m c 2 t)
    | ⟨7, _⟩ => normedOut (iblk m c 1 t) (iblk m c 3 t)
    | ⟨8, _⟩ => halvedOut (iblk m c 0 t)
    | ⟨9, _⟩ => gainAt m c t.val t.isLt
  Φ t := carry m c t.val
  q _ := fullShare
  owed _ := 0

theorem A_eq (c : Dev nD) (w : Fin cfg0.W) : (dats m 0 c).A w = V m c (Pipeline.arrRef spec0 w) := by dsimp only [dats]

theorem after_dy (c : Dev nD) (t : Fin cfg0.N) : (dats m 0 c).after 0 t = iblk m c 0 t := by dsimp only [dats]
theorem after_x (c : Dev nD) (t : Fin cfg0.N) : (dats m 0 c).after 1 t = iblk m c 1 t := by dsimp only [dats]
theorem after_h (c : Dev nD) (t : Fin cfg0.N) : (dats m 0 c).after 2 t = iblk m c 2 t := by dsimp only [dats]
theorem after_gain (c : Dev nD) (t : Fin cfg0.N) : (dats m 0 c).after 3 t = iblk m c 3 t := by dsimp only [dats]
theorem after_dx (c : Dev nD) (t : Fin cfg0.N) : (dats m 0 c).after 4 t
    = tokensOut (iblk m c 0 t) (iblk m c 1 t) (iblk m c 2 t) (iblk m c 3 t) (weightsIn m c) (stacked (weightsOut m c)) := by dsimp only [dats]
theorem after_hidden (c : Dev nD) (t : Fin cfg0.N) : (dats m 0 c).after 5 t
    = hiddenOut (iblk m c 0 t) (iblk m c 2 t) (stacked (weightsOut m c)) := by dsimp only [dats]
theorem after_gated (c : Dev nD) (t : Fin cfg0.N) : (dats m 0 c).after 6 t
    = gatedOut (iblk m c 2 t) := by dsimp only [dats]
theorem after_normed (c : Dev nD) (t : Fin cfg0.N) : (dats m 0 c).after 7 t
    = normedOut (iblk m c 1 t) (iblk m c 3 t) := by dsimp only [dats]
theorem after_halved (c : Dev nD) (t : Fin cfg0.N) : (dats m 0 c).after 8 t
    = halvedOut (iblk m c 0 t) := by dsimp only [dats]
theorem after_gainGrad (c : Dev nD) (t : Fin cfg0.N) : (dats m 0 c).after 9 t
    = gainAt m c t.val t.isLt := by dsimp only [dats]

/-- The gain's gradient is carried from each point to the next. -/
theorem before_gainGrad (c : Dev nD) (t : Fin cfg0.N) (ht : t.val ≠ 0) (d) :
    (dats m 0 c).before 9 t d = gainAt m c (t.val - 1) (Nat.lt_of_le_of_lt (Nat.sub_le _ _) t.isLt) := by
  have hN : t.val < 32 := Nat.lt_of_lt_of_eq t.isLt N_0
  have hfl : (cfg0.win 9).flush ⟨t.val - 1, Nat.lt_of_le_of_lt (Nat.sub_le _ _) t.isLt⟩ = false := by
    rw [Bool.eq_false_iff]
    intro h
    have := (flush0_9 _).mp h
    dsimp only at this
    omega
  rw [(dats m 0 c).before_out_kept 9 rfl t ht hfl (fun _ => rfl) (fun _ _ => rfl) d, after_gainGrad]

/-- One step of it. -/
theorem gainAt_step (c : Dev nD) (t : Fin cfg0.N) (ht : t.val ≠ 0) :
    gainOut (iblk m c 0 t) (iblk m c 1 t) (iblk m c 2 t) (weightsIn m c) (stacked (weightsOut m c))
      (gainAt m c (t.val - 1) (Nat.lt_of_le_of_lt (Nat.sub_le _ _) t.isLt)) = gainAt m c t.val t.isLt := by
  obtain ⟨n, hn⟩ := t
  cases n with
  | zero => exact absurd rfl ht
  | succ n => rfl

theorem gainAt_first (c : Dev nD) (t : Fin cfg0.N) (ht : t.val = 0) :
    gainOut (iblk m c 0 t) (iblk m c 1 t) (iblk m c 2 t) (weightsIn m c) (stacked (weightsOut m c)) k0_pay4
      = gainAt m c t.val t.isLt := by
  obtain ⟨n, hn⟩ := t
  cases n with
  | zero => rfl
  | succ n => exact absurd ht (Nat.succ_ne_zero n)

/-- What a point is handed, window by window, and what it returns. -/
def before (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def afterwards (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

/-- The body with the scratches and the gain's gradient at given contents, in the form a point hands them over. -/
theorem point_at (c : Dev nD) (t : Fin cfg0.N) (fi : Vec F S4x1024x1408 .bf16) (fo : Vec F S2816x1024 .bf16)
    (d : Vec F S1x1024 .f32)
    (hs : Loads (grid0.coords t) ∨ (fi = weightsIn m c ∧ fo = stacked (weightsOut m c)))
    (hd : gainOut (iblk m c 0 t) (iblk m c 1 t) (iblk m c 2 t) (weightsIn m c) (stacked (weightsOut m c))
      (if Loads (grid0.coords t) then k0_pay4 else d) = gainAt m c t.val t.isLt) :
    iprop(iprop(iprop(held c scrIn fi ∗ held c scrOut fo) ∗ (∃ r, prngReg c r)
        ∗ countersZero c ∗ iprop(held c argIn (weightsIn m c) ∗ held c argOut (weightsOut m c)))
      ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ owns (c : Thread nD τ) (win0_9.stage (cfg0.slots t 9)) fullShare d)
      ⊢ wp frame (wpE (defs₀ (F := F)) Variants.none c none) Set.univ (bodyAt0 t) (fun _ => afterwards m c t) := by
  unfold afterwards bodyAt0
  simp only [staged_dy m (dats m 0 c) (A_eq m c 0) (after_dy m c), staged_x m (dats m 0 c) (A_eq m c 1) (after_x m c), staged_h m (dats m 0 c) (A_eq m c 2) (after_h m c), staged_gain m (dats m 0 c) (A_eq m c 3) (after_gain m c)]
  rw [show (dats m 0 c).Φ t.succ = warm m c from rfl, after_dy, after_x, after_h, after_gain, after_dx, after_hidden, after_gated, after_normed, after_halved, after_gainGrad]
  unfold Dat.owesAt Pipeline.owesWithin
  rw [show (dats m 0 c).owed t.castSucc = 0 from rfl, show (dats m 0 c).owed t.succ = 0 from rfl, ← hd]
  iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (body_run c (grid0.coords t) _ _ _ _ _ _ _ _ _ _ _ _ _ _ _ _ _ _ _ _ (iblk m c 0 t) (iblk m c 1 t) (iblk m c 2 t) (iblk m c 3 t) d
    (weightsIn m c) (weightsOut m c) fi fo hs W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [Hq]; · iexact Hq
  isplitl [Hh0]; · iexact Hh0
  isplitl [Hh1]; · iexact Hh1
  isplitl [HW]; · iexact HW
  iintro ⟨H0, H1, H2, H3, H4, H5, H6, H7, H8, H9, HS0, HS1, Hq, Hh0, Hh1, ⟨%W', HW'⟩⟩
  isplitl [HS0 HS1 Hg Hq Hh0 Hh1]
  · unfold warm
    isplitl [HS0 HS1]
    · isplitl [HS0]; · iexact HS0
      iexact HS1
    isplitl [Hg]; · iexact Hg
    isplitl [Hq]; · iexact Hq
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- Every point: the first loads the weights over whatever the scratches hold and clears the gain's gradient, the others
    find them. -/
theorem point (c : Dev nD) (t : Fin cfg0.N) :
    before m c t ⊢ wp frame (wpE (defs₀ (F := F)) Variants.none c none) Set.univ (bodyAt0 t) (fun _ => afterwards m c t) := by
  unfold before
  by_cases hz : t.val = 0
  · have hl := (loads_iff t).mpr hz
    rw [show (dats m 0 c).Φ t.castSucc = Pipeline.ΦD counter spec0 weightRefs (V m) c from by
      show carry m c t.val = _; rw [hz]; rfl, entry_eq]
    iintro ⟨⟨⟨⟨%di, HS0⟩, ⟨%do', HS1⟩⟩, Hrest⟩, Hw, H0, H1, H2, H3, H4, H5, H6, H7, H8, ⟨%d, H9⟩⟩
    iapply (point_at m c t di do' ((dats m 0 c).before 9 t d) (Or.inl hl) (by rw [if_pos hl]; exact gainAt_first m c t hz))
    isplitl [HS0 HS1 Hrest]
    · isplitl [HS0 HS1]
      · isplitl [HS0]; · iexact HS0
        iexact HS1
      iexact Hrest
    isplitl [Hw]; · iexact Hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hl : ¬Loads (grid0.coords t) := fun h => hz ((loads_iff t).mp h)
    rw [show (dats m 0 c).Φ t.castSucc = warm m c from carry_pos m c t.val hz]
    iintro ⟨HΦ, Hw, H0, H1, H2, H3, H4, H5, H6, H7, H8, ⟨%d, H9⟩⟩
    iapply (point_at m c t (weightsIn m c) (stacked (weightsOut m c)) ((dats m 0 c).before 9 t d) (Or.inr ⟨rfl, rfl⟩)
      (by rw [if_neg hl, before_gainGrad m c t hz]; exact gainAt_step m c t hz))
    isplitl [HΦ]
    · unfold warm
      iexact HΦ
    isplitl [Hw]; · iexact Hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

/-- At the end the scratches' contents are forgotten. -/
theorem leave (c : Dev nD) : (dats m 0 c).Φ (Fin.last cfg0.N) ⊢ Pipeline.ΦD counter spec0 weightRefs (V m) c := by
  rw [show (dats m 0 c).Φ (Fin.last cfg0.N) = warm m c from
    carry_pos m c (Fin.last cfg0.N).val (by rw [Fin.val_last]; have : cfg0.N = 32 := N_0; omega), entry_eq]
  unfold warm
  iintro ⟨⟨HS0, HS1⟩, Hrest⟩
  isplitl [HS0 HS1]
  · isplitl [HS0]
    · iexists _; iexact HS0
    iexists _; iexact HS1
  iexact Hrest

set_option backward.isDefEq.respectTransparency.types false in
/-- THE RUN: the arrays end as the proof data says, the counters at zero. -/
theorem run : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 counter defs₀ Variants.none counter_facts weightRefs
    weightRefs_sub m ρ main (hbody := fun c => (obligation m c).loose) (hshare := fun c => (dats m 0 c).share_full fun _ => rfl)
    (howed := fun _ _ => rfl) (V := V m) (hmain := enters m Variants.none) (hA := A_eq m)
    (hin := fun c => Idealize.SL.BI.Entails.refl _) (hout := leave m)

/-- THE FRAME: the arguments unchanged and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨arguments_kept m (dats m) (A_eq m) r h.1, h.2⟩) (run m ρ)

end Cert.Kernel5Ideal.Back
-- ==== Proof.FeedSetupIdeal.lean ====
/-
What the feed-forward kernel's body is proved over: the region's entry, the staged blocks, the
condition under which the body loads the weights, and the invariant's parts listed one by one.
-/
module

public import proofs.«01_k».proof.Proof.Gen.Kernel4Ideal.Frame
public import proofs.«01_k».proof.Proof.Gen.Kernel4Ideal.Skeleton
public import Idealize.ShloMosaic.Lib.VecWindow
public import Idealize.ShloMosaic.Lib.WordCmp

@[expose] public section

set_option maxRecDepth 16384

noncomputable section

namespace Cert.Kernel4Ideal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body loads the weights: its grid coordinate is zero. -/
abbrev Loads (i : grid0.Coords) : Prop :=
  (Scalar.cmpi .ne (Scalar.extui (Scalar.cmpi .eq (BitVec.ofNat 32 (i 0).val) 0#32)) 0#32) = 1#1

/-- It does so at the first of the sixteen points only. -/
theorem loads_iff (t : Fin cfg0.N) : Loads (grid0.coords t) ↔ t.val = 0 := by
  have ht : t.val < 16 := Nat.lt_of_lt_of_eq t.isLt N_0
  have e0 : (grid0.coords t 0).val = t.val / 1 % 16 := Pipeline.Grid.coords_val t 0 (by decide) rfl
  simp only [Loads, e0]
  have key : (Scalar.cmpi .ne (Scalar.extui (Scalar.cmpi .eq (BitVec.ofNat 32 (t.val / 1 % 16)) 0#32)) 0#32) = 1#1
      ↔ t.val % 16 = 0 := by word_cmp
  rw [key, Nat.mod_eq_of_lt ht]

/-- The two weight scratches of the kernel, whole. -/
abbrev scrIn : Memref sig .tc .vmem S4x1024x1408 .bf16 := Memref.whole cc0_scratch0
abbrev scrOut : Memref sig .tc .vmem S2816x1024 .bf16 := Memref.whole cc0_scratch1
/-- The two weight arrays the body copies them from, whole. -/
abbrev argIn : Memref sig .tc .hbm S4x1024x1408 .bf16 := Memref.whole main_arg2
abbrev argOut : Memref sig .tc .hbm S4x704x1024 .bf16 := Memref.whole main_arg3

/-- A memref's buffer contents on a core, and the whole buffer held at them. -/
abbrev Held (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e)
    (f : Held (F := F) c M) : sProp 𝕄 :=
  M.view.loc (c : Thread nD τ) ↦{fullShare} f

/-- The eight copy counters of the body, all at zero. -/
abbrev countersZero (c : Dev nD) : sProp 𝕄 :=
  iprop(semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0)

/-- The counters as the launch lists them. -/
abbrev counter : Fin 8 → SemLoc sig := fun j =>
  (![SemLoc.dma 7, SemLoc.dma 8, SemLoc.dma 9, SemLoc.dma 10, SemLoc.dma 11, SemLoc.dma 12, SemLoc.dma 13,
    SemLoc.dma 14] : Fin 8 → SemLoc sig) j

theorem counter_facts : Pipeline.OwnSemFacts spec0 counter := by decide

theorem counters_eq (c : Dev nD) :
    (Pipeline.ownSems0 (Ix := Unit) (Name := ℕ) (U := Pipeline.UD sig nD τ) (Lvl := ℕ) (Val := Elt F) (τ := τ) counter c : sProp 𝕄)
      = countersZero c := by
  rw [Pipeline.ownSems0_eq_of_list c counter [0, 1, 2, 3, 4, 5, 6, 7] (by decide) (by decide)]; rfl

/-- The weight arrays, as buffers no window stages. -/
def weightRefs : Finset (Ref sig .tc) := {main_arg2, main_arg3}

theorem weightRefs_sub : weightRefs ⊆ Pipeline.restRefs sig spec0 := by decide

theorem weights_eq (c : Dev nD) :
    (bigSep weightRefs (fun b => ((c : Thread nD τ).loc b) ↦{fullShare} V m c b) : sProp 𝕄)
      = iprop(held c argIn (V m c main_arg2) ∗ held c argOut (V m c main_arg3)) := by
  rw [BI.bigSep_eq_bigSepL_of_eq [main_arg2, main_arg3] (by decide) (by decide)]; rfl

/-- What the launch hands the body, part by part: the scratches at anything, the generator's register, the counters at
    zero and the weight arrays. -/
theorem entry_eq (c : Dev nD) :
    (Pipeline.ΦD counter spec0 weightRefs (V m) c : sProp 𝕄)
      = iprop(iprop((∃ d, held c scrIn d) ∗ (∃ d, held c scrOut d)) ∗ (∃ r, prngReg c r) ∗ countersZero c
        ∗ iprop(held c argIn (V m c main_arg2) ∗ held c argOut (V m c main_arg3))) := by
  rw [Pipeline.ΦD_eq, scopedRest0_eq, counters_eq, weights_eq]

/-- The host's operations before the region, then the region. -/
theorem enters (𝒱₀ : Variants) : Pipeline.HMain (Ix := Unit) (Name := ℕ) (U := Pipeline.UD sig nD τ) (Lvl := ℕ) cfgs 0
    defs₀ 𝒱₀ m (main (F := F)) (V m) :=
  Pipeline.hmain_prefix cfgs 0 defs₀ 𝒱₀ m main hostOps0 hostOps0_sub hostOps0_fresh main_chain

/-- The token block is in its staging buffer at every point. -/
theorem staged_x {c : Dev nD} (dat : Dat τ (Elt F) Unit ℕ (Pipeline.UD sig nD τ) ℕ cfg0 c)
    (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl)
      (fun t => by rw [hafter]; unfold Dat.blockOf iblk; rw [hA]) t d).trans
    (by unfold Dat.fetched Dat.blockOf iblk; rw [hA]; rfl)

/-- The gain is in its staging buffer at every point. -/
theorem staged_gain {c : Dev nD} (dat : Dat τ (Elt F) Unit ℕ (Pipeline.UD sig nD τ) ℕ cfg0 c)
    (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl)
      (fun t => by rw [hafter]; unfold Dat.blockOf iblk; rw [hA]) t d).trans
    (by unfold Dat.fetched Dat.blockOf iblk; rw [hA]; rfl)

/-- A run of the region that ends with its arrays as the proof data says leaves the argument arrays unchanged. -/
theorem arguments_kept (dats : (p : Fin 1) → (c : Dev nD) → Dat τ (Elt F) Unit ℕ (Pipeline.UD sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.Kernel4Ideal.Feed
-- ==== Proof.FeedLoadIdeal.lean ====
/-
The two weight scratches after the body's eight copies, whatever they held before: the first is the gate and up
weights as they are, the second the down weights with their four slots one under another.
-/
module

public import proofs.«01_k».proof.Proof.FeedSetupIdeal
public import Idealize.ShloMosaic.Lib.ValueLayout
public import Idealize.ShloMosaic.Lib.Pointwise

@[expose] public section

set_option maxRecDepth 16384

noncomputable section

namespace Cert.Kernel4Ideal.Feed

open Idealize.ShloMosaic Idealize.ShloMosaic.TcCoe Idealize.ShloMosaic.Tactic
open Idealize.ShloMosaic.Pointwise
open Cert.Kernel4Ideal.Gen

variable {F : FTy → Type} [FloatOps F]

/-- The down weights, row `704·s + r` being row `r` of slot `s`. -/
def stacked (w : Vec F S4x704x1024 .bf16) : Vec F S2816x1024 .bf16 := fun y =>
  w (ix3 (⟨(y 0).val / 704, by have h : (y 0).val < 2816 := (y 0).isLt; omega⟩ : Fin 4)
    (⟨(y 0).val % 704, Nat.mod_lt _ (by omega)⟩ : Fin 704) (⟨(y 1).val, (y 1).isLt⟩ : Fin 1024))

/-- Slot `s` of the first scratch, as the body's copies address it. -/
abbrev slotIn {κ : Kind} {sp : Space} (M : Memref sig κ sp S4x1024x1408 .bf16) (s : ℕ)
    (h : ∀ a, (![s, 0, 0] : Fin 3 → ℕ) a + S1x1024x1408.size a ≤ S4x1024x1408.size a) : Memref sig κ sp S1024x1408 .bf16 :=
  (M.slice (Rect.unit (s := S4x1024x1408) ![s, 0, 0] S1x1024x1408.size h) (fun _ => rfl)).squeeze S1024x1408
    squeezes_S1x1024x1408_S1024x1408

/-- Slot `s` of the down weights, as the body's copies address it. -/
abbrev slotOut {κ : Kind} {sp : Space} (M : Memref sig κ sp S4x704x1024 .bf16) (s : ℕ)
    (h : ∀ a, (![s, 0, 0] : Fin 3 → ℕ) a + S1x704x1024.size a ≤ S4x704x1024.size a) : Memref sig κ sp S704x1024 .bf16 :=
  (M.slice (Rect.unit (s := S4x704x1024) ![s, 0, 0] S1x704x1024.size h) (fun _ => rfl)).squeeze S704x1024
    squeezes_S1x704x1024_S704x1024

/-- The 704 rows of the second scratch from row `o`. -/
abbrev rowsOut {κ : Kind} {sp : Space} (M : Memref sig κ sp S2816x1024 .bf16) (o : ℕ)
    (h : ∀ a, (![o, 0] : Fin 2 → ℕ) a + S704x1024.size a ≤ S2816x1024.size a) : Memref sig κ sp S704x1024 .bf16 :=
  M.slice (Rect.unit (s := S2816x1024) ![o, 0] S704x1024.size h) (fun _ => rfl)

theorem mem_slotIn (s : ℕ) (h) (i : S4x1024x1408.Idx) : i ∈ (slotIn scrIn s h).view.set ↔ (i 0).val = s := by
  rw [View.set_reshape, View.set_slice_whole, Rect.mem_set_unit]
  constructor
  · intro hi
    have h0 := hi 0
    have e : (![s, 0, 0] : Fin 3 → ℕ) 0 = s := rfl
    have e' : S1x1024x1408.size 0 = 1 := rfl
    rw [e, e'] at h0; omega
  · intro hi a
    have hs := (i a).isLt
    match a with
    | 0 => exact ⟨hi.ge, by show (i 0).val < s + 1; omega⟩
    | 1 => exact ⟨Nat.zero_le _, by show (i 1).val < 0 + 1024; exact (Nat.zero_add 1024).symm ▸ hs⟩
    | 2 => exact ⟨Nat.zero_le _, by show (i 2).val < 0 + 1408; exact (Nat.zero_add 1408).symm ▸ hs⟩

theorem mem_rowsOut (o : ℕ) (h) (i : S2816x1024.Idx) :
    i ∈ (rowsOut scrOut o h).view.set ↔ o ≤ (i 0).val ∧ (i 0).val < o + 704 := by
  rw [View.set_slice_whole, Rect.mem_set_unit]
  constructor
  · intro hi; exact hi 0
  · intro hi a
    have hs := (i a).isLt
    match a with
    | 0 => exact hi
    | 1 => exact ⟨Nat.zero_le _, by show (i 1).val < 0 + 1024; exact (Nat.zero_add 1024).symm ▸ hs⟩

/-- The first scratch after its four copies. -/
theorem loaded_in (f w : Vec F S4x1024x1408 .bf16) (h0 h1 h2 h3) (p0 p1 p2 p3 : Vec F S1024x1408 .bf16)
    (e0 : p0 = (slotIn argIn 0 h0).view.read (Elt F) w) (e1 : p1 = (slotIn argIn 1 h1).view.read (Elt F) w)
    (e2 : p2 = (slotIn argIn 2 h2).view.read (Elt F) w) (e3 : p3 = (slotIn argIn 3 h3).view.read (Elt F) w) :
    (slotIn scrIn 3 h3).view.write (Elt F) ((slotIn scrIn 2 h2).view.write (Elt F) ((slotIn scrIn 1 h1).view.write (Elt F)
      ((slotIn scrIn 0 h0).view.write (Elt F) f p0 Finset.univ) p1 Finset.univ) p2 Finset.univ) p3 Finset.univ = w := by
  subst e0 e1 e2 e3
  have e : ∀ s h, (slotIn argIn s h).view.read (Elt F) w = (slotIn scrIn s h).view.read (Elt F) w := fun _ _ => rfl
  rw [e, e, e, e, View.write_read_eq_piecewise, View.write_read_eq_piecewise, View.write_read_eq_piecewise,
    View.write_read_eq_piecewise]
  funext i
  have hi : ((i : S4x1024x1408.Idx) 0).val < 4 := ((i : S4x1024x1408.Idx) 0).isLt
  by_cases c3 : ((i : S4x1024x1408.Idx) 0).val = 3
  · exact Finset.piecewise_eq_of_mem _ _ _ ((mem_slotIn 3 h3 i).mpr c3)
  refine (Finset.piecewise_eq_of_notMem _ _ _ (fun hh => c3 ((mem_slotIn 3 h3 i).mp hh))).trans ?_
  by_cases c2 : ((i : S4x1024x1408.Idx) 0).val = 2
  · exact Finset.piecewise_eq_of_mem _ _ _ ((mem_slotIn 2 h2 i).mpr c2)
  refine (Finset.piecewise_eq_of_notMem _ _ _ (fun hh => c2 ((mem_slotIn 2 h2 i).mp hh))).trans ?_
  by_cases c1 : ((i : S4x1024x1408.Idx) 0).val = 1
  · exact Finset.piecewise_eq_of_mem _ _ _ ((mem_slotIn 1 h1 i).mpr c1)
  refine (Finset.piecewise_eq_of_notMem _ _ _ (fun hh => c1 ((mem_slotIn 1 h1 i).mp hh))).trans ?_
  exact Finset.piecewise_eq_of_mem _ _ _ ((mem_slotIn 0 h0 i).mpr (by omega))

/-- Each slot of the down weights is the rows of the stack it is copied to. -/
theorem slot_rows (w : Vec F S4x704x1024 .bf16) (s o : ℕ) (hs h) (ho : o = 704 * s) :
    (slotOut argOut s hs).view.read (Elt F) w = (rowsOut scrOut o h).view.read (Elt F) (stacked w) := by
  subst ho
  refine (Memref.read_squeeze_slice argOut _ _ squeezes_S1x704x1024_S704x1024
    (show S1x704x1024.ShapeCasts S704x1024 by decide) w).trans ?_
  refine funext (fun (y : S704x1024.Idx) => ?_)
  have ha : (y 0).val < 704 := (y 0).isLt
  have e : Shape.reshapeEquiv (s := S1x704x1024) (s' := S704x1024) (by decide) y
      = ValueIdx.ix3 (⟨0, Nat.one_pos⟩ : Fin 1) (⟨(y 0).val, (y 0).isLt⟩ : Fin 704) (⟨(y 1).val, (y 1).isLt⟩ : Fin 1024) :=
    (congrArg _ (eq_ix2 y)).trans (ValueIdx.reshapeEquiv_ix2_1ab (a := 704) (b := 1024) _ _ _)
  refine (congrArg (View.readAt (Elt F) argOut.view
    (Rect.unit (s := S4x704x1024) ![s, 0, 0] S1x704x1024.size hs).toLoadRect w) e).trans ?_
  show w _ = w _
  refine congrArg w (funext fun q => Fin.ext ?_)
  match q with
  | 0 => show s + 1 * 0 = (704 * s + 1 * (y 0).val) / 704; omega
  | 1 => show 0 + 1 * (y 0).val = (704 * s + 1 * (y 0).val) % 704; omega
  | 2 => rfl

/-- The second scratch after its four copies. -/
theorem loaded_out (f : Vec F S2816x1024 .bf16) (w : Vec F S4x704x1024 .bf16) (h0 h1 h2 h3 k0 k1 k2 k3)
    (p0 p1 p2 p3 : Vec F S704x1024 .bf16)
    (e0 : p0 = (slotOut argOut 0 k0).view.read (Elt F) w) (e1 : p1 = (slotOut argOut 1 k1).view.read (Elt F) w)
    (e2 : p2 = (slotOut argOut 2 k2).view.read (Elt F) w) (e3 : p3 = (slotOut argOut 3 k3).view.read (Elt F) w) :
    scrOut.view.writes (Elt F) f
      [⟨Rect.unit (s := S2816x1024) ![2112, 0] S704x1024.size h3, p3⟩,
        ⟨Rect.unit (s := S2816x1024) ![1408, 0] S704x1024.size h2, p2⟩,
        ⟨Rect.unit (s := S2816x1024) ![704, 0] S704x1024.size h1, p1⟩,
        ⟨Rect.unit (s := S2816x1024) ![0, 0] S704x1024.size h0, p0⟩] = stacked w := by
  subst e0 e1 e2 e3
  show (rowsOut scrOut 2112 h3).view.write (Elt F) ((rowsOut scrOut 1408 h2).view.write (Elt F)
      ((rowsOut scrOut 704 h1).view.write (Elt F)
      ((rowsOut scrOut 0 h0).view.write (Elt F) f ((slotOut argOut 0 k0).view.read (Elt F) w) Finset.univ)
      ((slotOut argOut 1 k1).view.read (Elt F) w) Finset.univ)
      ((slotOut argOut 2 k2).view.read (Elt F) w) Finset.univ)
      ((slotOut argOut 3 k3).view.read (Elt F) w) Finset.univ = stacked w
  rw [slot_rows w 0 0 k0 h0 rfl, slot_rows w 1 704 k1 h1 rfl, slot_rows w 2 1408 k2 h2 rfl, slot_rows w 3 2112 k3 h3 rfl,
    View.write_read_eq_piecewise, View.write_read_eq_piecewise, View.write_read_eq_piecewise,
    View.write_read_eq_piecewise]
  funext i
  have hi : ((i : S2816x1024.Idx) 0).val < 2816 := ((i : S2816x1024.Idx) 0).isLt
  by_cases c3 : 2112 ≤ ((i : S2816x1024.Idx) 0).val
  · exact Finset.piecewise_eq_of_mem _ _ _ ((mem_rowsOut 2112 h3 i).mpr ⟨c3, by omega⟩)
  refine (Finset.piecewise_eq_of_notMem _ _ _ (fun hh => c3 ((mem_rowsOut 2112 h3 i).mp hh).1)).trans ?_
  by_cases c2 : 1408 ≤ ((i : S2816x1024.Idx) 0).val
  · exact Finset.piecewise_eq_of_mem _ _ _ ((mem_rowsOut 1408 h2 i).mpr ⟨c2, by omega⟩)
  refine (Finset.piecewise_eq_of_notMem _ _ _ (fun hh => c2 ((mem_rowsOut 1408 h2 i).mp hh).1)).trans ?_
  by_cases c1 : 704 ≤ ((i : S2816x1024.Idx) 0).val
  · exact Finset.piecewise_eq_of_mem _ _ _ ((mem_rowsOut 704 h1 i).mpr ⟨c1, by omega⟩)
  refine (Finset.piecewise_eq_of_notMem _ _ _ (fun hh => c1 ((mem_rowsOut 704 h1 i).mp hh).1)).trans ?_
  exact Finset.piecewise_eq_of_mem _ _ _ ((mem_rowsOut 0 h0 i).mpr ⟨by omega, by omega⟩)

end Cert.Kernel4Ideal.Feed
-- ==== Proof.FeedBodyIdeal.lean ====
/-
One point of the feed-forward kernel, run: what it leaves in its two output blocks as a function of the token block, the
gain and the weights, at the point that loads the weights and at those that find them loaded.
-/
module

public import proofs.«01_k».proof.Proof.FeedLoadIdeal

@[expose] public section

set_option maxRecDepth 16384

noncomputable section

namespace Cert.Kernel4Ideal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Cert.Kernel4Ideal.Gen

variable {F : FTy → Type} [FloatOps F]

local notation "𝕄" => MT nD τ sig Unit (Elt F) ℕ (Pipeline.UD sig nD τ) ℕ

/-- Slot `s` of the gate and up weights. -/
def slab (w : Vec F S4x1024x1408 .bf16) (s : Fin 4) : Vec F S1x1024x1408 .bf16 := fun j =>
  w (ix3 s (⟨(j 1).val, (j 1).isLt⟩ : Fin 1024) (⟨(j 2).val, (j 2).isLt⟩ : Fin 1408))

/-- Half `s` of the stacked down weights. -/
def half (w : Vec F S2816x1024 .bf16) (s : Fin 2) : Vec F S1408x1024 .bf16 := fun j =>
  w (ix2 (⟨1408 * s.val + (j 0).val, by have h : (j 0).val < 1408 := (j 0).isLt; have := s.isLt; omega⟩ : Fin 2816)
    (⟨(j 1).val, (j 1).isLt⟩ : Fin 1024))

/-- The token block a point leaves. -/
def tokensOut (x : Vec F S512x1024 .f32) (g : Vec F S1x1024 .f32) (wi : Vec F S4x1024x1408 .bf16)
    (wo : Vec F S2816x1024 .bf16) : Vec F S512x1024 .f32 :=
  k0_pay1 x (k0_pay13 (k0_pay2 x g) (k0_pay3 (F := F)) (k0_pay4 x g (slab wi 0)) (k0_pay5 x g (slab wi 2))
    (k0_pay8 x g (slab wi 0)) (half wo 0) (slab wi 1) (slab wi 3) (half wo 1)) (k0_pay14 (F := F))

/-- Four blocks of 1408 columns side by side. -/
def bands (a b c d : Vec F S512x1408 .bf16) : Vec F S512x5632 .bf16 := fun y =>
  let r : Fin 512 := ⟨(y 0).val, (y 0).isLt⟩
  let q : Fin 1408 := ⟨(y 1).val % 1408, Nat.mod_lt _ (by omega)⟩
  if (y 1).val < 1408 then a (ix2 r q) else if (y 1).val < 2816 then b (ix2 r q)
  else if (y 1).val < 4224 then c (ix2 r q) else d (ix2 r q)

/-- The saved pre-activations a point leaves: the gate's two halves, then the up's. -/
def savedOut (x : Vec F S512x1024 .f32) (g : Vec F S1x1024 .f32) (wi : Vec F S4x1024x1408 .bf16) :
    Vec F S512x5632 .bf16 :=
  bands (k0_pay6 x g (slab wi 0)) (k0_pay11 (k0_pay2 x g) (slab wi 1)) (k0_pay7 x g (slab wi 2))
    (k0_pay12 (k0_pay2 x g) (slab wi 3))

/-- A block of 512 rows and 1408 columns at column `o`. -/
abbrev band (o : ℕ) (h : ∀ a, (![0, o] : Fin 2 → ℕ) a + S512x1408.size a ≤ S512x5632.size a) : Rect S512x5632 :=
  Rect.unit (s := S512x5632) ![0, o] S512x1408.size h

theorem mem_band (o : ℕ) (h) (y : S512x5632.Idx) (hy : o ≤ (y 1).val ∧ (y 1).val < o + 1408) : y ∈ (band o h).set := by
  rw [Rect.mem_set_unit]
  intro a
  match a with
  | 0 => exact ⟨Nat.zero_le _, by show (y 0).val < 0 + 512; exact (Nat.zero_add 512).symm ▸ (y 0).isLt⟩
  | 1 => exact hy

/-- The four stores of the saved block, read back. -/
theorem bands_read (v : View sig .tc .vmem S512x5632 .bf16) (f : v.ty.Contents (Elt F)) (a b c d : Vec F S512x1408 .bf16)
    (h0 h1 h2 h3) :
    v.read (Elt F) (v.writes (Elt F) f [⟨band 4224 h3, d⟩, ⟨band 1408 h1, b⟩, ⟨band 2816 h2, c⟩, ⟨band 0 h0, a⟩])
      = bands a b c d := by
  funext y
  have hb : (y 1).val < 5632 := (y 1).isLt
  refine View.read_writes_apply_of_pieces v f (bands a b c d) _ ?_ y ?_
  · intro p hp
    simp only [List.mem_cons, List.not_mem_nil, or_false] at hp
    rcases hp with rfl | rfl | rfl | rfl
    · refine fun (x : S512x1408.Idx) => ?_
      have hx : (x 1).val < 1408 := (x 1).isLt
      have e : ((band 4224 h3).emb x 1).val = 4224 + 1 * (x 1).val := rfl
      refine Eq.trans ?_ ((if_neg (show ¬((band 4224 h3).emb x 1).val < 1408 by omega)).trans ((if_neg (show ¬((band 4224 h3).emb x 1).val < 2816 by omega)).trans (if_neg (show ¬((band 4224 h3).emb x 1).val < 4224 by omega)))).symm
      refine congrArg d (funext fun q => Fin.ext ?_)
      match q with
      | 0 => show (x 0).val = 0 + 1 * (x 0).val; omega
      | 1 => show (x 1).val = (4224 + 1 * (x 1).val) % 1408; omega
    · refine fun (x : S512x1408.Idx) => ?_
      have hx : (x 1).val < 1408 := (x 1).isLt
      have e : ((band 1408 h1).emb x 1).val = 1408 + 1 * (x 1).val := rfl
      refine Eq.trans ?_ ((if_neg (show ¬((band 1408 h1).emb x 1).val < 1408 by omega)).trans (if_pos (show ((band 1408 h1).emb x 1).val < 2816 by omega))).symm
      refine congrArg b (funext fun q => Fin.ext ?_)
      match q with
      | 0 => show (x 0).val = 0 + 1 * (x 0).val; omega
      | 1 => show (x 1).val = (1408 + 1 * (x 1).val) % 1408; omega
    · refine fun (x : S512x1408.Idx) => ?_
      have hx : (x 1).val < 1408 := (x 1).isLt
      have e : ((band 2816 h2).emb x 1).val = 2816 + 1 * (x 1).val := rfl
      refine Eq.trans ?_ ((if_neg (show ¬((band 2816 h2).emb x 1).val < 1408 by omega)).trans ((if_neg (show ¬((band 2816 h2).emb x 1).val < 2816 by omega)).trans (if_pos (show ((band 2816 h2).emb x 1).val < 4224 by omega)))).symm
      refine congrArg c (funext fun q => Fin.ext ?_)
      match q with
      | 0 => show (x 0).val = 0 + 1 * (x 0).val; omega
      | 1 => show (x 1).val = (2816 + 1 * (x 1).val) % 1408; omega
    · refine fun (x : S512x1408.Idx) => ?_
      have hx : (x 1).val < 1408 := (x 1).isLt
      have e : ((band 0 h0).emb x 1).val = 0 + 1 * (x 1).val := rfl
      refine Eq.trans ?_ (if_pos (show ((band 0 h0).emb x 1).val < 1408 by omega)).symm
      refine congrArg a (funext fun q => Fin.ext ?_)
      match q with
      | 0 => show (x 0).val = 0 + 1 * (x 0).val; omega
      | 1 => show (x 1).val = (0 + 1 * (x 1).val) % 1408; omega
  · by_cases c1 : (y 1).val < 1408
    · exact ⟨_, List.mem_cons_of_mem _ (List.mem_cons_of_mem _ (List.mem_cons_of_mem _ List.mem_cons_self)),
        mem_band 0 h0 y ⟨Nat.zero_le _, by omega⟩⟩
    by_cases c2 : (y 1).val < 2816
    · exact ⟨_, List.mem_cons_of_mem _ List.mem_cons_self, mem_band 1408 h1 y ⟨by omega, by omega⟩⟩
    by_cases c3 : (y 1).val < 4224
    · exact ⟨_, List.mem_cons_of_mem _ (List.mem_cons_of_mem _ List.mem_cons_self), mem_band 2816 h2 y ⟨by omega, by omega⟩⟩
    · exact ⟨_, List.mem_cons_self, mem_band 4224 h3 y ⟨by omega, by omega⟩⟩

/-- A load of a slot of the first scratch. -/
theorem slab_load (w : Vec F S4x1024x1408 .bf16) (s : ℕ) (hs : s < 4) (h) :
    View.readAt (Elt F) scrIn.view (Rect.unit (s := S4x1024x1408) ![s, 0, 0] S1x1024x1408.size h).toLoadRect w
      = slab w ⟨s, hs⟩ := by
  refine funext fun (j : S1x1024x1408.Idx) => ?_
  have h0 : (j 0).val < 1 := (j 0).isLt
  show w _ = w _
  refine congrArg w (funext fun q => Fin.ext ?_)
  match q with
  | 0 => show s + 1 * (j 0).val = s; omega
  | 1 => show 0 + 1 * (j 1).val = (j 1).val; omega
  | 2 => show 0 + 1 * (j 2).val = (j 2).val; omega

/-- A load of a half of the second scratch. -/
theorem half_load (w : Vec F S2816x1024 .bf16) (s o : ℕ) (hs : s < 2) (ho : o = 1408 * s) (h) :
    View.readAt (Elt F) scrOut.view (Rect.unit (s := S2816x1024) ![o, 0] S1408x1024.size h).toLoadRect w
      = half w ⟨s, hs⟩ := by
  subst ho
  refine funext fun (j : S1408x1024.Idx) => ?_
  show w _ = w _
  refine congrArg w (funext fun q => Fin.ext ?_)
  match q with
  | 0 => show 1408 * s + 1 * (j 0).val = 1408 * s + (j 0).val; omega
  | 1 => show 0 + 1 * (j 1).val = (j 1).val; omega

/-- A point's token block, as the body's loads spell it. -/
theorem tokens_loaded (x x' : Vec F S512x1024 .f32) (g g' : Vec F S1x1024 .f32) (wi : Vec F S4x1024x1408 .bf16)
    (wo : Vec F S2816x1024 .bf16) (h0 h1 h2 h3 k0 k1) (ex : x' = x) (eg : g' = g) :
    let s0 := View.readAt (Elt F) scrIn.view (Rect.unit (s := S4x1024x1408) ![0, 0, 0] S1x1024x1408.size h0).toLoadRect wi
    let s1 := View.readAt (Elt F) scrIn.view (Rect.unit (s := S4x1024x1408) ![1, 0, 0] S1x1024x1408.size h1).toLoadRect wi
    let s2 := View.readAt (Elt F) scrIn.view (Rect.unit (s := S4x1024x1408) ![2, 0, 0] S1x1024x1408.size h2).toLoadRect wi
    let s3 := View.readAt (Elt F) scrIn.view (Rect.unit (s := S4x1024x1408) ![3, 0, 0] S1x1024x1408.size h3).toLoadRect wi
    let t0 := View.readAt (Elt F) scrOut.view (Rect.unit (s := S2816x1024) ![0, 0] S1408x1024.size k0).toLoadRect wo
    let t1 := View.readAt (Elt F) scrOut.view (Rect.unit (s := S2816x1024) ![1408, 0] S1408x1024.size k1).toLoadRect wo
    k0_pay1 x' (k0_pay13 (k0_pay2 x' g') (k0_pay3 (F := F)) (k0_pay4 x' g' s0) (k0_pay5 x' g' s2) (k0_pay8 x' g' s0) t0 s1 s3
      t1) (k0_pay14 (F := F)) = tokensOut x g wi wo := by
  subst ex eg
  dsimp only
  rw [slab_load wi 0 (by omega), slab_load wi 1 (by omega), slab_load wi 2 (by omega), slab_load wi 3 (by omega),
    half_load wo 0 0 (by omega) rfl, half_load wo 1 1408 (by omega) rfl]
  rfl

/-- A point's saved block, as the body's loads spell it. -/
theorem saved_loaded (x x' : Vec F S512x1024 .f32) (g g' : Vec F S1x1024 .f32) (wi : Vec F S4x1024x1408 .bf16)
    (h0 h1 h2 h3) (ex : x' = x) (eg : g' = g) :
    let s0 := View.readAt (Elt F) scrIn.view (Rect.unit (s := S4x1024x1408) ![0, 0, 0] S1x1024x1408.size h0).toLoadRect wi
    let s1 := View.readAt (Elt F) scrIn.view (Rect.unit (s := S4x1024x1408) ![1, 0, 0] S1x1024x1408.size h1).toLoadRect wi
    let s2 := View.readAt (Elt F) scrIn.view (Rect.unit (s := S4x1024x1408) ![2, 0, 0] S1x1024x1408.size h2).toLoadRect wi
    let s3 := View.readAt (Elt F) scrIn.view (Rect.unit (s := S4x1024x1408) ![3, 0, 0] S1x1024x1408.size h3).toLoadRect wi
    bands (k0_pay6 x' g' s0) (k0_pay11 (k0_pay2 x' g') s1) (k0_pay7 x' g' s2) (k0_pay12 (k0_pay2 x' g') s3)
      = savedOut x g wi := by
  subst ex eg
  dsimp only
  rw [slab_load wi 0 (by omega), slab_load wi 1 (by omega), slab_load wi 2 (by omega), slab_load wi 3 (by omega)]
  rfl

set_option sl_exec.dmaWindow true in
set_option maxHeartbeats 4000000 in
/-- THE BODY at any point: either it loads the weights, or the scratches hold them already. -/
theorem body_run (c : Dev nD) (i : grid0.Coords) (arg1 : Memref sig .tc .vmem S512x1024 .f32) (harg1 : arg1.IsWhole)
    (arg2 : Memref sig .tc .vmem S1x1024 .f32) (harg2 : arg2.IsWhole) (arg5 : Memref sig .tc .vmem S512x1024 .f32)
    (harg5 : arg5.IsWhole) (arg6 : Memref sig .tc .vmem S512x5632 .bf16) (harg6 : arg6.IsWhole)
    (x0 : Vec F S512x1024 .f32) (x1 : Vec F S1x1024 .f32)
    (wi : Vec F S4x1024x1408 .bf16) (wo : Vec F S4x704x1024 .bf16)
    (fi : Vec F S4x1024x1408 .bf16) (fo : Vec F S2816x1024 .bf16)
    (hs : Loads i ∨ (fi = wi ∧ fo = stacked wo)) (W : Waits sig Unit) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d)
        ∗ held c scrIn fi ∗ held c scrOut fo ∗ countersZero c ∗ held c argIn wi ∗ held c argOut wo
        ∗ owes (c : Thread nD τ) 0 W
        ∗ (owns (c : Thread nD τ) arg1 fullShare x0 ∗ owns (c : Thread nD τ) arg2 fullShare x1
            ∗ owns (c : Thread nD τ) arg5 fullShare (tokensOut x0 x1 wi (stacked wo))
            ∗ owns (c : Thread nD τ) arg6 fullShare (savedOut x0 x1 wi)
            ∗ held c scrIn wi ∗ held c scrOut (stacked wo) ∗ countersZero c ∗ held c argIn wi ∗ held c argOut wo
            ∗ (∃ W', owes (c : Thread nD τ) 0 W') -∗ K ⟨⟩))
      ⊢ wp frame (wpE (defs₀ (F := F)) Variants.none c none) Set.univ (cc0_ffn_fwd i arg1 harg1 arg2 harg2
          (Memref.whole main_arg2) (Memref.isWhole_whole _) (Memref.whole main_arg3) (Memref.isWhole_whole _) arg5 harg5
          arg6 harg6 scrIn (Memref.isWhole_whole _) scrOut (Memref.isWhole_whole _) cc0_scratch2) K := by
  simp only [cc0_ffn_fwd_eq_skeleton]; unfold cc0_ffn_fwd_skel
  simp only [k0_part4_eq_skeleton, k0_part1_eq_skeleton, k0_part2_eq_skeleton, k0_part3_eq_skeleton, k0_part5_eq_skeleton]
  unfold k0_part4_skel
  simp only [k0_part1_eq_skeleton, k0_part2_eq_skeleton, k0_part3_eq_skeleton]; unfold owns
  iintro ⟨⟨%f0, %hf0, H0⟩, ⟨%f1, %hf1, H1⟩, ⟨%d2, %f2, -, H2⟩, ⟨%d3, %f3, -, H3⟩, HS0, HS1, ⟨Hq0, Hq1, Hq2, Hq3, Hq4, Hq5, Hq6, Hq7⟩, Hh0, Hh1, HW, Hk⟩
  obtain rfl := harg1.eq_unread hf0; obtain rfl := harg2.eq_unread hf1
  have e0 : View.readAt (Elt F) arg1.view (Rect.unit (s := S512x1024) ![0, 0] S512x1024.size inb_S512x1024_S512x1024_0_0).toLoadRect
      (harg1.unread x0) = x0 := (View.readAt_full _ _ _).trans (harg1.read_unread _)
  have e1 : View.readAt (Elt F) arg2.view (Rect.unit (s := S1x1024) ![0, 0] S1x1024.size inb_S1x1024_S1x1024_0_0).toLoadRect
      (harg2.unread x1) = x1 := (View.readAt_full _ _ _).trans (harg2.read_unread _)
  by_cases hc0 : Loads i
  · (set_option sl_exec.maxSteps 42 in sl_exec (disch := first | sl_exact hc0))
    ihave HS0' := (Entails.of_eq (congrArg (held (F := F) c scrIn) (loaded_in fi wi
      inb_S4x1024x1408_S1x1024x1408_0_0_0 inb_S4x1024x1408_S1x1024x1408_1_0_0 inb_S4x1024x1408_S1x1024x1408_2_0_0
      inb_S4x1024x1408_S1x1024x1408_3_0_0 (body_run.sl.dma0 wi) (body_run.sl.dma0_1 wi) (body_run.sl.dma0_2 wi)
      (body_run.sl.dma0_3 wi) rfl rfl rfl rfl))) $$ HS0
    ihave HS1' := (Entails.of_eq (congrArg (held (F := F) c scrOut) (loaded_out fo wo
      inb_S2816x1024_S704x1024_0_0 inb_S2816x1024_S704x1024_704_0 inb_S2816x1024_S704x1024_1408_0
      inb_S2816x1024_S704x1024_2112_0 inb_S4x704x1024_S1x704x1024_0_0_0 inb_S4x704x1024_S1x704x1024_1_0_0
      inb_S4x704x1024_S1x704x1024_2_0_0 inb_S4x704x1024_S1x704x1024_3_0_0 (body_run.sl.dma0_4 wo) (body_run.sl.dma0_5 wo)
      (body_run.sl.dma0_6 wo) (body_run.sl.dma0_7 wo) rfl rfl rfl rfl))) $$ HS1
    sl_exec
    sl_step
    iapply Hk
    isplitl [H0]
    · iexists _; isplitr
      swap; · iexact H0
      ipureintro; exact harg1.read_unread _
    isplitl [H1]
    · iexists _; isplitr
      swap; · iexact H1
      ipureintro; exact harg2.read_unread _
    isplitl [H2]
    · iexists _; isplitr
      swap; · iexact H2
      ipureintro
      refine (View.read_writes_full _ _ _ _ _).trans ?_
      first
        | exact tokens_loaded _ _ _ _ _ _ _ _ _ _ _ _ rfl rfl
        | exact tokens_loaded _ _ _ _ _ _ _ _ _ _ _ _ e0 e1
    isplitl [H3]
    · iexists _; isplitr
      swap; · iexact H3
      ipureintro
      refine (bands_read _ _ _ _ _ _ _ _ _ _).trans ?_
      first
        | exact saved_loaded _ _ _ _ _ _ _ _ _ rfl rfl
        | exact saved_loaded _ _ _ _ _ _ _ _ _ e0 e1
    isplitl [HS0']; · iexact HS0'
    isplitl [HS1']; · iexact HS1'
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    iexists _; iexact HW
  · obtain ⟨rfl, rfl⟩ := hs.resolve_left hc0
    sl_exec (disch := first | sl_exact hc0)
    sl_step
    iapply Hk
    isplitl [H0]
    · iexists _; isplitr
      swap; · iexact H0
      ipureintro; exact harg1.read_unread _
    isplitl [H1]
    · iexists _; isplitr
      swap; · iexact H1
      ipureintro; exact harg2.read_unread _
    isplitl [H2]
    · iexists _; isplitr
      swap; · iexact H2
      ipureintro
      refine (View.read_writes_full _ _ _ _ _).trans ?_
      first
        | exact tokens_loaded _ _ _ _ _ _ _ _ _ _ _ _ rfl rfl
        | exact tokens_loaded _ _ _ _ _ _ _ _ _ _ _ _ e0 e1
    isplitl [H3]
    · iexists _; isplitr
      swap; · iexact H3
      ipureintro
      refine (bands_read _ _ _ _ _ _ _ _ _ _).trans ?_
      first
        | exact saved_loaded _ _ _ _ _ _ _ _ _ rfl rfl
        | exact saved_loaded _ _ _ _ _ _ _ _ _ e0 e1
    isplitl [HS0]; · iexact HS0
    isplitl [HS1]; · iexact HS1
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    iexists _; iexact HW

end Cert.Kernel4Ideal.Feed
-- ==== Proof.FeedFrameIdeal.lean ====
/-
The feed-forward kernel over its sixteen points: what the two output arrays end at, every argument unchanged and every
counter back at zero, at every final state.
-/
module

public import proofs.«01_k».proof.Proof.FeedBodyIdeal
public import proofs.«01_k».proof.Proof.Gen.Kernel4Ideal.Launch
public import proofs.«01_k».proof.Proof.Gen.Kernel4Ideal.Points
public import Idealize.ShloMosaic.Lib.Pipeline.FrameBody
public import Idealize.ShloMosaic.Lib.Claim

@[expose] public section

set_option maxRecDepth 16384

noncomputable section

namespace Cert.Kernel4Ideal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights as the region finds them, the down weights stacked. -/
abbrev weightsIn (c : Dev nD) : Vec F S4x1024x1408 .bf16 := V m c main_arg2
abbrev weightsOut (c : Dev nD) : Vec F S4x704x1024 .bf16 := V m c main_arg3

/-- Between points: the weights are in the scratches, the counters at zero, the weight arrays untouched. -/
def warm (c : Dev nD) : sProp 𝕄 :=
  iprop(iprop(held c scrIn (weightsIn m c) ∗ held c scrOut (stacked (weightsOut m c))) ∗ (∃ r, prngReg c r)
    ∗ countersZero c ∗ iprop(held c argIn (weightsIn m c) ∗ held c argOut (weightsOut m c)))

/-- The invariant before point `n`: what the launch hands over at the first, the weights loaded afterwards. -/
def carry (c : Dev nD) : ℕ → sProp 𝕄
  | 0 => Pipeline.ΦD counter spec0 weightRefs (V m) c
  | _ + 1 => warm m c

theorem carry_pos (c : Dev nD) (n : ℕ) (hn : n ≠ 0) : carry m c n = warm m c := by
  cases n with
  | zero => exact absurd rfl hn
  | succ n => rfl

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => tokensOut (iblk m c 0 t) (iblk m c 1 t) (weightsIn m c) (stacked (weightsOut m c))
    | ⟨3, _⟩ => savedOut (iblk m c 0 t) (iblk m c 1 t) (weightsIn m c)
  Φ t := carry m c t.val
  q _ := fullShare
  owed _ := 0

theorem A_eq (c : Dev nD) (w : Fin cfg0.W) : (dats m 0 c).A w = V m c (Pipeline.arrRef spec0 w) := by dsimp only [dats]

theorem after_x (c : Dev nD) (t : Fin cfg0.N) : (dats m 0 c).after 0 t = iblk m c 0 t := by dsimp only [dats]
theorem after_gain (c : Dev nD) (t : Fin cfg0.N) : (dats m 0 c).after 1 t = iblk m c 1 t := by dsimp only [dats]
theorem after_tokens (c : Dev nD) (t : Fin cfg0.N) : (dats m 0 c).after 2 t
    = tokensOut (iblk m c 0 t) (iblk m c 1 t) (weightsIn m c) (stacked (weightsOut m c)) := by dsimp only [dats]
theorem after_saved (c : Dev nD) (t : Fin cfg0.N) : (dats m 0 c).after 3 t
    = savedOut (iblk m c 0 t) (iblk m c 1 t) (weightsIn m c) := by dsimp only [dats]

/-- What a point is handed, window by window, and what it returns. -/
def before (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

def afterwards (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- The body with the scratches at given contents, in the form a point hands them over. -/
theorem point_at (c : Dev nD) (t : Fin cfg0.N) (fi : Vec F S4x1024x1408 .bf16) (fo : Vec F S2816x1024 .bf16)
    (hs : Loads (grid0.coords t) ∨ (fi = weightsIn m c ∧ fo = stacked (weightsOut m c))) :
    iprop(iprop(iprop(held c scrIn fi ∗ held c scrOut fo) ∗ (∃ r, prngReg c r)
        ∗ countersZero c ∗ iprop(held c argIn (weightsIn m c) ∗ held c argOut (weightsOut m c)))
      ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d)))
      ⊢ wp frame (wpE (defs₀ (F := F)) Variants.none c none) Set.univ (bodyAt0 t) (fun _ => afterwards m c t) := by
  unfold afterwards bodyAt0
  simp only [staged_x m (dats m 0 c) (A_eq m c 0) (after_x m c), staged_gain m (dats m 0 c) (A_eq m c 1) (after_gain m c)]
  rw [show (dats m 0 c).Φ t.succ = warm m c from rfl, after_x, after_gain, after_tokens, after_saved]
  unfold Dat.owesAt Pipeline.owesWithin
  rw [show (dats m 0 c).owed t.castSucc = 0 from rfl, show (dats m 0 c).owed t.succ = 0 from rfl]
  iintro ⟨⟨⟨HS0, HS1⟩, Hg, Hq, ⟨Hh0, Hh1⟩⟩, ⟨%W, -, HW⟩, ⟨%d0, H0⟩, ⟨%d1, H1⟩, ⟨%d2, H2⟩, ⟨%d3, H3⟩⟩
  iapply (body_run c (grid0.coords t) _ _ _ _ _ _ _ _ (iblk m c 0 t) (iblk m c 1 t) (weightsIn m c) (weightsOut m c) fi fo hs W _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [Hq]; · iexact Hq
  isplitl [Hh0]; · iexact Hh0
  isplitl [Hh1]; · iexact Hh1
  isplitl [HW]; · iexact HW
  iintro ⟨H0, H1, H2, H3, HS0, HS1, Hq, Hh0, Hh1, ⟨%W', HW'⟩⟩
  isplitl [HS0 HS1 Hg Hq Hh0 Hh1]
  · unfold warm
    isplitl [HS0 HS1]
    · isplitl [HS0]; · iexact HS0
      iexact HS1
    isplitl [Hg]; · iexact Hg
    isplitl [Hq]; · iexact Hq
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  iexact H3

/-- Every point: the first loads the weights over whatever the scratches hold, the others find them. -/
theorem point (c : Dev nD) (t : Fin cfg0.N) :
    before m c t ⊢ wp frame (wpE (defs₀ (F := F)) Variants.none c none) Set.univ (bodyAt0 t) (fun _ => afterwards m c t) := by
  unfold before
  by_cases hz : t.val = 0
  · rw [show (dats m 0 c).Φ t.castSucc = Pipeline.ΦD counter spec0 weightRefs (V m) c from by
      show carry m c t.val = _; rw [hz]; rfl, entry_eq]
    iintro ⟨⟨⟨⟨%di, HS0⟩, ⟨%do', HS1⟩⟩, Hrest⟩, Hw⟩
    iapply (point_at m c t di do' (Or.inl ((loads_iff t).mpr hz)))
    isplitr [Hw]
    swap; · iexact Hw
    isplitl [HS0 HS1]
    · isplitl [HS0]; · iexact HS0
      iexact HS1
    iexact Hrest
  · rw [show (dats m 0 c).Φ t.castSucc = warm m c from carry_pos m c t.val hz]
    exact point_at m c t _ _ (Or.inr ⟨rfl, rfl⟩)

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

/-- At the end the scratches' contents are forgotten. -/
theorem leave (c : Dev nD) : (dats m 0 c).Φ (Fin.last cfg0.N) ⊢ Pipeline.ΦD counter spec0 weightRefs (V m) c := by
  rw [show (dats m 0 c).Φ (Fin.last cfg0.N) = warm m c from
    carry_pos m c (Fin.last cfg0.N).val (by rw [Fin.val_last]; have : cfg0.N = 16 := N_0; omega), entry_eq]
  unfold warm
  iintro ⟨⟨HS0, HS1⟩, Hrest⟩
  isplitl [HS0 HS1]
  · isplitl [HS0]
    · iexists _; iexact HS0
    iexists _; iexact HS1
  iexact Hrest

set_option backward.isDefEq.respectTransparency.types false in
/-- THE RUN: the arrays end as the proof data says, the counters at zero. -/
theorem run : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 counter defs₀ Variants.none counter_facts weightRefs
    weightRefs_sub m ρ main (hbody := fun c => (obligation m c).loose) (hshare := fun c => (dats m 0 c).share_full fun _ => rfl)
    (howed := fun _ _ => rfl) (V := V m) (hmain := enters m Variants.none) (hA := A_eq m)
    (hin := fun c => Idealize.SL.BI.Entails.refl _) (hout := leave m)

/-- THE FRAME: the arguments unchanged and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨arguments_kept m (dats m) (A_eq m) r h.1, h.2⟩) (run m ρ)

end Cert.Kernel4Ideal.Feed
-- ==== Proof.FeedValueIdeal.lean ====
/-
What the feed-forward kernel's output arrays hold over the extended reals: the residual plus half the down product of the
gated hidden row, and the hidden row's pre-activations.
-/
module

public import proofs.«01_k».proof.Proof.FeedFrameIdeal
public import Idealize.ShloMosaic.Lib.Pointwise
public import Idealize.ShloMosaic.Lib.StableHlo.RunRead
public import Idealize.ShloMosaic.Lib.Pipeline.ValueKit

@[expose] public section

set_option maxRecDepth 16384

noncomputable section

namespace Cert.Kernel4Ideal.Feed

open Idealize.ShloMosaic Idealize.ShloMosaic.TcCoe Idealize.ShloMosaic.Tactic
open Idealize.ShloMosaic.Pipeline (Dat)
open Idealize.ShloMosaic.Pointwise
open Cert.Kernel4Ideal.Gen

/-- The three constants of the body: one half, the row's length and the norm's offset. -/
abbrev oneHalf : EReal := Ideal.ofBits .f32 0x3F000000#32
abbrev rowLength : EReal := Ideal.ofBits .f32 0x44800000#32
abbrev offset : EReal := Ideal.ofBits .f32 0x358637BD#32

/-- A token's row, divided by its root mean square and scaled by the gain. -/
def normed (x g : Fin 1024 → EReal) (k : Fin 1024) : EReal :=
  x k * Ideal.rsqrt (Ideal.div (∑ q : Fin 1024, x q * x q) rowLength + offset) * g k

/-- One pre-activation: the normalised row against a column of the weight. -/
def pre (x g w : Fin 1024 → EReal) : EReal := ∑ k : Fin 1024, normed x g k * w k

/-- The gated hidden value as the problem writes it. -/
def gated (a b : EReal) : EReal := a * Ideal.div 1 (1 + Ideal.exp (-a)) * b

theorem oneHalf_eq : oneHalf = ((1 / 2 : ℝ) : EReal) := by
  simp only [oneHalf, Ideal.ofBits, Ideal.ieee]
  refine (?_ : _ = ((8388608 * (1 / 16777216) : ℝ) : EReal)).trans (congrArg _ (by norm_num))
  rw [EReal.coe_mul]
  simp
  norm_num

/-- The logistic through the hyperbolic tangent, at every extended real. -/
theorem logistic_tanh (a : EReal) : oneHalf * Ideal.tanh (oneHalf * a) + oneHalf = Ideal.div 1 (1 + Ideal.exp (-a)) := by
  rw [oneHalf_eq]
  induction a with
  | bot =>
    rw [EReal.coe_mul_bot_of_pos (by norm_num)]
    show ((1 / 2 : ℝ) : EReal) * (((-1 : ℝ)) : EReal) + _ = Ideal.div 1 (((1 : ℝ) : EReal) + ⊤)
    rw [← EReal.coe_mul, ← EReal.coe_add, EReal.coe_add_top, Ideal.div, if_neg (by simp), EReal.inv_top, mul_zero]
    exact congrArg _ (by norm_num : (1 / 2 * -1 + 1 / 2 : ℝ) = 0)
  | top =>
    rw [EReal.coe_mul_top_of_pos (by norm_num)]
    show ((1 / 2 : ℝ) : EReal) * ((1 : ℝ) : EReal) + _ = Ideal.div 1 (1 + 0)
    rw [← EReal.coe_mul, ← EReal.coe_add, add_zero, Ideal.div, if_neg one_ne_zero]
    refine (congrArg _ (by norm_num : (1 / 2 * 1 + 1 / 2 : ℝ) = 1)).trans ?_
    show (1 : EReal) = 1 * ((1 : ℝ) : EReal)⁻¹
    rw [← EReal.coe_inv, inv_one, one_mul]; rfl
  | coe r =>
    rw [← EReal.coe_mul]
    show ((1 / 2 : ℝ) : EReal) * ((Real.tanh (1 / 2 * r) : ℝ) : EReal) + _
      = Ideal.div ((1 : ℝ) : EReal) (((1 : ℝ) : EReal) + ((Real.exp (-r) : ℝ) : EReal))
    have hp : (1 + Real.exp (-r) : ℝ) ≠ 0 := by positivity
    rw [← EReal.coe_mul, ← EReal.coe_add, ← EReal.coe_add, Ideal.div, if_neg (by exact_mod_cast hp), ← EReal.coe_inv, ← EReal.coe_mul]
    refine congrArg _ ?_
    have e : Real.exp (-r) = Real.exp (-(1 / 2 * r)) / Real.exp (1 / 2 * r) := by
      rw [← Real.exp_sub]; congr 1; ring
    rw [Real.tanh_eq_sinh_div_cosh, Real.sinh_eq, Real.cosh_eq, e]
    have h1 := Real.exp_pos (1 / 2 * r)
    have h2 := Real.exp_pos (-(1 / 2 * r))
    field_simp
    ring

theorem normed_apply (x : Vec Ideal S512x1024 .f32) (g : Vec Ideal S1x1024 .f32) (r : Fin 512) (k : Fin 1024) :
    k0_pay2 (F := Ideal) x g (ix2 r k) = normed (fun q => x (ix2 r q)) (fun q => g (ix2 0 q)) k := by
  pointwise [k0_pay2, normed]

theorem slab_apply (w : Vec Ideal S4x1024x1408 .bf16) (s : Fin 4) (k : Fin 1024) (q : Fin 1408) :
    slab w s (ix3 0 k q) = w (ix3 s k q) := rfl

theorem half_apply (w : Vec Ideal S2816x1024 .bf16) (s : Fin 2) (k : Fin 1408) (j : Fin 1024) :
    half w s (ix2 k j) = w (ix2 ⟨1408 * s.val + k.val, by omega⟩ j) := rfl

theorem tail_apply (x : Vec Ideal S512x1024 .f32) (g : Vec Ideal S1x1024 .f32) (w : Vec Ideal S4x1024x1408 .bf16) (s : Fin 4)
    (r : Fin 512) (q : Fin 1408) :
    k0_pay9 (F := Ideal) (k0_pay2 (F := Ideal) x g) (slab w s) (ix2 r q)
      = pre (fun k => x (ix2 r k)) (fun k => g (ix2 0 k)) (fun k => w (ix3 s k q)) := by
  pointwise [k0_pay9]
  exact Finset.sum_congr rfl fun k _ => by rw [normed_apply, slab_apply]

/-- The four products are one operation. -/
theorem gate_eq (x : Vec Ideal S512x1024 .f32) (g : Vec Ideal S1x1024 .f32) (w : Vec Ideal S1x1024x1408 .bf16) :
    k0_pay4 (F := Ideal) x g w = k0_pay9 (F := Ideal) (k0_pay2 (F := Ideal) x g) w := rfl
theorem up_eq (x : Vec Ideal S512x1024 .f32) (g : Vec Ideal S1x1024 .f32) (w : Vec Ideal S1x1024x1408 .bf16) :
    k0_pay5 (F := Ideal) x g w = k0_pay9 (F := Ideal) (k0_pay2 (F := Ideal) x g) w := rfl
theorem up_tail_eq (v : FVec Ideal S512x1024 .bf16) (w : Vec Ideal S1x1024x1408 .bf16) :
    k0_pay10 (F := Ideal) v w = k0_pay9 (F := Ideal) v w := rfl

/-- A block's row `r` and slot `s`, column `q`. -/
abbrev preAt (x : Vec Ideal S512x1024 .f32) (g : Vec Ideal S1x1024 .f32) (w : Vec Ideal S4x1024x1408 .bf16) (r : Fin 512)
    (s : Fin 4) (q : Fin 1408) : EReal := pre (fun k => x (ix2 r k)) (fun k => g (ix2 0 k)) (fun k => w (ix3 s k q))

theorem tokensOut_apply (x : Vec Ideal S512x1024 .f32) (g : Vec Ideal S1x1024 .f32) (wi : Vec Ideal S4x1024x1408 .bf16)
    (wo : Vec Ideal S2816x1024 .bf16) (r : Fin 512) (j : Fin 1024) :
    tokensOut x g wi wo (ix2 r j) = x (ix2 r j) + oneHalf *
      ((∑ k : Fin 1408, gated (preAt x g wi r 0 k) (preAt x g wi r 2 k) * wo (ix2 ⟨k.val, by omega⟩ j))
      + ∑ k : Fin 1408, gated (preAt x g wi r 1 k) (preAt x g wi r 3 k) * wo (ix2 ⟨1408 + k.val, by omega⟩ j)) := by
  rw [tokensOut, gate_eq, up_eq]
  pointwise [k0_pay1, k0_pay13, k0_pay14, k0_pay3, k0_pay8]
  refine congrArg (x (ix2 r j) + oneHalf * ·) (congrArg₂ (· + ·) (Finset.sum_congr rfl fun k _ => ?_) (Finset.sum_congr rfl fun k _ => ?_))
  · rw [gate_eq, tail_apply, tail_apply, logistic_tanh, half_apply]
    refine congrArg (gated _ _ * wo ·) (congrArg (ix2 · j) (Fin.ext ?_))
    show 1408 * 0 + k.val = k.val
    omega
  · rw [up_tail_eq, tail_apply, tail_apply, logistic_tanh, half_apply]
    rfl

theorem savedOut_apply (x : Vec Ideal S512x1024 .f32) (g : Vec Ideal S1x1024 .f32) (wi : Vec Ideal S4x1024x1408 .bf16)
    (r : Fin 512) (j : Fin 5632) :
    savedOut x g wi (ix2 r j) = preAt x g wi r ⟨j.val / 1408, by omega⟩ ⟨j.val % 1408, Nat.mod_lt _ (by omega)⟩ := by
  have hj := j.isLt
  have e : ∀ (s : Fin 4), s.val = j.val / 1408 → preAt x g wi r s ⟨j.val % 1408, Nat.mod_lt _ (by omega)⟩
      = preAt x g wi r ⟨j.val / 1408, by omega⟩ ⟨j.val % 1408, Nat.mod_lt _ (by omega)⟩ := fun s hs => by
    rw [show s = ⟨j.val / 1408, by omega⟩ from Fin.ext hs]
  have p : ∀ (s : Fin 4) (q : Fin 1408), k0_pay9 (F := Ideal) (k0_pay2 (F := Ideal) x g) (slab wi s) (ix2 r q) = preAt x g wi r s q :=
    fun s q => tail_apply x g wi s r q
  by_cases h1 : j.val < 1408
  · exact (if_pos h1).trans ((p 0 _).trans (e 0 (by show 0 = _; omega)))
  · by_cases h2 : j.val < 2816
    · exact (if_neg h1).trans ((if_pos h2).trans ((p 1 _).trans (e 1 (by show 1 = _; omega))))
    · by_cases h3 : j.val < 4224
      · exact (if_neg h1).trans ((if_neg h2).trans ((if_pos h3).trans ((p 2 _).trans (e 2 (by show 2 = _; omega)))))
      · exact (if_neg h1).trans ((if_neg h2).trans ((if_neg h3).trans ((p 3 _).trans (e 3 (by show 3 = _; omega)))))

variable (m : (ℓ : Loc nD τ sig) → Buf (Elt Ideal) ℓ) (c : Dev nD)

/-- The four arguments, as launched. -/
abbrev argX : Vec Ideal S8192x1024 .f32 := m ((c.tc : Thread nD τ).loc main_arg0)
abbrev argG : Vec Ideal S1024 .f32 := m ((c.tc : Thread nD τ).loc main_arg1)
abbrev argWi : Vec Ideal S4x1024x1408 .bf16 := m ((c.tc : Thread nD τ).loc main_arg2)
abbrev argWo : Vec Ideal S4x704x1024 .bf16 := m ((c.tc : Thread nD τ).loc main_arg3)

theorem index_at : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem row_lt (t : Fin cfg0.N) (r : Fin 512) : 512 * t.val + r.val < 8192 := by
  have : t.val < 16 := t.isLt
  omega

theorem block_x (t : Fin cfg0.N) (r : Fin 512) (k : Fin 1024) :
    iblk m c 0 t (ix2 r k) = argX m c (ix2 ⟨512 * t.val + r.val, row_lt t r⟩ k) := by
  blk_ext [iblk, V, (index_at t).1]

theorem gain_row : V m c main_v0 = broadcastInDim S1x1024 ![1] bcast_S1024_S1x1024_1 (argG m c) := by
  after_reads_simp
  try rfl

theorem block_gain (t : Fin cfg0.N) (k : Fin 1024) :
    iblk m c 1 t (ix2 0 k) = argG m c (ix1 k) := by
  have e : iblk m c 1 t (ix2 0 k) = V m c main_v0 (ix2 0 k) := by
    blk_ext [iblk, (index_at t).2.1]
  rw [e, gain_row]
  pointwise []

/-- The pre-activations of token `n`, slot `s` and column `q` of the slot. -/
def hiddenAt (x : Vec Ideal S8192x1024 .f32) (g : Vec Ideal S1024 .f32) (w : Vec Ideal S4x1024x1408 .bf16) (n : Fin 8192)
    (s : Fin 4) (q : Fin 1408) : EReal := pre (fun k => x (ix2 n k)) (fun k => g (ix1 k)) (fun k => w (ix3 s k q))

/-- The saved pre-activations, slot by slot along the columns. -/
def savedArr (x : Vec Ideal S8192x1024 .f32) (g : Vec Ideal S1024 .f32) (w : Vec Ideal S4x1024x1408 .bf16) :
    Vec Ideal S8192x5632 .bf16 := fun i =>
  hiddenAt x g w ⟨(i 0).val, (i 0).isLt⟩ ⟨(i 1).val / 1408, by have h : (i 1).val < 5632 := (i 1).isLt; omega⟩
    ⟨(i 1).val % 1408, Nat.mod_lt _ (by omega)⟩

/-- The gated hidden value of token `n` at feature `k`. -/
def activity (x : Vec Ideal S8192x1024 .f32) (g : Vec Ideal S1024 .f32) (w : Vec Ideal S4x1024x1408 .bf16) (n : Fin 8192)
    (k : Fin 2816) : EReal :=
  gated (hiddenAt x g w n ⟨k.val / 1408, by omega⟩ ⟨k.val % 1408, Nat.mod_lt _ (by omega)⟩)
    (hiddenAt x g w n ⟨2 + k.val / 1408, by omega⟩ ⟨k.val % 1408, Nat.mod_lt _ (by omega)⟩)

/-- The block's result: the residual plus half the down product of the gated hidden row. -/
def tokensArr (x : Vec Ideal S8192x1024 .f32) (g : Vec Ideal S1024 .f32) (wi : Vec Ideal S4x1024x1408 .bf16)
    (wo : Vec Ideal S4x704x1024 .bf16) : Vec Ideal S8192x1024 .f32 := fun i =>
  x i + oneHalf * ∑ k : Fin 2816, activity x g wi ⟨(i 0).val, (i 0).isLt⟩ k
    * wo (ix3 ⟨k.val / 704, by omega⟩ ⟨k.val % 704, Nat.mod_lt _ (by omega)⟩ ⟨(i 1).val, (i 1).isLt⟩)

theorem preAt_block (t : Fin cfg0.N) (r : Fin 512) (s : Fin 4) (q : Fin 1408) :
    preAt (iblk m c 0 t) (iblk m c 1 t) (weightsIn m c) r s q
      = hiddenAt (argX m c) (argG m c) (argWi m c) ⟨512 * t.val + r.val, row_lt t r⟩ s q := by
  have hw : weightsIn m c = argWi m c := V_main_arg2 m c
  unfold preAt hiddenAt
  rw [hw, show (fun k => iblk m c 0 t (ix2 r k)) = _ from funext fun k => block_x m c t r k,
    show (fun k => iblk m c 1 t (ix2 0 k)) = _ from funext fun k => block_gain m c t k]

/-- The sum over the hidden features, one half of the columns after the other. -/
theorem two_halves (f : Fin 2816 → EReal) :
    (∑ k : Fin 1408, f ⟨k.val, by omega⟩) + ∑ k : Fin 1408, f ⟨1408 + k.val, by omega⟩ = ∑ k : Fin 2816, f k :=
  (Fin.sum_univ_add (a := 1408) (b := 1408) f).symm

theorem array_saved : (dats m 0 c).arrAt 3 cfg0.N = savedArr (argX m c) (argG m c) (argWi m c) := by
  refine (dats m 0 c).arrAt_eq_of_covers 3 (savedArr (argX m c) (argG m c) (argWi m c)) (by decide +kernel) fun t hf y => ?_
  blk_simp
  rw [after_saved]
  obtain ⟨r, j, rfl⟩ : ∃ (r : Fin 512) (j : Fin 5632), y = ix2 r j := ⟨_, _, eq_ix2 y⟩
  have e : ((win0_3.blk t).view.emb (ix2 r j)) = ix2 (⟨512 * t.val + r.val, row_lt t r⟩ : Fin 8192) j := by
    blk_ext [(index_at t).2.2.2]
  rw [e, savedOut_apply, preAt_block]
  rfl

theorem array_tokens : (dats m 0 c).arrAt 2 cfg0.N = tokensArr (argX m c) (argG m c) (argWi m c) (argWo m c) := by
  refine (dats m 0 c).arrAt_eq_of_covers 2 (tokensArr (argX m c) (argG m c) (argWi m c) (argWo m c)) (by decide +kernel) fun t hf y => ?_
  blk_simp
  rw [after_tokens]
  obtain ⟨r, j, rfl⟩ : ∃ (r : Fin 512) (j : Fin 1024), y = ix2 r j := ⟨_, _, eq_ix2 y⟩
  have e : ((win0_2.blk t).view.emb (ix2 r j)) = ix2 (⟨512 * t.val + r.val, row_lt t r⟩ : Fin 8192) j := by
    blk_ext [(index_at t).2.2.1]
  have hw : weightsOut m c = argWo m c := V_main_arg3 m c
  rw [e, tokensOut_apply, block_x, hw]
  simp only [preAt_block]
  refine congrArg (argX m c _ + oneHalf * ·) ((?_ : _ = _).trans (two_halves _))
  refine congrArg₂ (· + ·) (Finset.sum_congr rfl fun k _ => ?_) (Finset.sum_congr rfl fun k _ => ?_)
  · have hk := k.isLt
    unfold activity
    have e0 : (⟨k.val / 1408, by omega⟩ : Fin 4) = 0 := Fin.ext (by show k.val / 1408 = 0; omega)
    have e2 : (⟨2 + k.val / 1408, by omega⟩ : Fin 4) = 2 := Fin.ext (by show 2 + k.val / 1408 = 2; omega)
    have ek : (⟨k.val % 1408, Nat.mod_lt _ (by omega)⟩ : Fin 1408) = k := Fin.ext (by show k.val % 1408 = k.val; omega)
    dsimp only
    rw [e0, e2, ek]
    rfl
  · have hk := k.isLt
    unfold activity
    have e0 : (⟨(1408 + k.val) / 1408, by omega⟩ : Fin 4) = 1 := Fin.ext (by show (1408 + k.val) / 1408 = 1; omega)
    have e2 : (⟨2 + (1408 + k.val) / 1408, by omega⟩ : Fin 4) = 3 := Fin.ext (by show 2 + (1408 + k.val) / 1408 = 3; omega)
    have ek : (⟨(1408 + k.val) % 1408, Nat.mod_lt _ (by omega)⟩ : Fin 1408) = k := Fin.ext (by show (1408 + k.val) % 1408 = k.val; omega)
    dsimp only
    rw [e0, e2, ek]
    rfl

end Cert.Kernel4Ideal.Feed

end
-- ==== Proof.BackMath.lean ====
/-
The feed-forward's backward pass, one token at a time: the formulas the kernel computes, and why they are the
derivatives the reference takes.
-/
module

public import proofs.«01_k».proof.Proof.FeedValueIdeal
public import proofs.«01_k».proof.Proof.Softmax

@[expose] public section

noncomputable section

/-!
# The backward pass of the feed-forward block, row by row

`d` is a token's cotangent, `x` the token, `h` its saved pre-activations (2816 gates, then 2816 ups), `wi` the first
weight by feature and column and `wo` the second by hidden feature and feature.

The reference differentiates `g · σ(g)` and the root mean square norm rule by rule, so that its gradients are sums of
products. The kernel uses the two closed forms. `gate_grad` and `token_grad` say that they agree: on real numbers by
algebra, and for a token with an infinite entry because its scale `1 / rms` is zero.
-/

namespace Cert.Back

open Idealize.ShloMosaic Cert.Fox
open Cert.Kernel4Ideal.Feed (oneHalf rowLength offset oneHalf_eq normed)

/-- The logistic. -/
def logistic (a : EReal) : EReal := Ideal.div 1 (1 + Ideal.exp (-a))

/-- The gradient of the gated hidden value `k`. -/
def gatedGrad (d : Fin 1024 → EReal) (wo : Fin 2816 → Fin 1024 → EReal) (k : Fin 2816) : EReal :=
  ∑ j : Fin 1024, oneHalf * d j * wo k j

variable (d x : Fin 1024 → EReal) (g : Fin 1024 → EReal) (h : Fin 5632 → EReal) (wi : Fin 1024 → Fin 5632 → EReal)
  (wo : Fin 2816 → Fin 1024 → EReal)

/-- Hidden feature `k`'s gate and up. -/
abbrev gate (k : Fin 2816) : EReal := h ⟨k.val, by omega⟩
abbrev up (k : Fin 2816) : EReal := h ⟨2816 + k.val, by omega⟩

def gateGrad (k : Fin 2816) : EReal :=
  gatedGrad d wo k * up h k * (logistic (gate h k) * (1 + gate h k * (1 - logistic (gate h k))))

def upGrad (k : Fin 2816) : EReal := gatedGrad d wo k * (gate h k * logistic (gate h k))

/-- The gradient of the pre-activations. -/
def preGrad (j : Fin 5632) : EReal :=
  if hj : j.val < 2816 then gateGrad d h wo ⟨j.val, hj⟩ else upGrad d h wo ⟨j.val - 2816, by omega⟩

/-- The gradient of the normalised token. -/
def rowGrad (k : Fin 1024) : EReal := ∑ j : Fin 5632, preGrad d h wo j * wi k j

/-- One over the root mean square. -/
def scale : EReal := Ideal.rsqrt (Ideal.div (∑ q : Fin 1024, x q * x q) rowLength + offset)

/-- The gradient of the token. -/
def tokenGrad (k : Fin 1024) : EReal :=
  d k + scale x * (rowGrad d h wi wo k * g k
    - x k * scale x * Ideal.div (∑ q : Fin 1024, rowGrad d h wi wo q * g q * (x q * scale x)) rowLength)

/-- A sum over the columns, taken in four blocks, the third before the second. -/
theorem four_blocks (f : Fin 5632 → EReal) :
    (0 + ∑ q : Fin 1408, f ⟨q.val, by omega⟩) + (∑ q : Fin 1408, f ⟨2816 + q.val, by omega⟩)
      + (∑ q : Fin 1408, f ⟨1408 + q.val, by omega⟩) + ∑ q : Fin 1408, f ⟨4224 + q.val, by omega⟩ = ∑ j : Fin 5632, f j := by
  have e : ∑ j : Fin 5632, f j = (∑ k : Fin 2816, f ⟨k.val, by omega⟩) + ∑ k : Fin 2816, f ⟨2816 + k.val, by omega⟩ :=
    Fin.sum_univ_add (a := 2816) (b := 2816) f
  rw [e, ← Cert.Kernel4Ideal.Feed.two_halves (fun k => f ⟨k.val, by omega⟩),
    ← Cert.Kernel4Ideal.Feed.two_halves (fun k => f ⟨2816 + k.val, by omega⟩), zero_add]
  have e3 : ∀ q : Fin 1408, f ⟨2816 + (1408 + q.val), by omega⟩ = f ⟨4224 + q.val, by omega⟩ := fun q =>
    congrArg f (Fin.ext (by show 2816 + (1408 + q.val) = 4224 + q.val; omega))
  simp only [e3]
  abel

/-- A real number. -/
def Fine (a : EReal) : Prop := ∃ r : ℝ, a = (r : EReal)

theorem Fine.mul {a b : EReal} (ha : Fine a) (hb : Fine b) : Fine (a * b) := by
  obtain ⟨r, rfl⟩ := ha
  obtain ⟨s, rfl⟩ := hb
  exact ⟨r * s, (EReal.coe_mul r s).symm⟩

theorem Fine.sum {n : ℕ} {f : Fin n → EReal} (hf : ∀ k, Fine (f k)) : Fine (∑ k, f k) := by
  choose r hr using hf
  exact ⟨∑ k, r k, (Finset.sum_congr rfl fun k _ => hr k).trans (coe_sum _ _)⟩

theorem fine_half : Fine oneHalf := ⟨_, oneHalf_eq⟩

theorem fine_of {a : EReal} (h1 : a ≠ ⊤) (h2 : a ≠ ⊥) : Fine a := ⟨a.toReal, (EReal.coe_toReal h1 h2).symm⟩

theorem rowLength_eq : rowLength = ((1024 : ℝ) : EReal) := by
  simp only [rowLength, Ideal.ofBits, Ideal.ieee]
  refine (?_ : _ = ((8388608 * (1 / 8192) : ℝ) : EReal)).trans (congrArg _ (by norm_num))
  rw [EReal.coe_mul]
  simp
  norm_num

theorem offset_pos : ∃ e : ℝ, 0 < e ∧ offset = (e : EReal) := by
  refine ⟨8796093 * (1 / 8796093022208), by norm_num, ?_⟩
  simp only [offset, Ideal.ofBits, Ideal.ieee]
  rw [EReal.coe_mul]
  simp
  norm_num

theorem negHalf_eq : Ideal.ofBits .f32 0xBF000000#32 = -oneHalf := by
  rw [oneHalf_eq]
  simp only [Ideal.ofBits, Ideal.ieee]
  refine (?_ : _ = ((-8388608 * (1 / 16777216) : ℝ) : EReal)).trans ((congrArg _ (by norm_num)).trans (EReal.coe_neg _))
  rw [EReal.coe_mul]
  simp
  norm_num

theorem logistic_real (r : ℝ) : logistic (r : EReal) = ((1 / (1 + Real.exp (-r)) : ℝ) : EReal) := by
  have hp : (1 + Real.exp (-r) : ℝ) ≠ 0 := by positivity
  show Ideal.div ((1 : ℝ) : EReal) (((1 : ℝ) : EReal) + ((Real.exp (-r) : ℝ) : EReal)) = _
  rw [← EReal.coe_add, div_real hp]

/-- The derivative of `g · σ(g)` in the kernel's form and in the reference's. -/
theorem gate_grad {a g : EReal} (ha : Fine a) (hg : Fine g) :
    a * logistic g + g * a * (logistic g * (1 - logistic g)) = a * (logistic g * (1 + g * (1 - logistic g))) := by
  obtain ⟨r, rfl⟩ := ha
  obtain ⟨s, rfl⟩ := hg
  rw [logistic_real]
  generalize 1 / (1 + Real.exp (-s)) = l
  rw [← EReal.coe_one]
  simp only [← EReal.coe_mul, ← EReal.coe_add, ← EReal.coe_sub]
  exact congrArg _ (by ring)

theorem logistic_fine {g : EReal} (hg : Fine g) : Fine (logistic g) := by
  obtain ⟨s, rfl⟩ := hg
  exact ⟨_, logistic_real s⟩

theorem slope_fine (hd : ∀ j, Fine (d j)) (hw : ∀ k j, Fine (wo k j)) (k : Fin 2816) : Fine (gatedGrad d wo k) :=
  Fine.sum fun j => (fine_half.mul (hd j)).mul (hw k j)

theorem preGrad_fine (hd : ∀ j, Fine (d j)) (hw : ∀ k j, Fine (wo k j)) (hh : ∀ j, Fine (h j)) (j : Fin 5632) :
    Fine (preGrad d h wo j) := by
  unfold preGrad
  split
  · obtain ⟨s, hs⟩ := hh ⟨j.val, by omega⟩
    refine ((slope_fine d wo hd hw _).mul (hh _)).mul ((logistic_fine (hh _)).mul ?_)
    unfold gate
    dsimp only
    rw [hs, logistic_real]
    generalize 1 / (1 + Real.exp (-s)) = l
    rw [← EReal.coe_one]
    simp only [← EReal.coe_mul, ← EReal.coe_add, ← EReal.coe_sub]
    exact ⟨_, rfl⟩
  · exact (slope_fine d wo hd hw _).mul ((hh _).mul (logistic_fine (hh _)))

theorem rowGrad_fine (hd : ∀ j, Fine (d j)) (hw : ∀ k j, Fine (wo k j)) (hh : ∀ j, Fine (h j)) (hi : ∀ k j, Fine (wi k j))
    (k : Fin 1024) : Fine (rowGrad d h wi wo k) :=
  Fine.sum fun j => (preGrad_fine d h wo hd hw hh j).mul (hi k j)

/-- The mean square of a token of real numbers, and its scale. -/
theorem scale_real (hx : ∀ q, Fine (x q)) : ∃ v : ℝ, 0 < v
    ∧ Ideal.div (∑ q : Fin 1024, x q * x q) rowLength + offset = (v : EReal) ∧ scale x = ((Real.sqrt v)⁻¹ : ℝ) := by
  choose r hr using hx
  obtain ⟨e, he, hoff⟩ := offset_pos
  have hs : ∑ q : Fin 1024, x q * x q = ((∑ q : Fin 1024, r q * r q : ℝ) : EReal) := by
    rw [← coe_sum]
    exact Finset.sum_congr rfl fun q _ => by rw [hr, EReal.coe_mul]
  have hn : (0 : ℝ) ≤ ∑ q : Fin 1024, r q * r q := Finset.sum_nonneg fun q _ => mul_self_nonneg _
  have hv : (0 : ℝ) < (∑ q : Fin 1024, r q * r q) / 1024 + e := by positivity
  have hm : Ideal.div (∑ q : Fin 1024, x q * x q) rowLength + offset = (((∑ q : Fin 1024, r q * r q) / 1024 + e : ℝ) : EReal) := by
    rw [hs, rowLength_eq, hoff, div_real (by norm_num), ← EReal.coe_add]
  refine ⟨_, hv, hm, ?_⟩
  unfold scale
  rw [hm]
  show (if _ < 0 then ⊥ else if _ = 0 then ⊤ else _) = _
  rw [if_neg (not_lt.mpr hv.le), if_neg hv.ne']

theorem sq_nonneg (a : EReal) : 0 ≤ a * a := by
  induction a with
  | bot => simp
  | top => simp
  | coe r => rw [← EReal.coe_mul]; exact_mod_cast mul_self_nonneg r

/-- With an infinite entry the mean square is infinite and the scale is zero. -/
theorem scale_zero (hx : ¬∀ q, Fine (x q)) :
    Ideal.div (∑ q : Fin 1024, x q * x q) rowLength + offset = ⊤ ∧ scale x = 0 := by
  obtain ⟨p, hp⟩ := not_forall.mp hx
  obtain ⟨e, he, hoff⟩ := offset_pos
  have hsq : x p * x p = ⊤ := by
    rcases eq_or_ne (x p) ⊤ with e | h1
    · rw [e]; simp
    · rcases eq_or_ne (x p) ⊥ with e | h2
      · rw [e]; simp
      · exact absurd (fine_of h1 h2) hp
  have hs : ∑ q : Fin 1024, x q * x q = ⊤ := by
    refine top_le_iff.mp ?_
    rw [← hsq]
    exact Finset.single_le_sum (fun q _ => sq_nonneg (x q)) (Finset.mem_univ p)
  have hm : Ideal.div (∑ q : Fin 1024, x q * x q) rowLength + offset = ⊤ := by
    rw [hs, rowLength_eq, hoff, Ideal.div_coe (by norm_num), EReal.top_mul_coe_of_pos (by norm_num), EReal.top_add_coe]
  refine ⟨hm, ?_⟩
  unfold scale
  rw [hm]
  rfl

/-- The normalised token is real, whatever the token. -/
theorem normed_fine (hg : ∀ k, Fine (g k)) (k : Fin 1024) : Fine (normed x g k) := by
  show Fine (x k * scale x * g k)
  by_cases hx : ∀ q, Fine (x q)
  · obtain ⟨v, -, -, e⟩ := scale_real x hx
    exact ((hx k).mul ⟨_, e⟩).mul (hg k)
  · rw [(scale_zero x hx).2, mul_zero, zero_mul]
    exact ⟨0, EReal.coe_zero.symm⟩

/-- The norm's derivative as the reference takes it. -/
def tokenVjp (w : Fin 1024 → EReal) (k : Fin 1024) : EReal :=
  d k + w k * scale x
    + x k * Ideal.div ((∑ q : Fin 1024, x q * w q)
      * (-oneHalf * Ideal.div (scale x) (Ideal.div (∑ q : Fin 1024, x q * x q) rowLength + offset))) rowLength
    + Ideal.div ((∑ q : Fin 1024, x q * w q)
      * (-oneHalf * Ideal.div (scale x) (Ideal.div (∑ q : Fin 1024, x q * x q) rowLength + offset))) rowLength * x k

/-- It is the kernel's closed form. -/
theorem token_grad (hd : ∀ j, Fine (d j)) (w : Fin 1024 → EReal) (hw : ∀ j, Fine (w j)) (k : Fin 1024) :
    tokenVjp d x w k = d k + scale x * (w k - x k * scale x * Ideal.div (∑ q : Fin 1024, w q * (x q * scale x)) rowLength) := by
  unfold tokenVjp
  by_cases hx : ∀ q, Fine (x q)
  · obtain ⟨v, hv, hm, hr⟩ := scale_real x hx
    rw [hm, hr, rowLength_eq, oneHalf_eq]
    choose X hX using hx
    choose W hW using hw
    obtain ⟨D, hD⟩ := hd k
    have hs : ∑ q : Fin 1024, x q * w q = ((∑ q : Fin 1024, X q * W q : ℝ) : EReal) := by
      rw [← coe_sum]
      exact Finset.sum_congr rfl fun q _ => by rw [hX, hW, EReal.coe_mul]
    have ht : ∑ q : Fin 1024, w q * (x q * (((Real.sqrt v)⁻¹ : ℝ) : EReal))
        = (((∑ q : Fin 1024, X q * W q) * (Real.sqrt v)⁻¹ : ℝ) : EReal) := by
      rw [Finset.sum_mul, ← coe_sum]
      refine Finset.sum_congr rfl fun q _ => ?_
      rw [hX, hW, ← EReal.coe_mul, ← EReal.coe_mul]
      exact congrArg _ (by ring)
    rw [hs, ht, hX k, hW k, hD]
    generalize ∑ q : Fin 1024, X q * W q = S
    have h1024 : (1024 : ℝ) ≠ 0 := by norm_num
    rw [div_real hv.ne', ← EReal.coe_neg]
    simp only [← EReal.coe_mul, div_real h1024, ← EReal.coe_add, ← EReal.coe_sub]
    refine congrArg _ ?_
    have hq : (Real.sqrt v)⁻¹ * (Real.sqrt v)⁻¹ = v⁻¹ := by
      rw [← mul_inv, Real.mul_self_sqrt hv.le]
    generalize (Real.sqrt v)⁻¹ = R at hq ⊢
    rw [div_eq_mul_inv R v, ← hq]
    ring
  · obtain ⟨hm, hr⟩ := scale_zero x hx
    have hz : Ideal.div (0 : EReal) ⊤ = 0 := by
      rw [Ideal.div, if_neg (by simp), zero_mul]
    have hl : Ideal.div (0 : EReal) rowLength = 0 := by
      rw [rowLength_eq, Ideal.div_coe (by norm_num), zero_mul]
    rw [hm, hr, hz, mul_zero, mul_zero, mul_zero, hl, mul_zero, zero_mul, zero_mul, add_zero, add_zero]

end Cert.Back

end
-- ==== Proof.BackValueIdeal.lean ====
/-
The feed-forward's backward pass: what a grid point leaves, entry by entry.
-/
module

public import proofs.«01_k».proof.Proof.BackFrameIdeal
public import proofs.«01_k».proof.Proof.BackMath
public import proofs.«01_k».proof.Proof.Tiles
public import Idealize.ShloMosaic.Lib.Pointwise

@[expose] public section

set_option maxRecDepth 16384

noncomputable section

namespace Cert.Kernel5Ideal.Back

open Idealize.ShloMosaic Idealize.ShloMosaic.TcCoe Idealize.ShloMosaic.Tactic
open Idealize.ShloMosaic.Pipeline (Dat)
open Idealize.ShloMosaic.Pointwise
open Cert.Kernel5Ideal.Gen Cert.Back
open Cert.Kernel4Ideal.Feed (oneHalf rowLength offset logistic_tanh normed gated)

/-- Row `r` of a block. -/
abbrev rowOf {n w : ℕ} (a : Shape.Idx ⟨2, ![n, w]⟩ → EReal) (r : Fin n) : Fin w → EReal := fun k => a (ix2 r k)

/-- The first weight by feature and column, slot by slot. -/
abbrev byColumn (w : Vec Ideal S4x1024x1408 .bf16) : Fin 1024 → Fin 5632 → EReal := fun k j =>
  w (ix3 ⟨j.val / 1408, by omega⟩ k ⟨j.val % 1408, Nat.mod_lt _ (by omega)⟩)

section Block

variable (dy x : Vec Ideal S256x1024 .f32) (h : Vec Ideal S256x5632 .bf16) (g : Vec Ideal S1x1024 .f32)
  (wi : Vec Ideal S4x1024x1408 .bf16) (wo : Vec Ideal S2816x1024 .bf16)

theorem cols_apply (s : Fin 4) (r : Fin 256) (q : Fin 1408) : cols h s (ix2 r q) = h (ix2 r ⟨1408 * s.val + q.val, by omega⟩) := rfl

theorem half_apply (s : Fin 2) (k : Fin 1408) (j : Fin 1024) : half wo s (ix2 k j) = wo (ix2 ⟨1408 * s.val + k.val, by omega⟩ j) := rfl

theorem slab_apply (s : Fin 4) (k : Fin 1024) (q : Fin 1408) : slab wi s (ix3 0 k q) = wi (ix3 s k q) := rfl

theorem slopeA_apply (r : Fin 256) (q : Fin 1408) :
    slopeA dy wo (ix2 r q) = gatedGrad (rowOf dy r) (fun k j => wo (ix2 k j)) ⟨q.val, by omega⟩ := by
  unfold slopeA gatedGrad
  pointwise [k0_pay7, k0_pay5]
  refine Finset.sum_congr rfl fun j _ => congrArg (oneHalf * dy (ix2 r j) * ·) (?_ : half wo 0 (ix2 q j) = wo (ix2 _ j))
  rw [half_apply]
  exact congrArg wo (congrArg (ix2 · j) (Fin.ext (by show 1408 * 0 + q.val = q.val; omega)))

theorem slopeB_apply (r : Fin 256) (q : Fin 1408) :
    slopeB dy wo (ix2 r q) = gatedGrad (rowOf dy r) (fun k j => wo (ix2 k j)) ⟨1408 + q.val, by omega⟩ := by
  unfold slopeB gatedGrad
  pointwise [k0_pay18, k0_pay5]
  exact Finset.sum_congr rfl fun j _ => congrArg (oneHalf * dy (ix2 r j) * ·) (half_apply wo 1 q j)

theorem logisticA_apply (v : Vec Ideal S256x1408 .bf16) (r : Fin 256) (q : Fin 1408) :
    k0_pay10 (F := Ideal) v (ix2 r q) = logistic (v (ix2 r q)) := by
  refine Eq.trans ?_ (logistic_tanh _)
  pointwise [k0_pay10, k0_pay8]

theorem logisticB_apply (v : Vec Ideal S256x1408 .bf16) (r : Fin 256) (q : Fin 1408) :
    k0_pay21 (F := Ideal) v (ix2 r q) = logistic (v (ix2 r q)) := by
  refine Eq.trans ?_ (logistic_tanh _)
  pointwise [k0_pay21, k0_pay19]

/-- The four blocks of a row's pre-activations. -/
theorem row_gateA (r : Fin 256) (q : Fin 1408) : cols h 0 (ix2 r q) = gate (rowOf h r) ⟨q.val, by omega⟩ := by
  rw [cols_apply]
  exact congrArg h (congrArg (ix2 r) (Fin.ext (by show 1408 * 0 + q.val = q.val; omega)))
theorem row_gateB (r : Fin 256) (q : Fin 1408) : cols h 1 (ix2 r q) = gate (rowOf h r) ⟨1408 + q.val, by omega⟩ := rfl
theorem row_upA (r : Fin 256) (q : Fin 1408) : cols h 2 (ix2 r q) = up (rowOf h r) ⟨q.val, by omega⟩ := rfl
theorem row_upB (r : Fin 256) (q : Fin 1408) : cols h 3 (ix2 r q) = up (rowOf h r) ⟨1408 + q.val, by omega⟩ := by
  rw [cols_apply]
  exact congrArg h (congrArg (ix2 r) (Fin.ext (by show 1408 * 3 + q.val = 2816 + (1408 + q.val); omega)))

/-- The logistic's gradient pieces at an entry. -/
theorem pay11_apply (v : Vec Ideal S256x1408 .bf16) (r : Fin 256) (q : Fin 1408) :
    k0_pay11 (F := Ideal) v (ix2 r q) = v (ix2 r q) * logistic (v (ix2 r q)) := by
  refine (?_ : _ = v (ix2 r q) * k0_pay10 (F := Ideal) v (ix2 r q)).trans (by rw [logisticA_apply])
  pointwise [k0_pay11, k0_pay8, k0_pay10]

theorem pay22_apply (v : Vec Ideal S256x1408 .bf16) (r : Fin 256) (q : Fin 1408) :
    k0_pay22 (F := Ideal) v (ix2 r q) = v (ix2 r q) * logistic (v (ix2 r q)) := by
  refine (?_ : _ = v (ix2 r q) * k0_pay21 (F := Ideal) v (ix2 r q)).trans (by rw [logisticB_apply])
  pointwise [k0_pay22, k0_pay19, k0_pay21]

theorem pay14_apply (v : Vec Ideal S256x1408 .bf16) (r : Fin 256) (q : Fin 1408) :
    k0_pay14 (F := Ideal) v (ix2 r q) = 1 + v (ix2 r q) * (1 - logistic (v (ix2 r q))) := by
  refine (?_ : _ = Ideal.ofBits .f32 0x3F800000#32 + v (ix2 r q) * (Ideal.ofBits .f32 0x3F800000#32 - k0_pay10 (F := Ideal) v (ix2 r q))).trans
    (by rw [logisticA_apply, Ideal.ofBits_one_f32])
  pointwise [k0_pay14, k0_pay8, k0_pay10]

theorem pay13_apply (v : Vec Ideal S256x1408 .bf16) (r : Fin 256) (q : Fin 1408) :
    k0_pay13 (F := Ideal) dy (half wo 0) v (ix2 r q) = slopeA dy wo (ix2 r q) * v (ix2 r q) := by
  unfold slopeA
  pointwise [k0_pay13, k0_pay9, k0_pay7, k0_pay5]

theorem gateA_apply (r : Fin 256) (q : Fin 1408) :
    gateA dy h wo (ix2 r q) = gateGrad (rowOf dy r) (rowOf h r) (fun k j => wo (ix2 k j)) ⟨q.val, by omega⟩ := by
  refine (?_ : _ = k0_pay13 (F := Ideal) dy (half wo 0) (cols h 2) (ix2 r q)
    * (k0_pay10 (F := Ideal) (cols h 0) (ix2 r q) * k0_pay14 (F := Ideal) (cols h 0) (ix2 r q))).trans ?_
  · rfl
  · rw [pay13_apply, logisticA_apply, pay14_apply, slopeA_apply, row_gateA, row_upA]
    rfl

theorem gateB_apply (r : Fin 256) (q : Fin 1408) :
    gateB dy h wo (ix2 r q) = gateGrad (rowOf dy r) (rowOf h r) (fun k j => wo (ix2 k j)) ⟨1408 + q.val, by omega⟩ := by
  refine (?_ : _ = slopeB dy wo (ix2 r q) * cols h 3 (ix2 r q) * (k0_pay21 (F := Ideal) (cols h 1) (ix2 r q)
    * (Ideal.ofBits .f32 0x3F800000#32 + cols h 1 (ix2 r q)
      * (Ideal.ofBits .f32 0x3F800000#32 - k0_pay21 (F := Ideal) (cols h 1) (ix2 r q))))).trans ?_
  · unfold gateB
    generalize slopeB dy wo = s
    generalize k0_pay21 (F := Ideal) (cols h 1) = l
    pointwise [k0_pay24, k0_pay19, k0_pay20]
  · rw [logisticB_apply, slopeB_apply, row_gateB, row_upB, Ideal.ofBits_one_f32]
    rfl

theorem upA_apply (r : Fin 256) (q : Fin 1408) :
    upA dy h wo (ix2 r q) = upGrad (rowOf dy r) (rowOf h r) (fun k j => wo (ix2 k j)) ⟨q.val, by omega⟩ := by
  refine (?_ : _ = slopeA dy wo (ix2 r q) * k0_pay11 (F := Ideal) (cols h 0) (ix2 r q)).trans ?_
  · rfl
  · rw [slopeA_apply, pay11_apply, row_gateA]
    rfl

theorem upB_apply (r : Fin 256) (q : Fin 1408) :
    upB dy h wo (ix2 r q) = upGrad (rowOf dy r) (rowOf h r) (fun k j => wo (ix2 k j)) ⟨1408 + q.val, by omega⟩ := by
  refine (?_ : _ = slopeB dy wo (ix2 r q) * k0_pay22 (F := Ideal) (cols h 1) (ix2 r q)).trans ?_
  · rfl
  · rw [slopeB_apply, pay22_apply, row_gateB]
    rfl

theorem preGrad_gate {d : Fin 1024 → EReal} {h : Fin 5632 → EReal} {w : Fin 2816 → Fin 1024 → EReal} (j : Fin 5632) (k : Fin 2816)
    (e : j.val = k.val) : gateGrad d h w k = preGrad d h w j := by
  have hk := k.isLt
  unfold preGrad
  rw [dif_pos (show j.val < 2816 by omega)]
  exact congrArg (gateGrad d h w) (Fin.ext e.symm)

theorem preGrad_up {d : Fin 1024 → EReal} {h : Fin 5632 → EReal} {w : Fin 2816 → Fin 1024 → EReal} (j : Fin 5632) (k : Fin 2816)
    (e : j.val = 2816 + k.val) : upGrad d h w k = preGrad d h w j := by
  unfold preGrad
  rw [dif_neg (show ¬j.val < 2816 by omega)]
  exact congrArg (upGrad d h w) (Fin.ext (by show k.val = j.val - 2816; omega))

theorem gainClear_apply (y : S1x1024.Idx) : k0_pay4 (F := Ideal) y = 0 := by
  pointwise [k0_pay4]

theorem hiddenOut_apply (r : Fin 256) (j : Fin 5632) :
    hiddenOut dy h wo (ix2 r j) = preGrad (rowOf dy r) (rowOf h r) (fun k j => wo (ix2 k j)) j := by
  have hj := j.isLt
  by_cases h1 : j.val < 1408
  · refine (if_pos h1).trans ((gateA_apply dy h wo r _).trans (preGrad_gate _ _ ?_))
    show j.val = j.val % 1408; omega
  · by_cases h2 : j.val < 2816
    · refine (if_neg h1).trans ((if_pos h2).trans ((gateB_apply dy h wo r _).trans (preGrad_gate _ _ ?_)))
      show j.val = 1408 + j.val % 1408; omega
    · by_cases h3 : j.val < 4224
      · refine (if_neg h1).trans ((if_neg h2).trans ((if_pos h3).trans ((upA_apply dy h wo r _).trans (preGrad_up _ _ ?_))))
        show j.val = 2816 + j.val % 1408; omega
      · refine (if_neg h1).trans ((if_neg h2).trans ((if_neg h3).trans ((upB_apply dy h wo r _).trans (preGrad_up _ _ ?_))))
        show j.val = 2816 + (1408 + j.val % 1408); omega

/-- One block of columns against its slot of the first weight. -/
theorem product_in (a : FVec Ideal S256x1408 .bf16) (w : Vec Ideal S1x1024x1408 .bf16) (r : Fin 256) (k : Fin 1024) :
    matmul (F := Ideal) (φ₁ := .bf16) (φ₂ := .bf16) dot_S256x1408_S1024x1408_S256x1024_1_1_0_0_n_n none a
      (shapeCast S1024x1408 w shapeCasts_S1x1024x1408_S1024x1408) (constant S256x1024 .f32 0x00000000#32) (ix2 r k)
      = ∑ q : Fin 1408, a (ix2 r q) * w (ix3 0 k q) := by
  pointwise []

theorem clear_apply (y : S256x1024.Idx) : k0_pay6 (F := Ideal) y = 0 := by
  pointwise [k0_pay6]

theorem normedGrad_apply (r : Fin 256) (k : Fin 1024) :
    normedGrad dy h wi wo (ix2 r k) = rowGrad (rowOf dy r) (rowOf h r) (byColumn wi) (fun k j => wo (ix2 k j)) k := by
  refine (?_ : _ = (((0 + ∑ q : Fin 1408, gateA dy h wo (ix2 r q) * slab wi 0 (ix3 0 k q))
    + ∑ q : Fin 1408, upA dy h wo (ix2 r q) * slab wi 2 (ix3 0 k q))
    + ∑ q : Fin 1408, gateB dy h wo (ix2 r q) * slab wi 1 (ix3 0 k q))
    + ∑ q : Fin 1408, upB dy h wo (ix2 r q) * slab wi 3 (ix3 0 k q)).trans ?_
  · rw [← product_in, ← product_in, ← product_in, ← product_in, ← clear_apply (ix2 r k)]
    rfl
  · rw [rowGrad, ← four_blocks]
    have w : ∀ (s : Fin 4) (q : Fin 1408) (j : Fin 5632), j.val = 1408 * s.val + q.val → slab wi s (ix3 0 k q) = byColumn wi k j :=
      fun s q j e => by
        rw [slab_apply]
        refine congrArg₂ (fun a b => wi (ix3 a k b)) (Fin.ext ?_) (Fin.ext ?_)
        · show s.val = j.val / 1408; omega
        · show q.val = j.val % 1408; omega
    refine congrArg₂ (· + ·) (congrArg₂ (· + ·) (congrArg₂ (· + ·) (congrArg (0 + ·) ?_) ?_) ?_) ?_ <;>
      refine Finset.sum_congr rfl fun q _ => congrArg₂ (· * ·) ?_ ?_
    · exact (gateA_apply dy h wo r q).trans (preGrad_gate _ _ rfl)
    · exact w 0 q _ (by show q.val = 1408 * 0 + q.val; omega)
    · exact (upA_apply dy h wo r q).trans (preGrad_up _ _ rfl)
    · exact w 2 q _ (by show 2816 + q.val = 1408 * 2 + q.val; omega)
    · exact (gateB_apply dy h wo r q).trans (preGrad_gate _ _ rfl)
    · exact w 1 q _ (by show 1408 + q.val = 1408 * 1 + q.val; omega)
    · exact (upB_apply dy h wo r q).trans (preGrad_up _ _ (by show 4224 + q.val = 2816 + (1408 + q.val); omega))
    · exact w 3 q _ (by show 4224 + q.val = 1408 * 3 + q.val; omega)

theorem scale_apply (r : Fin 256) : k0_pay28 (F := Ideal) x (ix2 r 0) = scale (rowOf x r) := by
  unfold scale
  pointwise [k0_pay28]

theorem scaled_apply (r : Fin 256) (k : Fin 1024) : k0_pay29 (F := Ideal) x (ix2 r k) = x (ix2 r k) * scale (rowOf x r) := by
  unfold scale
  pointwise [k0_pay29, k0_pay28]

theorem normedOut_apply (r : Fin 256) (k : Fin 1024) :
    normedOut x g (ix2 r k) = normed (rowOf x r) (fun q => g (ix2 0 q)) k := by
  unfold normedOut
  pointwise [k0_pay1, k0_pay30, k0_pay29, k0_pay28, k0_pay27, normed]

theorem halvedOut_apply (r : Fin 256) (k : Fin 1024) : halvedOut dy (ix2 r k) = oneHalf * dy (ix2 r k) := by
  unfold halvedOut
  pointwise [k0_pay5]

theorem gatedOut_apply (r : Fin 256) (k : Fin 2816) :
    gatedOut h (ix2 r k) = gated (gate (rowOf h r) k) (up (rowOf h r) k) := by
  have hk := k.isLt
  by_cases h1 : k.val < 1408
  · refine (if_pos h1).trans ?_
    have ek : (⟨k.val % 1408, Nat.mod_lt _ (by omega)⟩ : Fin 1408).val = k.val := by show k.val % 1408 = k.val; omega
    have ek' : (⟨(⟨k.val % 1408, Nat.mod_lt _ (by omega)⟩ : Fin 1408).val, by omega⟩ : Fin 2816) = k := Fin.ext ek
    refine (?_ : _ = k0_pay11 (F := Ideal) (cols h 0) (ix2 r ⟨k.val % 1408, Nat.mod_lt _ (by omega)⟩) * cols h 2 (ix2 r ⟨k.val % 1408, Nat.mod_lt _ (by omega)⟩)).trans ?_
    · generalize cols h 2 = v
      generalize cols h 0 = w
      show k0_pay12 (F := Ideal) w v (ix2 r ⟨k.val % 1408, Nat.mod_lt _ (by omega)⟩) = _
      pointwise [k0_pay12, k0_pay9, k0_pay11, k0_pay8, k0_pay10]
    · rw [pay11_apply, row_gateA, row_upA, ek']
      rfl
  · refine (if_neg h1).trans ?_
    have ek' : (⟨1408 + (⟨k.val % 1408, Nat.mod_lt _ (by omega)⟩ : Fin 1408).val, by omega⟩ : Fin 2816) = k :=
      Fin.ext (by show 1408 + k.val % 1408 = k.val; omega)
    refine (?_ : _ = k0_pay22 (F := Ideal) (cols h 1) (ix2 r ⟨k.val % 1408, Nat.mod_lt _ (by omega)⟩) * cols h 3 (ix2 r ⟨k.val % 1408, Nat.mod_lt _ (by omega)⟩)).trans ?_
    · generalize cols h 3 = v
      generalize cols h 1 = w
      show k0_pay23 (F := Ideal) w v (ix2 r ⟨k.val % 1408, Nat.mod_lt _ (by omega)⟩) = _
      pointwise [k0_pay23, k0_pay20, k0_pay22, k0_pay19, k0_pay21]
    · rw [pay22_apply, row_gateB, row_upB, ek']
      rfl

theorem tokensOut_apply (r : Fin 256) (k : Fin 1024) :
    tokensOut dy x h g wi wo (ix2 r k)
      = tokenGrad (rowOf dy r) (rowOf x r) (fun q => g (ix2 0 q)) (rowOf h r) (byColumn wi) (fun k j => wo (ix2 k j)) k := by
  unfold tokensOut tokenGrad
  refine (?_ : _ = dy (ix2 r k) + k0_pay28 (F := Ideal) x (ix2 r 0) * (normedGrad dy h wi wo (ix2 r k) * g (ix2 0 k)
    - k0_pay29 (F := Ideal) x (ix2 r k) * Ideal.div (∑ q : Fin 1024, normedGrad dy h wi wo (ix2 r q) * g (ix2 0 q)
      * k0_pay29 (F := Ideal) x (ix2 r q)) rowLength)).trans ?_
  · generalize normedGrad dy h wi wo = a
    generalize k0_pay28 (F := Ideal) x = b
    generalize k0_pay29 (F := Ideal) x = e
    pointwise [k0_pay2, k0_pay27]
  · rw [scale_apply]
    simp only [scaled_apply, normedGrad_apply]

theorem gainOut_apply (e : Vec Ideal S1x1024 .f32) (k : Fin 1024) :
    gainOut dy x h wi wo e (ix2 0 k) = e (ix2 0 k) + ∑ r : Fin 256,
      rowGrad (rowOf dy r) (rowOf h r) (byColumn wi) (fun k j => wo (ix2 k j)) k * (x (ix2 r k) * scale (rowOf x r)) := by
  unfold gainOut
  refine (?_ : _ = e (ix2 0 k) + ∑ r : Fin 256, normedGrad dy h wi wo (ix2 r k) * k0_pay29 (F := Ideal) x (ix2 r k)).trans ?_
  · generalize normedGrad dy h wi wo = a
    generalize k0_pay29 (F := Ideal) x = b
    pointwise [k0_pay3]
  · simp only [scaled_apply, normedGrad_apply]

end Block

end Cert.Kernel5Ideal.Back

end
-- ==== Proof.BackArrayIdeal.lean ====
/-
The feed-forward's backward pass: the arrays the kernel leaves.
-/
module

public import proofs.«01_k».proof.Proof.BackValueIdeal
public import proofs.«01_k».proof.Proof.Gen.Reference5Ideal.Read
public import Idealize.ShloMosaic.Lib.Pipeline.ValueKit
public import Idealize.ShloMosaic.Lib.StableHlo.RunRead

@[expose] public section

set_option maxRecDepth 16384

noncomputable section

/-!
# The six results as functions of the arguments

Grid point `t` takes the tokens `256 t` to `256 t + 255`. Five results are written block by block. The sixth, the
gain's gradient, is one row that every point adds to; `gainGrad_sofar` gives that row after each point, a sum over the tiles met.
The saved pre-activations that the host prepares are the reference's own first product, `saved`.
-/

namespace Cert.Kernel5Ideal.Back

open Idealize.ShloMosaic Idealize.ShloMosaic.TcCoe Idealize.ShloMosaic.Tactic
open Idealize.ShloMosaic.Pipeline (Dat)
open Idealize.ShloMosaic.Pointwise
open Cert.Kernel5Ideal.Gen Cert.Back Cert.Tiles
open Cert.Kernel4Ideal.Feed (oneHalf rowLength offset normed gated)

variable (m : (ℓ : Loc nD τ sig) → Buf (Elt Ideal) ℓ) (c : Dev nD)

/-- The five arguments, as launched. -/
abbrev argDy : Vec Ideal S8192x1024 .f32 := m ((c.tc : Thread nD τ).loc main_arg0)
abbrev argX : Vec Ideal S8192x1024 .f32 := m ((c.tc : Thread nD τ).loc main_arg1)
abbrev argG : Vec Ideal S1024 .f32 := m ((c.tc : Thread nD τ).loc main_arg2)
abbrev argWi : Vec Ideal S4x1024x1408 .bf16 := m ((c.tc : Thread nD τ).loc main_arg3)
abbrev argWo : Vec Ideal S4x704x1024 .bf16 := m ((c.tc : Thread nD τ).loc main_arg4)

/-- The saved pre-activations: the first product of the reference. -/
abbrev saved (x : Vec Ideal S8192x1024 .f32) (g : Vec Ideal S1024 .f32) (wi : Vec Ideal S4x1024x1408 .bf16) :
    Vec Ideal S8192x5632 .f32 := Cert.Reference5Ideal.Read.val_main_v22 (F := Ideal) x g wi

set_option maxHeartbeats 4000000 in
theorem saved_prepared : V m c main_v17 = saved (argX m c) (argG m c) (argWi m c) := by
  after_reads_simp
  rfl

theorem gain_row : V m c main_v18 = broadcastInDim S1x1024 ![1] bcast_S1024_S1x1024_1 (argG m c) := by
  after_reads_simp
  try rfl

theorem index_at : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

theorem row_lt (t : Fin cfg0.N) (r : Fin 256) : 256 * t.val + r.val < 8192 := by
  have : t.val < 32 := t.isLt
  omega

theorem block_dy (t : Fin cfg0.N) (r : Fin 256) (k : Fin 1024) :
    iblk m c 0 t (ix2 r k) = argDy m c (ix2 ⟨256 * t.val + r.val, row_lt t r⟩ k) := by
  blk_ext [iblk, V, (index_at t).1]

theorem block_x (t : Fin cfg0.N) (r : Fin 256) (k : Fin 1024) :
    iblk m c 1 t (ix2 r k) = argX m c (ix2 ⟨256 * t.val + r.val, row_lt t r⟩ k) := by
  blk_ext [iblk, V, (index_at t).2.1]

theorem block_h (t : Fin cfg0.N) (r : Fin 256) (k : Fin 5632) :
    iblk m c 2 t (ix2 r k) = saved (argX m c) (argG m c) (argWi m c) (ix2 ⟨256 * t.val + r.val, row_lt t r⟩ k) := by
  rw [← saved_prepared]
  blk_ext [iblk, (index_at t).2.2.1]

theorem block_gain (t : Fin cfg0.N) (k : Fin 1024) : iblk m c 3 t (ix2 0 k) = argG m c (ix1 k) := by
  have e : iblk m c 3 t (ix2 0 k) = V m c main_v18 (ix2 0 k) := by
    blk_ext [iblk, (index_at t).2.2.2.1]
  rw [e, gain_row]
  pointwise []

section Formulas

variable (dy x : Vec Ideal S8192x1024 .f32) (g : Vec Ideal S1024 .f32) (wi : Vec Ideal S4x1024x1408 .bf16)
  (wo : Vec Ideal S4x704x1024 .bf16)

/-- The second weight by hidden feature. -/
abbrev byFeature (wo : Vec Ideal S4x704x1024 .bf16) : Fin 2816 → Fin 1024 → EReal := fun k j => stacked wo (ix2 k j)

/-- The gain by feature. -/
abbrev gains (g : Vec Ideal S1024 .f32) : Fin 1024 → EReal := fun k => g (ix1 k)

/-- The gradient of the normalised token `n`. -/
abbrev normedGradAt (n : Fin 8192) : Fin 1024 → EReal :=
  rowGrad (rowOf dy n) (rowOf (saved x g wi) n) (byColumn wi) (byFeature wo)

def tokenGradArr : Vec Ideal S8192x1024 .f32 := fun i =>
  tokenGrad (rowOf dy ⟨(i 0).val, (i 0).isLt⟩) (rowOf x ⟨(i 0).val, (i 0).isLt⟩) (gains g)
    (rowOf (saved x g wi) ⟨(i 0).val, (i 0).isLt⟩) (byColumn wi) (byFeature wo) ⟨(i 1).val, (i 1).isLt⟩

def preGradArr : Vec Ideal S8192x5632 .bf16 := fun i =>
  preGrad (rowOf dy ⟨(i 0).val, (i 0).isLt⟩) (rowOf (saved x g wi) ⟨(i 0).val, (i 0).isLt⟩) (byFeature wo) ⟨(i 1).val, (i 1).isLt⟩

def gatedArr : Vec Ideal S8192x2816 .bf16 := fun i =>
  gated (gate (rowOf (saved x g wi) ⟨(i 0).val, (i 0).isLt⟩) ⟨(i 1).val, (i 1).isLt⟩)
    (up (rowOf (saved x g wi) ⟨(i 0).val, (i 0).isLt⟩) ⟨(i 1).val, (i 1).isLt⟩)

def normedArr : Vec Ideal S8192x1024 .bf16 := fun i =>
  normed (rowOf x ⟨(i 0).val, (i 0).isLt⟩) (gains g) ⟨(i 1).val, (i 1).isLt⟩

def halvedArr : Vec Ideal S8192x1024 .bf16 := fun i => oneHalf * dy i

def gainGradArr : Vec Ideal S1x1024 .f32 := fun i =>
  ∑ n : Fin 8192, normedGradAt dy x g wi wo n ⟨(i 1).val, (i 1).isLt⟩ * (x (ix2 n ⟨(i 1).val, (i 1).isLt⟩) * scale (rowOf x n))

end Formulas

/-- A point's blocks, row by row. -/
theorem row_dy (t : Fin cfg0.N) (r : Fin 256) : rowOf (iblk m c 0 t) r = rowOf (argDy m c) ⟨256 * t.val + r.val, row_lt t r⟩ :=
  funext fun k => block_dy m c t r k
theorem row_x (t : Fin cfg0.N) (r : Fin 256) : rowOf (iblk m c 1 t) r = rowOf (argX m c) ⟨256 * t.val + r.val, row_lt t r⟩ :=
  funext fun k => block_x m c t r k
theorem row_h (t : Fin cfg0.N) (r : Fin 256) :
    rowOf (iblk m c 2 t) r = rowOf (saved (argX m c) (argG m c) (argWi m c)) ⟨256 * t.val + r.val, row_lt t r⟩ :=
  funext fun k => block_h m c t r k
theorem row_gain (t : Fin cfg0.N) : (fun q => iblk m c 3 t (ix2 0 q)) = gains (argG m c) :=
  funext fun k => block_gain m c t k
theorem weightsIn_eq : weightsIn m c = argWi m c := V_main_arg3 m c
theorem weightsOut_eq : weightsOut m c = argWo m c := V_main_arg4 m c

theorem array_dx : (dats m 0 c).arrAt 4 cfg0.N = tokenGradArr (argDy m c) (argX m c) (argG m c) (argWi m c) (argWo m c) := by
  refine (dats m 0 c).arrAt_eq_of_covers 4 (tokenGradArr (argDy m c) (argX m c) (argG m c) (argWi m c) (argWo m c)) (by decide +kernel) fun t hf y => ?_
  blk_simp
  rw [after_dx]
  obtain ⟨r, j, rfl⟩ : ∃ (r : Fin 256) (j : Fin 1024), y = ix2 r j := ⟨_, _, eq_ix2 y⟩
  have e : ((win0_4.blk t).view.emb (ix2 r j)) = ix2 (⟨256 * t.val + r.val, row_lt t r⟩ : Fin 8192) j := by
    blk_ext [(index_at t).2.2.2.2.1]
  rw [e, tokensOut_apply, row_dy, row_x, row_h, row_gain, weightsIn_eq, weightsOut_eq]
  rfl

theorem array_hidden : (dats m 0 c).arrAt 5 cfg0.N = preGradArr (argDy m c) (argX m c) (argG m c) (argWi m c) (argWo m c) := by
  refine (dats m 0 c).arrAt_eq_of_covers 5 (preGradArr (argDy m c) (argX m c) (argG m c) (argWi m c) (argWo m c)) (by decide +kernel) fun t hf y => ?_
  blk_simp
  rw [after_hidden]
  obtain ⟨r, j, rfl⟩ : ∃ (r : Fin 256) (j : Fin 5632), y = ix2 r j := ⟨_, _, eq_ix2 y⟩
  have e : ((win0_5.blk t).view.emb (ix2 r j)) = ix2 (⟨256 * t.val + r.val, row_lt t r⟩ : Fin 8192) j := by
    blk_ext [(index_at t).2.2.2.2.2.1]
  rw [e, hiddenOut_apply, row_dy, row_h, weightsOut_eq]
  rfl

theorem array_gated : (dats m 0 c).arrAt 6 cfg0.N = gatedArr (argX m c) (argG m c) (argWi m c) := by
  refine (dats m 0 c).arrAt_eq_of_covers 6 (gatedArr (argX m c) (argG m c) (argWi m c)) (by decide +kernel) fun t hf y => ?_
  blk_simp
  rw [after_gated]
  obtain ⟨r, j, rfl⟩ : ∃ (r : Fin 256) (j : Fin 2816), y = ix2 r j := ⟨_, _, eq_ix2 y⟩
  have e : ((win0_6.blk t).view.emb (ix2 r j)) = ix2 (⟨256 * t.val + r.val, row_lt t r⟩ : Fin 8192) j := by
    blk_ext [(index_at t).2.2.2.2.2.2.1]
  rw [e, gatedOut_apply, row_h]
  rfl

theorem array_normed : (dats m 0 c).arrAt 7 cfg0.N = normedArr (argX m c) (argG m c) := by
  refine (dats m 0 c).arrAt_eq_of_covers 7 (normedArr (argX m c) (argG m c)) (by decide +kernel) fun t hf y => ?_
  blk_simp
  rw [after_normed]
  obtain ⟨r, j, rfl⟩ : ∃ (r : Fin 256) (j : Fin 1024), y = ix2 r j := ⟨_, _, eq_ix2 y⟩
  have e : ((win0_7.blk t).view.emb (ix2 r j)) = ix2 (⟨256 * t.val + r.val, row_lt t r⟩ : Fin 8192) j := by
    blk_ext [(index_at t).2.2.2.2.2.2.2.1]
  rw [e, normedOut_apply, row_x, row_gain]
  rfl

theorem array_halved : (dats m 0 c).arrAt 8 cfg0.N = halvedArr (argDy m c) := by
  refine (dats m 0 c).arrAt_eq_of_covers 8 (halvedArr (argDy m c)) (by decide +kernel) fun t hf y => ?_
  blk_simp
  rw [after_halved]
  obtain ⟨r, j, rfl⟩ : ∃ (r : Fin 256) (j : Fin 1024), y = ix2 r j := ⟨_, _, eq_ix2 y⟩
  have e : ((win0_8.blk t).view.emb (ix2 r j)) = ix2 (⟨256 * t.val + r.val, row_lt t r⟩ : Fin 8192) j := by
    blk_ext [(index_at t).2.2.2.2.2.2.2.2.1]
  rw [e, halvedOut_apply, block_dy]
  rfl

/-- The part of the gain's gradient that token `n` gives, zero outside the tokens. -/
def share (k : Fin 1024) (n : ℕ) : EReal := if h : n < 8192 then
  normedGradAt (argDy m c) (argX m c) (argG m c) (argWi m c) (argWo m c) ⟨n, h⟩ k
    * (argX m c (ix2 ⟨n, h⟩ k) * scale (rowOf (argX m c) ⟨n, h⟩)) else 0

/-- One tile's step of the gain's gradient. -/
theorem step_at (t : Fin cfg0.N) (e : Vec Ideal S1x1024 .f32) (k : Fin 1024)
    (he : e (ix2 0 k) = ∑ n ∈ Finset.range (256 * t.val), share m c k n) :
    gainOut (iblk m c 0 t) (iblk m c 1 t) (iblk m c 2 t) (weightsIn m c) (stacked (weightsOut m c)) e (ix2 0 k)
      = ∑ n ∈ Finset.range (256 * (t.val + 1)), share m c k n := by
  rw [gainOut_apply, he, Nat.mul_succ, Finset.sum_range_add, ← Fin.sum_univ_eq_sum_range (fun q => share m c k (256 * t.val + q))]
  refine congrArg (_ + ·) (Finset.sum_congr rfl fun r _ => ?_)
  rw [row_dy, row_x, row_h, block_x, weightsIn_eq, weightsOut_eq, share, dif_pos (row_lt t r)]

theorem gainGrad_sofar (n : ℕ) (hn : n < cfg0.N) (k : Fin 1024) :
    gainAt m c n hn (ix2 0 k) = ∑ q ∈ Finset.range (256 * (n + 1)), share m c k q := by
  induction n with
  | zero => exact step_at m c ⟨0, hn⟩ _ k ((gainClear_apply _).trans (by simp))
  | succ n ih => exact step_at m c ⟨n + 1, hn⟩ _ k (ih (Nat.lt_of_succ_lt hn))

theorem array_gainGrad : (dats m 0 c).arrAt 9 cfg0.N
    = gainGradArr (argDy m c) (argX m c) (argG m c) (argWi m c) (argWo m c) := by
  refine (dats m 0 c).arrAt_eq_of_covers 9 (gainGradArr (argDy m c) (argX m c) (argG m c) (argWi m c) (argWo m c)) (by decide +kernel) fun t hf y => ?_
  have ht : t.val = 31 := by
    have h1 := (flush0_9 t).mp hf
    have h2 : t.val < 32 := t.isLt
    omega
  blk_simp
  rw [after_gainGrad]
  obtain ⟨u, k, rfl⟩ : ∃ (u : Fin 1) (k : Fin 1024), y = ix2 u k := ⟨_, _, eq_ix2 y⟩
  obtain rfl : u = 0 := Subsingleton.elim _ _
  have e : ((win0_9.blk t).view.emb (ix2 0 k)) = ix2 (0 : Fin 1) k := by
    blk_ext [(index_at t).2.2.2.2.2.2.2.2.2]
  rw [e, gainGrad_sofar]
  simp only [ht]
  refine (Fin.sum_univ_eq_sum_range (share m c k) 8192).symm.trans ?_
  unfold gainGradArr
  exact Finset.sum_congr rfl fun n _ => dif_pos n.isLt

end Cert.Kernel5Ideal.Back

end
-- ==== Proof.BackReference.lean ====
/-
The feed-forward's backward pass: the reference read entry by entry.
-/
module

public import proofs.«01_k».proof.Proof.BackArrayIdeal

@[expose] public section

set_option maxRecDepth 16384

noncomputable section

/-!
# The reference's gradients

The reference recomputes the forward pass and takes its derivatives rule by rule. Each theorem reads one of its values
as the formula of the same name of the kernel. The gradients of the gate and of the token need real arguments; the
token itself may be infinite.
-/

namespace Cert.Kernel5Ideal.Back

open Idealize.ShloMosaic Idealize.ShloMosaic.TcCoe Idealize.ShloMosaic.Tactic
open Idealize.ShloMosaic.Pointwise
open Cert.Back Cert.Reference5Ideal.Read
open Cert.Kernel4Ideal.Feed (oneHalf rowLength offset normed gated)

variable (dy x : Vec Ideal S8192x1024 .f32) (g : Vec Ideal S1024 .f32) (wi : Vec Ideal S4x1024x1408 .bf16)
  (wo : Vec Ideal S4x704x1024 .bf16) (n : Fin 8192)

theorem reference_square :
    val_main_v12 (F := Ideal) x (ix2 n 0) = Ideal.div (∑ q : Fin 1024, x (ix2 n q) * x (ix2 n q)) rowLength + offset := by
  rw [val_main_v12_apply, val_main_v10_apply, val_main_v8_apply, val_main_v7_apply, val_main_v9_apply, val_main_v11_apply,
    val_main_cst_0_apply, val_main_cst_1_apply, val_main_cst_2_apply]
  have e2 : ∀ q : Fin 1024, idx_main_v7 (idx_main_v8 (ix2 n 0)) q = ix2 n q := fun q => by
    funext a; match a with | ⟨0, _⟩ => rfl | ⟨1, _⟩ => rfl
  simp only [e2, val_main_v6_apply]
  show Ideal.div (Ideal.ofBits .f32 0x00000000#32 + ∑ q : Fin 1024, x (ix2 n q) * x (ix2 n q)) rowLength + offset = _
  rw [Ideal.ofBits_zero_f32, zero_add]

theorem reference_scale : val_main_v13 (F := Ideal) x (ix2 n 0) = scale (rowOf x n) := by
  rw [val_main_v13_apply, reference_square]
  rfl

theorem reference_scaled (k : Fin 1024) : val_main_v18 (F := Ideal) x (ix2 n k) = x (ix2 n k) * scale (rowOf x n) := by
  rw [val_main_v18_apply, val_main_v17_apply]
  have e : idx_main_v17 (ix2 n k) = ix2 n 0 := by
    funext a; match a with | ⟨0, _⟩ => rfl | ⟨1, _⟩ => rfl
  rw [e, reference_scale]
  rfl

theorem reference_normed (k : Fin 1024) : val_main_v21 (F := Ideal) x g (ix2 n k) = normed (rowOf x n) (gains g) k := by
  rw [val_main_v21_apply, reference_scaled, val_main_v20_apply, val_main_v19_apply]
  have e : idx_main_v19 (idx_main_v20 (ix2 n k)) = ix1 k := by
    funext a; match a with | ⟨0, _⟩ => rfl
  rw [e]
  rfl

/-- The first weight by feature and column. -/
theorem reference_wi (k : Fin 1024) (j : Fin 5632) : val_main_v2 (F := Ideal) wi (ix2 k j) = byColumn wi k j := by
  rw [val_main_v2_apply, val_main_v1_apply, val_main_v0_apply]
  refine congrArg wi ?_
  have hj := j.isLt
  have hk := k.isLt
  funext a
  refine Fin.ext ?_
  match a with
  | ⟨0, _⟩ => show (k.val * 5632 + j.val) / 1408 % 4 = j.val / 1408; omega
  | ⟨1, _⟩ => show (k.val * 5632 + j.val) / 5632 = k.val; omega
  | ⟨2, _⟩ => show (k.val * 5632 + j.val) % 1408 = j.val % 1408; omega

/-- The second weight by hidden feature and feature. -/
theorem reference_wo (k : Fin 2816) (j : Fin 1024) : val_main_v4 (F := Ideal) wo (ix2 k j) = byFeature wo k j := by
  rw [val_main_v4_apply, val_main_v3_apply]
  refine congrArg wo ?_
  have hj := j.isLt
  have hk := k.isLt
  funext a
  refine Fin.ext ?_
  match a with
  | ⟨0, _⟩ => show (k.val * 1024 + j.val) / 720896 = k.val / 704; omega
  | ⟨1, _⟩ => show (k.val * 1024 + j.val) / 1024 % 704 = k.val % 704; omega
  | ⟨2, _⟩ => show (k.val * 1024 + j.val) % 1024 = j.val; omega

/-- The saved pre-activations are real when the gain and the weight are. -/
theorem saved_fine (hg : ∀ k, Fine (gains g k)) (hi : ∀ k j, Fine (byColumn wi k j)) (j : Fin 5632) :
    Fine (rowOf (saved x g wi) n j) := by
  show Fine (val_main_v22 (F := Ideal) x g wi (ix2 n j))
  rw [val_main_v22_apply]
  refine Fine.sum fun k => ?_
  have e1 : lidx_main_v22 (ix2 n j) k = ix2 n k := by
    funext a; match a with | ⟨0, _⟩ => rfl | ⟨1, _⟩ => rfl
  have e2 : ridx_main_v22 (ix2 n j) k = ix2 k j := by
    funext a; match a with | ⟨0, _⟩ => rfl | ⟨1, _⟩ => rfl
  rw [e1, e2, reference_normed, reference_wi]
  exact (normed_fine _ _ hg k).mul (hi k j)

theorem reference_pre (j : Fin 5632) : val_main_v23 (F := Ideal) x g wi (ix2 n j) = rowOf (saved x g wi) n j := by
  rw [val_main_v23_apply, val_main_v5_apply, val_main_cst_apply]
  show saved x g wi (ix2 n j) + Ideal.ofBits .f32 0x00000000#32 = _
  rw [Ideal.ofBits_zero_f32, add_zero]

theorem reference_gate (k : Fin 2816) : val_main_v24 (F := Ideal) x g wi (ix2 n k) = gate (rowOf (saved x g wi) n) k := by
  rw [val_main_v24_apply]
  refine Eq.trans (congrArg _ ?_) (reference_pre x g wi n ⟨k.val, by omega⟩)
  funext a; match a with | ⟨0, _⟩ => rfl | ⟨1, _⟩ => rfl

theorem reference_up (k : Fin 2816) : val_main_v25 (F := Ideal) x g wi (ix2 n k) = up (rowOf (saved x g wi) n) k := by
  rw [val_main_v25_apply]
  refine Eq.trans (congrArg _ ?_) (reference_pre x g wi n ⟨2816 + k.val, by omega⟩)
  funext a; match a with | ⟨0, _⟩ => rfl | ⟨1, _⟩ => rfl

theorem reference_logistic (k : Fin 2816) :
    val_main_v26_2 (F := Ideal) x g wi (ix2 n k) = logistic (gate (rowOf (saved x g wi) n) k) := by
  rw [val_main_v26_2_apply, val_main_call0_v4_apply, val_main_call0_v3_apply, val_main_call0_v2_apply, val_main_call0_v1_apply,
    val_main_call0_v0_apply, val_main_call0_cst_apply, val_main_call0_cst_0_apply, reference_gate]
  show Ideal.div (Ideal.ofBits .f32 0x3F800000#32) (Ideal.ofBits .f32 0x3F800000#32 + Ideal.exp (-_)) = _
  rw [Ideal.ofBits_one_f32]
  rfl

theorem reference_slope (k : Fin 2816) :
    val_main_v26_1 (F := Ideal) x g wi (ix2 n k) = logistic (gate (rowOf (saved x g wi) n) k)
      * (1 - logistic (gate (rowOf (saved x g wi) n) k)) := by
  rw [val_main_v26_1_apply, val_main_call0_v7_apply, val_main_call0_v6_apply, val_main_call0_cst_1_apply, reference_logistic]
  show _ * (Ideal.ofBits .f32 0x3F800000#32 - _) = _
  rw [Ideal.ofBits_one_f32]

theorem reference_silu (k : Fin 2816) :
    val_main_v26_0 (F := Ideal) x g wi (ix2 n k)
      = gate (rowOf (saved x g wi) n) k * logistic (gate (rowOf (saved x g wi) n) k) := by
  rw [val_main_v26_0_apply, reference_gate, reference_logistic]
  rfl

theorem reference_gated (k : Fin 2816) :
    val_main_v27 (F := Ideal) x g wi (ix2 n k) = gated (gate (rowOf (saved x g wi) n) k) (up (rowOf (saved x g wi) n) k) := by
  rw [val_main_v27_apply, reference_silu, reference_up]
  rfl

theorem reference_halved (k : Fin 1024) : val_main_v34 (F := Ideal) dy (ix2 n k) = oneHalf * dy (ix2 n k) := by
  rw [val_main_v34_apply, val_main_v33_apply, val_main_v32_apply, val_main_cst_5_apply]
  refine congrArg (fun i => oneHalf * dy i) ?_
  have hn := n.isLt
  have hk := k.isLt
  funext a
  refine Fin.ext ?_
  match a with
  | ⟨0, _⟩ => first | rfl | (show (n.val * 1024 + k.val) / 1024 = n.val; omega)
  | ⟨1, _⟩ => first | rfl | (show (n.val * 1024 + k.val) % 1024 = k.val; omega)

theorem reference_gatedGrad (k : Fin 2816) :
    val_main_v35 (F := Ideal) dy wo (ix2 n k) = gatedGrad (rowOf dy n) (byFeature wo) k := by
  rw [val_main_v35_apply, gatedGrad]
  refine Finset.sum_congr rfl fun j _ => congrArg₂ (· * ·) ?_ ?_
  · refine Eq.trans (congrArg _ ?_) (reference_halved dy n j)
    funext a; match a with | ⟨0, _⟩ => rfl | ⟨1, _⟩ => rfl
  · refine Eq.trans (congrArg _ ?_) (reference_wo wo k j)
    funext a; match a with | ⟨0, _⟩ => rfl | ⟨1, _⟩ => rfl

theorem reference_upGrad (k : Fin 2816) :
    val_main_v36 (F := Ideal) dy x g wi wo (ix2 n k) = upGrad (rowOf dy n) (rowOf (saved x g wi) n) (byFeature wo) k := by
  rw [val_main_v36_apply, reference_silu, reference_gatedGrad]
  exact mul_comm _ _

section Real

variable (hd : ∀ n j, Fine (rowOf dy n j)) (hg : ∀ k, Fine (gains g k)) (hi : ∀ k j, Fine (byColumn wi k j))
  (ho : ∀ k j, Fine (byFeature wo k j))
include hd hg hi ho

theorem reference_gateGrad (k : Fin 2816) :
    val_main_v38 (F := Ideal) dy x g wi wo (ix2 n k) = gateGrad (rowOf dy n) (rowOf (saved x g wi) n) (byFeature wo) k := by
  rw [val_main_v38_apply, val_main_call1_v1_apply, val_main_call1_v2_apply, val_main_call1_v0_apply, val_main_v37_apply,
    reference_gate, reference_logistic, reference_slope, reference_gatedGrad, reference_up]
  exact gate_grad ((slope_fine _ _ (hd n) ho k).mul (saved_fine x g wi n hg hi _)) (saved_fine x g wi n hg hi _)

theorem reference_preGrad (j : Fin 5632) :
    val_main_v39 (F := Ideal) dy x g wi wo (ix2 n j) = preGrad (rowOf dy n) (rowOf (saved x g wi) n) (byFeature wo) j := by
  unfold val_main_v39 preGrad
  by_cases hj : j.val < 2816
  · rw [dif_pos hj]
    refine Eq.trans ?_ (reference_gateGrad dy x g wi wo n hd hg hi ho ⟨j.val, hj⟩)
    generalize val_main_v38 (F := Ideal) dy x g wi wo = a
    generalize val_main_v36 (F := Ideal) dy x g wi wo = b
    exact concatenate_pair_apply_left (t := Cert.Reference5Ideal.S8192x5632) 1 a b _ (ix2 n j) rfl (ix2 n ⟨j.val, hj⟩) fun u => by
      match u with | ⟨0, _⟩ => rfl | ⟨1, _⟩ => rfl
  · rw [dif_neg hj]
    refine Eq.trans ?_ (reference_upGrad dy x g wi wo n ⟨j.val - 2816, by omega⟩)
    generalize val_main_v38 (F := Ideal) dy x g wi wo = a
    generalize val_main_v36 (F := Ideal) dy x g wi wo = b
    refine concatenate_pair_apply_right (t := Cert.Reference5Ideal.S8192x5632) 1 a b _ (ix2 n j) rfl rfl (ix2 n ⟨j.val - 2816, by omega⟩) (fun u hu => ?_) ?_
    · match u with
        | ⟨0, _⟩ => rfl
        | ⟨1, _⟩ => exact absurd rfl hu
    · show j.val - 2816 + 2816 = j.val
      omega

theorem reference_rowGrad (k : Fin 1024) :
    val_main_v40 (F := Ideal) dy x g wi wo (ix2 n k) = normedGradAt dy x g wi wo n k := by
  rw [val_main_v40_apply]
  refine Finset.sum_congr rfl fun j _ => congrArg₂ (· * ·) ?_ ?_
  · refine Eq.trans (congrArg _ ?_) (reference_preGrad dy x g wi wo n hd hg hi ho j)
    funext a; match a with | ⟨0, _⟩ => rfl | ⟨1, _⟩ => rfl
  · refine Eq.trans (congrArg _ ?_) (reference_wi wi k j)
    funext a; match a with | ⟨0, _⟩ => rfl | ⟨1, _⟩ => rfl

theorem reference_scaledGrad (k : Fin 1024) :
    val_main_v45 (F := Ideal) dy x g wi wo (ix2 n k) = normedGradAt dy x g wi wo n k * gains g k := by
  rw [val_main_v45_apply, reference_rowGrad dy x g wi wo n hd hg hi ho, val_main_v44_apply, val_main_v19_apply]
  refine congrArg (normedGradAt dy x g wi wo n k * g ·) ?_
  funext a; match a with | ⟨0, _⟩ => rfl

/-- The norm's derivative along the token, the mean's share. -/
theorem reference_mean (k : Fin 1024) :
    val_main_v57 (F := Ideal) dy x g wi wo (ix2 n k) = Ideal.div ((∑ q : Fin 1024, x (ix2 n q) * (normedGradAt dy x g wi wo n q * gains g q))
      * (-oneHalf * Ideal.div (scale (rowOf x n)) (Ideal.div (∑ q : Fin 1024, x (ix2 n q) * x (ix2 n q)) rowLength + offset))) rowLength := by
  rw [val_main_v57_apply, val_main_v56_apply, Fin.sum_univ_one]
  have e0 : idx_main_v56 (idx_main_v57 (ix2 n k)) 0 = ix2 n 0 := by
    funext a; match a with | ⟨0, _⟩ => rfl | ⟨1, _⟩ => rfl
  have e1 : ∀ q : Fin 1024, idx_main_v48 (idx_main_v49 (ix2 n 0)) q = ix2 n q := fun q => by
    funext a; match a with | ⟨0, _⟩ => exact Fin.ext (by show n.val * 1 + 0 = n.val; omega) | ⟨1, _⟩ => rfl
  rw [e0, val_main_v55_apply, val_main_v54_apply, val_main_v53_apply, val_main_v49_apply, val_main_v48_apply, val_main_v16_apply,
    val_main_v15_apply, val_main_v14_apply, reference_scale, reference_square, val_main_cst_3_apply, val_main_cst_8_apply,
    val_main_cst_9_apply, val_main_cst_10_apply]
  simp only [e1, val_main_v47_apply, reference_scaledGrad dy x g wi wo n hd hg hi ho]
  show Ideal.ofBits .f32 0x00000000#32 + Ideal.div ((Ideal.ofBits .f32 0x00000000#32
    + ∑ q : Fin 1024, x (ix2 n q) * (normedGradAt dy x g wi wo n q * gains g q)) * (Ideal.ofBits .f32 0xBF000000#32 * _)) rowLength = _
  rw [Ideal.ofBits_zero_f32, zero_add, zero_add, negHalf_eq]
  rfl

theorem reference_tokenGrad : val_main_v61 (F := Ideal) dy x g wi wo = tokenGradArr dy x g wi wo := by
  funext i
  obtain ⟨n, k, rfl⟩ : ∃ (n : Fin 8192) (k : Fin 1024), i = ix2 n k := ⟨_, _, eq_ix2 i⟩
  refine Eq.trans ?_ (token_grad (rowOf dy n) (rowOf x n) (hd n) (fun q => normedGradAt dy x g wi wo n q * gains g q)
    (fun q => (rowGrad_fine _ _ _ _ (hd n) ho (saved_fine x g wi n hg hi) hi q).mul (hg q)) k)
  rw [val_main_v61_apply, val_main_v59_apply, val_main_v60_apply, val_main_v58_apply, val_main_v52_apply, val_main_v51_apply,
    val_main_v50_apply, reference_scaledGrad dy x g wi wo n hd hg hi ho, reference_mean dy x g wi wo n hd hg hi ho]
  have e : idx_main_v50 (ix2 n k) = ix2 n 0 := by
    funext a; match a with | ⟨0, _⟩ => rfl | ⟨1, _⟩ => rfl
  rw [e, reference_scale]
  rfl

theorem reference_hiddenGrad : val_main_v62 (F := Ideal) dy x g wi wo = preGradArr dy x g wi wo := by
  funext i
  obtain ⟨n, j, rfl⟩ : ∃ (n : Fin 8192) (j : Fin 5632), i = ix2 n j := ⟨_, _, eq_ix2 i⟩
  rw [val_main_v62_apply]
  exact reference_preGrad dy x g wi wo n hd hg hi ho j

theorem reference_gainGrad : val_main_v68 (F := Ideal) dy x g wi wo = gainGradArr dy x g wi wo := by
  funext i
  obtain ⟨u, k, rfl⟩ : ∃ (u : Fin 1) (k : Fin 1024), i = ix2 u k := ⟨_, _, eq_ix2 i⟩
  rw [val_main_v68_apply, val_main_v46_apply, Fin.sum_univ_one, val_main_v43_apply, val_main_v42_apply, val_main_cst_6_apply,
    val_main_cst_7_apply]
  have e : ∀ n : Fin 8192, idx_main_v42 (idx_main_v43 (idx_main_v46 (idx_main_v68 (ix2 u k)) 0)) n = ix2 n k := fun n => by
    funext a; match a with
      | ⟨0, _⟩ => rfl
      | ⟨1, _⟩ => exact Fin.ext (by show 0 * 1024 + k.val = k.val; omega)
  simp only [e, val_main_v41_apply, reference_scaled, fun n => reference_rowGrad dy x g wi wo n hd hg hi ho k]
  show Ideal.ofBits .f32 0x00000000#32 + (Ideal.ofBits .f32 0x00000000#32 + ∑ n : Fin 8192, (_ : EReal) * _) = ∑ n : Fin 8192, (_ : EReal)
  rw [Ideal.ofBits_zero_f32, zero_add, zero_add]
  exact Finset.sum_congr rfl fun n _ => mul_comm _ _

end Real

theorem reference_gatedArr : val_main_v63 (F := Ideal) x g wi = gatedArr x g wi := by
  funext i
  obtain ⟨n, k, rfl⟩ : ∃ (n : Fin 8192) (k : Fin 2816), i = ix2 n k := ⟨_, _, eq_ix2 i⟩
  rw [val_main_v63_apply]
  exact reference_gated x g wi n k

theorem reference_normedArr : val_main_v64 (F := Ideal) x g = normedArr x g := by
  funext i
  obtain ⟨n, k, rfl⟩ : ∃ (n : Fin 8192) (k : Fin 1024), i = ix2 n k := ⟨_, _, eq_ix2 i⟩
  rw [val_main_v64_apply]
  exact reference_normed x g n k

theorem reference_halvedArr : val_main_v67 (F := Ideal) dy = halvedArr dy := by
  funext i
  rw [val_main_v67_apply, val_main_v66_apply, val_main_v65_apply, val_main_cst_11_apply]
  rfl

end Cert.Kernel5Ideal.Back

end
-- ==== Proof.FeedBackward.lean ====
/-
The feed-forward's backward pass: its precondition, its frame and its gradients.
-/
module

public import proofs.«01_k».proof.Defs
public import proofs.«01_k».proof.Proof.Finite
public import proofs.«01_k».proof.Proof.BackFrame
public import proofs.«01_k».proof.Proof.BackReference
public import proofs.«01_k».proof.Proof.Gen.Kernel5
public import proofs.«01_k».proof.Proof.Gen.Kernel5Ideal
public import proofs.«01_k».proof.Proof.Gen.Reference5Ideal.Run
public import proofs.«01_k».proof.Proof.Gen.Reference5Ideal.Read
public import Idealize.ShloMosaic.Adequacy

@[expose] public section

set_option maxRecDepth 16384

noncomputable section

/-!
# The backward pass of the feed-forward

The precondition bounds the incoming gradient, the gain and the two weights, but not the tokens. Under it the six results of the
kernel are those of the reference.
-/

namespace Cert.Proof

open Idealize.ShloMosaic Idealize.ShloMosaic.TcCoe
open Idealize.ShloMosaic.Pointwise
open Cert.Back Cert.Kernel5Ideal.Back Cert.Kernel5Ideal.Gen Cert.Reference5Ideal.Read

instance boundedFacts : Cert.Pre_bounded.Facts where
  bitsLt_bf16_f32 := by decide
  bcast_S_S8192x1024 := by decide
  bcast_S_S1024 := by decide
  bcast_S_S4x1024x1408 := by decide
  bcast_S_S4x704x1024 := by decide

/-- An entry of an array that passes the test is a real number. -/
theorem fine_of_flag {s : Shape} (x : Vec Ideal s .f32) (hb : Cert.Pre_bounded.S_.BroadcastsInDim s (![] : Fin 0 → Fin s.rank)) (i : s.Idx)
    (h : cmpf (F := Ideal) (φ := .f32) .olt (Host.absf (F := Ideal) (φ := .f32) x)
      (broadcastInDim s ![] hb (constant (F := Ideal) Cert.Pre_bounded.S_ .f32 0x7F800000#32)) i = 1#1) : Fine (x i) := by
  refine ⟨_, Cert.Fox.real_of_abs ?_⟩
  have := Cert.Fox.lt_of_flag h
  rw [← Cert.Fox.bound_top]
  exact this

/-- The same for an array that is widened before the test. -/
theorem fine_of_wide {s : Shape} (x : Vec Ideal s .bf16) (hb : Cert.Pre_bounded.S_.BroadcastsInDim s (![] : Fin 0 → Fin s.rank)) (i : s.Idx)
    (h : cmpf (F := Ideal) (φ := .f32) .olt (Host.absf (F := Ideal) (φ := .f32) (extf .f32 x Cert.Pre_bounded.Facts.bitsLt_bf16_f32))
      (broadcastInDim s ![] hb (constant (F := Ideal) Cert.Pre_bounded.S_ .f32 0x7F800000#32)) i = 1#1) : Fine (x i) := by
  refine ⟨_, Cert.Fox.real_of_abs ?_⟩
  have := Cert.Fox.lt_of_flag h
  rw [← Cert.Fox.bound_top]
  exact this

variable (m : (ℓ : Loc Cert.Kernel5Ideal.nD Cert.Kernel5Ideal.τ Cert.Kernel5Ideal.sig) → Buf (Elt Ideal) ℓ)
  (P : Cert.Pre_Kernel5Ideal_bounded m) (c : Dev Cert.Kernel5Ideal.nD)
include P

theorem fine_dy (n : Fin 8192) (j : Fin 1024) : Fine (rowOf (argDy m c) n j) :=
  fine_of_flag (argDy m c) _ (ix2 n j) (congrFun (P c).1 _)

theorem fine_gain (k : Fin 1024) : Fine (gains (argG m c) k) :=
  fine_of_flag (argG m c) _ (ix1 k) (congrFun (P c).2.1 _)

theorem fine_wi (k : Fin 1024) (j : Fin 5632) : Fine (byColumn (argWi m c) k j) :=
  fine_of_wide (argWi m c) _ _ (congrFun (P c).2.2.1 _)

theorem fine_wo (k : Fin 2816) (j : Fin 1024) : Fine (byFeature (argWo m c) k j) :=
  fine_of_wide (argWo m c) _ _ (congrFun (P c).2.2.2 _)

omit P in
/-- The reference leaves its arguments alone and comes to rest. -/
theorem frame_reference_back : Cert.quiescent_Reference5Ideal := fun m ρ _ =>
  (θ_run Cert.Reference5Ideal.defs _ _).mono (fun r h => ⟨fun c => (h c).2.2.2.2.2.2,
      Idealize.ShloMosaic.sem_eq_zero_of_no_sems (by decide) r.2⟩)
    (Cert.Reference5Ideal.Value.run (F := Ideal) m ρ)

omit P in
/-- On arguments whose gradient, gain and weights are finite the kernel's six results are the reference's. -/
theorem same_back : Cert.algebraic_Kernel5Ideal_Reference5Ideal_pre_bounded := by
  intro m g m' g' P he
  refine ⟨fun c => tokenGradArr (argDy m c) (argX m c) (argG m c) (argWi m c) (argWo m c),
    fun c => preGradArr (argDy m c) (argX m c) (argG m c) (argWi m c) (argWo m c),
    fun c => gatedArr (argX m c) (argG m c) (argWi m c), fun c => normedArr (argX m c) (argG m c), fun c => halvedArr (argDy m c),
    fun c => gainGradArr (argDy m c) (argX m c) (argG m c) (argWi m c) (argWo m c), ?_, ?_⟩
  · exact (θ_run Cert.Kernel5Ideal.defs _ _).mono (fun r h c =>
      ⟨((h.1 c).1 4).trans (array_dx m c), ((h.1 c).1 5).trans (array_hidden m c), ((h.1 c).1 6).trans (array_gated m c),
        ((h.1 c).1 7).trans (array_normed m c), ((h.1 c).1 8).trans (array_halved m c), ((h.1 c).1 9).trans (array_gainGrad m c),
        arguments_kept m (dats m) (A_eq m) r h.1 c⟩) (Cert.Kernel5Ideal.Back.run m g)
  · refine (θ_run Cert.Reference5Ideal.defs _ _).mono (fun r h c => ?_) (Cert.Reference5Ideal.Value.run (F := Ideal) m' g')
    obtain ⟨h0, h1, h2, h3, h4, h5, h6⟩ := h c
    obtain ⟨e0, e1, e2, e3, e4⟩ := he c
    rw [val_main_v61_eq, e0, e1, e2, e3, e4] at h0
    rw [val_main_v62_eq, e0, e1, e2, e3, e4] at h1
    rw [val_main_v63_eq, e1, e2, e3] at h2
    rw [val_main_v64_eq, e1, e2] at h3
    rw [val_main_v67_eq, e0] at h4
    rw [val_main_v68_eq, e0, e1, e2, e3, e4] at h5
    have hd := fine_dy m P c
    have hg := fine_gain m P c
    have hi := fine_wi m P c
    have ho := fine_wo m P c
    exact ⟨h0.trans (reference_tokenGrad _ _ _ _ _ hd hg hi ho), h1.trans (reference_hiddenGrad _ _ _ _ _ hd hg hi ho),
      h2.trans (reference_gatedArr _ _ _), h3.trans (reference_normedArr _ _), h4.trans (reference_halvedArr _),
      h5.trans (reference_gainGrad _ _ _ _ _ hd hg hi ho), h6⟩

end Cert.Proof

end
-- ==== Proof.FeedForward.lean ====
/-
The feed-forward's forward pass: the reference read as the same formula, and the claims of the kernel.
-/
module

public import proofs.«01_k».proof.Defs
public import proofs.«01_k».proof.Proof.FeedFrame
public import proofs.«01_k».proof.Proof.FeedValueIdeal
public import proofs.«01_k».proof.Proof.Gen.Kernel4
public import proofs.«01_k».proof.Proof.Gen.Kernel4Ideal
public import proofs.«01_k».proof.Proof.Gen.Reference4Ideal.Run
public import proofs.«01_k».proof.Proof.Gen.Reference4Ideal.Read
public import Idealize.ShloMosaic.Adequacy

@[expose] public section

set_option maxRecDepth 16384

noncomputable section

namespace Cert.Proof

open Idealize.ShloMosaic Idealize.ShloMosaic.TcCoe Idealize.ShloMosaic.Tactic Idealize.SL.Sem
open Idealize.ShloMosaic.Pointwise
open Cert.Kernel4Ideal.Feed
open Cert.Reference4Ideal.Read

variable (x : Vec Ideal Cert.Reference4Ideal.S8192x1024 .f32) (g : Vec Ideal Cert.Reference4Ideal.S1024 .f32)
  (wi : Vec Ideal Cert.Reference4Ideal.S4x1024x1408 .bf16) (wo : Vec Ideal Cert.Reference4Ideal.S4x704x1024 .bf16)

/-- The reference's normalised token. -/
theorem reference_normed (n : Fin 8192) (k : Fin 1024) :
    val_main_v12 (F := Ideal) x g (ix2 n k) = normed (fun q => x (ix2 n q)) (fun q => g (ix1 q)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply]
  have e1 : idx_main_v10 (idx_main_v11 (ix2 n k)) = ix1 k := by
    funext a; match a with | ⟨0, _⟩ => rfl
  have e2 : ∀ q : Fin 1024, idx_main_v1 (idx_main_v2 (idx_main_v8 (ix2 n k))) q = ix2 n q := fun q => by
    funext a; match a with | ⟨0, _⟩ => rfl | ⟨1, _⟩ => rfl
  rw [e1]
  simp only [e2]
  show x (ix2 n k) * Ideal.rsqrt (Ideal.div (Ideal.ofBits .f32 0x00000000#32 + ∑ q : Fin 1024, x (ix2 n q) * x (ix2 n q)) rowLength + offset)
    * g (ix1 k) = _
  rw [Ideal.ofBits_zero_f32, zero_add]
  rfl

/-- The reference's pre-activation at column `j`. -/
theorem reference_hidden (n : Fin 8192) (j : Fin 5632) :
    val_main_v16 (F := Ideal) x g wi (ix2 n j)
      = hiddenAt x g wi n ⟨j.val / 1408, by omega⟩ ⟨j.val % 1408, Nat.mod_lt _ (by omega)⟩ := by
  rw [val_main_v16_apply, hiddenAt, pre]
  refine Finset.sum_congr rfl fun k _ => congrArg₂ (· * ·) ?_ ?_
  · refine Eq.trans (congrArg _ ?_) (reference_normed x g n k)
    funext a; match a with | ⟨0, _⟩ => rfl | ⟨1, _⟩ => rfl
  · rw [val_main_v15_apply, val_main_v14_apply, val_main_v13_apply]
    refine congrArg wi ?_
    have hj := j.isLt
    have hk := k.isLt
    funext a
    refine Fin.ext ?_
    match a with
    | ⟨0, _⟩ => show (k.val * 5632 + j.val) / 1408 % 4 = j.val / 1408; omega
    | ⟨1, _⟩ => show (k.val * 5632 + j.val) / 5632 = k.val; omega
    | ⟨2, _⟩ => show (k.val * 5632 + j.val) % 1408 = j.val % 1408; omega

/-- The reference's gated hidden value. -/
theorem reference_activity (n : Fin 8192) (k : Fin 2816) :
    val_main_v20 (F := Ideal) x g wi (ix2 n k) = activity x g wi n k := by
  have hk := k.isLt
  have ea : val_main_v17 (F := Ideal) x g wi (ix2 n k)
      = hiddenAt x g wi n ⟨k.val / 1408, by omega⟩ ⟨k.val % 1408, Nat.mod_lt _ (by omega)⟩ := by
    rw [val_main_v17_apply]
    refine Eq.trans (congrArg _ ?_) (reference_hidden x g wi n ⟨k.val, by omega⟩)
    funext a; match a with | ⟨0, _⟩ => rfl | ⟨1, _⟩ => rfl
  have eb : val_main_v18 (F := Ideal) x g wi (ix2 n k)
      = hiddenAt x g wi n ⟨2 + k.val / 1408, by omega⟩ ⟨k.val % 1408, Nat.mod_lt _ (by omega)⟩ := by
    rw [val_main_v18_apply]
    refine (Eq.trans (congrArg _ ?_) (reference_hidden x g wi n ⟨2816 + k.val, by omega⟩)).trans ?_
    · funext a; match a with | ⟨0, _⟩ => rfl | ⟨1, _⟩ => rfl
    · exact congrArg₂ (hiddenAt x g wi n) (Fin.ext (by show (2816 + k.val) / 1408 = 2 + k.val / 1408; omega))
        (Fin.ext (by show (2816 + k.val) % 1408 = k.val % 1408; omega))
  rw [val_main_v20_apply, val_main_v19_apply, val_main_call0_v5_apply, val_main_call0_v4_apply, val_main_call0_v3_apply,
    val_main_call0_v2_apply, val_main_call0_v1_apply, val_main_call0_v0_apply, val_main_call0_cst_apply,
    val_main_call0_cst_0_apply, ea, eb]
  unfold activity gated
  generalize hiddenAt x g wi n _ _ = a
  show a * Ideal.div (Ideal.ofBits .f32 0x3F800000#32) (Ideal.ofBits .f32 0x3F800000#32 + Ideal.exp (-a)) * _ = _
  rw [Ideal.ofBits_one_f32]

theorem reference_saved : val_main_v27 (F := Ideal) x g wi = savedArr x g wi := by
  funext i
  obtain ⟨n, j, rfl⟩ : ∃ (n : Fin 8192) (j : Fin 5632), i = ix2 n j := ⟨_, _, eq_ix2 i⟩
  rw [val_main_v27_apply]
  exact reference_hidden x g wi n j

theorem reference_tokens : val_main_v26 (F := Ideal) x g wi wo = tokensArr x g wi wo := by
  funext i
  obtain ⟨n, j, rfl⟩ : ∃ (n : Fin 8192) (j : Fin 1024), i = ix2 n j := ⟨_, _, eq_ix2 i⟩
  rw [val_main_v26_apply, val_main_v25_apply, val_main_v24_apply, val_main_v23_apply, val_main_cst_2_apply]
  show x (ix2 n j) + oneHalf * ∑ k : Fin 2816, (_ : EReal) = x (ix2 n j) + oneHalf * ∑ k : Fin 2816, (_ : EReal)
  refine congrArg (x (ix2 n j) + oneHalf * ·) (Finset.sum_congr rfl fun k _ => congrArg₂ (· * ·) ?_ ?_)
  · refine Eq.trans (congrArg _ ?_) (reference_activity x g wi n k)
    funext a; match a with | ⟨0, _⟩ => rfl | ⟨1, _⟩ => rfl
  · rw [val_main_v22_apply, val_main_v21_apply]
    refine congrArg wo ?_
    have hj := j.isLt
    have hk := k.isLt
    funext a
    refine Fin.ext ?_
    match a with
    | ⟨0, _⟩ => show (k.val * 1024 + j.val) / 720896 = k.val / 704; omega
    | ⟨1, _⟩ => show (k.val * 1024 + j.val) / 1024 % 704 = k.val % 704; omega
    | ⟨2, _⟩ => show (k.val * 1024 + j.val) % 1024 = j.val; omega

theorem frame_reference_feed : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- The kernel's tokens and saved pre-activations are the reference's, for all arguments. -/
theorem same_feed : Cert.algebraic_Kernel4Ideal_Reference4Ideal := by
  intro m g m' g' _ he
  refine ⟨fun c => tokensArr (argX m c) (argG m c) (argWi m c) (argWo m c), fun c => savedArr (argX m c) (argG m c) (argWi m c), ?_, ?_⟩
  · exact (θ_run Cert.Kernel4Ideal.defs _ _).mono (fun r h c =>
      ⟨((h.1 c).1 2).trans (array_tokens m c), ((h.1 c).1 3).trans (array_saved m c),
        arguments_kept m (dats m) (A_eq m) r h.1 c⟩) (Cert.Kernel4Ideal.Feed.run m g)
  · refine (θ_run Cert.Reference4Ideal.defs _ _).mono (fun r h c => ?_) (Cert.Reference4Ideal.Value.run (F := Ideal) m' g')
    obtain ⟨h0, h1, h2⟩ := h c
    obtain ⟨e0, e1, e2, e3⟩ := he c
    rw [val_main_v26_eq, e0, e1, e2, e3] at h0
    rw [val_main_v27_eq, e0, e1, e2] at h1
    exact ⟨h0.trans (reference_tokens _ _ _ _), h1.trans (reference_saved _ _ _), h2⟩

end Cert.Proof

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.PrintedFrame
public import proofs.«01_k».proof.Proof.Launch
public import proofs.«01_k».proof.Proof.Tail
public import proofs.«01_k».proof.Proof.Reference
public import proofs.«01_k».proof.Proof.Finite
public import proofs.«01_k».proof.Proof.WeightGrads
public import proofs.«01_k».proof.Proof.FeedBackward
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.FeedForward
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read

@[expose] public section

noncomputable section

namespace Cert.Proof

open Idealize.ShloMosaic Idealize.ShloMosaic.TcCoe Idealize.SL.Sem Cert.Fox Cert.KernelIdeal.Gen

/-- The reference's program ends, with its arguments unchanged and every counter at zero. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Two matrices that agree at every head's lanes and every sequence's rows are equal. -/
theorem flat_ext {x y : Vec Ideal Cert.KernelIdeal.S8192x512 .f32}
    (e : ∀ b r h l, x (ix2 (row b r) (lane h l)) = y (ix2 (row b r) (lane h l))) : x = y := by
  funext j
  obtain ⟨a, b, rfl⟩ : ∃ (a : Fin 8192) (b : Fin 512), j = ix2 a b := ⟨_, _, eq_ix2 j⟩
  rw [← row_eta a, ← lane_eta b]
  exact e _ _ _ _

theorem gates_ext {x y : Vec Ideal Cert.KernelIdeal.S2x8x4096 .f32}
    (e : ∀ b h r, x (ix3 b h r) = y (ix3 b h r)) : x = y := by
  funext j
  obtain ⟨b, h, r, rfl⟩ : ∃ (b : Fin 2) (h : Fin 8) (r : Fin 4096), j = ix3 b h r := ⟨_, _, _, eq_ix3 j⟩
  exact e _ _ _

/-- The four gradients of the kernel. -/
theorem run_kernel (m : (ℓ : Loc Cert.KernelIdeal.nD Cert.KernelIdeal.τ Cert.KernelIdeal.sig) → Buf (Elt Ideal) ℓ)
    (g : Dev Cert.KernelIdeal.nD → PrngReg) (P : Cert.Pre_KernelIdeal_finite m) :
    θ_run Cert.KernelIdeal.defs (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v42)
          = joined (queries0Arr (argsOf m c)) (queries1Arr (argsOf m c))
        ∧ r.2.mem ((c.tc : Thread Cert.KernelIdeal.nD Cert.KernelIdeal.τ).loc Cert.KernelIdeal.main_v34_2) = flat (argsOf m c).dk
        ∧ r.2.mem ((c.tc : Thread Cert.KernelIdeal.nD Cert.KernelIdeal.τ).loc Cert.KernelIdeal.main_v34_3) = flat (argsOf m c).dv
        ∧ r.2.mem ((c.tc : Thread Cert.KernelIdeal.nD Cert.KernelIdeal.τ).loc Cert.KernelIdeal.main_v51)
          = gateRows (queries0Arr (argsOf m c)) (queries1Arr (argsOf m c)) (gatesArr (argsOf m c))) :=
  (θ_run Cert.KernelIdeal.defs _ _).mono (fun r h c =>
    ⟨(Pipeline.FramePost.rest_eq h c Cert.KernelIdeal.main_v42 (by decide)).trans (end_queries (isReal m P c)),
      (Pipeline.FramePost.out_eq h c 9).trans (array_keys (isReal m P c)),
      (Pipeline.FramePost.out_eq h c 10).trans (array_values (isReal m P c)),
      (Pipeline.FramePost.rest_eq h c Cert.KernelIdeal.main_v51 (by decide)).trans (end_gates (isReal m P c))⟩)
    (run_main m g)

/-- On finite arguments the kernel's gradients are the reference's. -/
theorem same_gradients : Cert.algebraic_KernelIdeal_ReferenceIdeal_pre_finite := by
  intro m g m' g' P he
  refine ⟨fun c => joined (queries0Arr (argsOf m c)) (queries1Arr (argsOf m c)), fun c => flat (argsOf m c).dk,
    fun c => flat (argsOf m c).dv, fun c => gateRows (queries0Arr (argsOf m c)) (queries1Arr (argsOf m c)) (gatesArr (argsOf m c)), ?_, ?_⟩
  · exact (θ_run Cert.KernelIdeal.defs _ _).mono (fun r h c =>
      ⟨(h.1 c).1, (h.1 c).2.1, (h.1 c).2.2.1, (h.1 c).2.2.2, h.2.1 c⟩)
      (θ_run_and (run_kernel m g P) (frame_ideal m g))
  · refine (θ_run Cert.ReferenceIdeal.defs _ _).mono (fun r h c => ?_) (Cert.ReferenceIdeal.Value.run (F := Ideal) m' g')
    obtain ⟨h0, h1, h2, h3, h4⟩ := h c
    obtain ⟨e0, e1, e2, e3, e4⟩ := he c
    have H := isReal m P c
    rw [Cert.ReferenceIdeal.Read.val_main_v89_eq, e0, e1, e2, e3, e4] at h0
    rw [Cert.ReferenceIdeal.Read.val_main_v87_eq, e0, e1, e2, e3, e4] at h1
    rw [Cert.ReferenceIdeal.Read.val_main_v85_eq, e0, e1, e3, e4] at h2
    rw [Cert.ReferenceIdeal.Read.val_main_v81_eq, e0, e1, e2, e3, e4] at h3
    refine ⟨h0.trans ?_, h1.trans ?_, h2.trans ?_, h3.trans ?_, h4⟩
    · exact flat_ext fun b r h l => (Cert.ReferenceIdeal.Read.ref_dq H.hq H.hk H.hv H.hd H.hc b h r l).trans (joined_real b r h l).symm
    · exact flat_ext fun b r h l => (Cert.ReferenceIdeal.Read.ref_dk H.hq H.hk H.hv H.hd H.hc b h r l).trans (flat_apply _ b h r l).symm
    · exact flat_ext fun b r h l => (Cert.ReferenceIdeal.Read.ref_dv H.hq H.hk H.hd H.hc b h r l).trans (flat_apply _ b h r l).symm
    · exact gates_ext fun b h r => (Cert.ReferenceIdeal.Read.ref_dc H.hq H.hk H.hv H.hd H.hc b h r).trans (gateRows_real b h r).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, finiteFacts, boundedFacts,
  fun m ρ _ => Cert.Kernel.Gen.frame_printed m ρ, fun m ρ _ => frame_ideal m ρ, fun m ρ _ => frame_ideal m ρ,
  frame_reference, fun m ρ _ => frame_reference m ρ trivial,
  fun m ρ _ => Cert.Kernel2.Gen.frame m ρ, fun m ρ _ => Cert.Kernel2Ideal.Gen.frame m ρ, frame_reference_in,
  fun m ρ _ => Cert.Kernel3.Gen.frame m ρ, fun m ρ _ => Cert.Kernel3Ideal.Gen.frame m ρ, frame_reference_out,
  fun m ρ _ => Cert.Kernel4.Feed.kept m ρ, fun m ρ _ => Cert.Kernel4Ideal.Feed.kept m ρ, frame_reference_feed,
  fun m ρ _ => Cert.Kernel5.Back.kept m ρ, fun m ρ _ => Cert.Kernel5Ideal.Back.kept m ρ, fun m ρ _ => Cert.Kernel5Ideal.Back.kept m ρ,
  frame_reference_back, fun m ρ _ => frame_reference_back m ρ trivial,
  IdealRules.named_const.statement Cert.KernelIdeal.κ "mask" .f32 0xF149F2CA#32 ⊥ rfl, same_gradients,
  trivial, same_in, trivial, same_out, trivial, same_feed, trivial, same_back⟩

end Cert.Proof

end
